-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite [hPre_finite : Cert.Pre_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))) = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite [hPre_finite : Cert.Pre_finite.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7)
      ∧ r.2.mem ((c.tc : Thread Cert.PostKernel.nD Cert.PostKernel.τ).loc Cert.PostKernel.main_arg8) = m ((c.tc : Thread Cert.PostKernel.nD Cert.PostKernel.τ).loc Cert.PostKernel.main_arg8)
      ∧ r.2.mem ((c.tc : Thread Cert.PostKernel.nD Cert.PostKernel.τ).loc Cert.PostKernel.main_arg9) = m ((c.tc : Thread Cert.PostKernel.nD Cert.PostKernel.τ).loc Cert.PostKernel.main_arg9))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8)
      ∧ r.2.mem ((c.tc : Thread Cert.PostKernelIdeal.nD Cert.PostKernelIdeal.τ).loc Cert.PostKernelIdeal.main_arg9) = m ((c.tc : Thread Cert.PostKernelIdeal.nD Cert.PostKernelIdeal.τ).loc Cert.PostKernelIdeal.main_arg9))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_finite [hInKernelIdeal : Cert.InKernelIdeal.Facts] [hPre_finite : Cert.Pre_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_finite [hInReferenceIdeal : Cert.InReferenceIdeal.Facts] [hPre_finite : Cert.Pre_finite.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)
      ∧ m' ((c.tc : Thread Cert.PostReferenceIdeal.nD Cert.PostReferenceIdeal.τ).loc Cert.PostReferenceIdeal.main_arg7) = m ((c.tc : Thread Cert.PostKernelIdeal.nD Cert.PostKernelIdeal.τ).loc Cert.PostKernelIdeal.main_arg7)
      ∧ m' ((c.tc : Thread Cert.PostReferenceIdeal.nD Cert.PostReferenceIdeal.τ).loc Cert.PostReferenceIdeal.main_arg8) = m ((c.tc : Thread Cert.PostKernelIdeal.nD Cert.PostKernelIdeal.τ).loc Cert.PostKernelIdeal.main_arg8)
      ∧ m' ((c.tc : Thread Cert.PostReferenceIdeal.nD Cert.PostReferenceIdeal.τ).loc Cert.PostReferenceIdeal.main_arg9) = m ((c.tc : Thread Cert.PostKernelIdeal.nD Cert.PostKernelIdeal.τ).loc Cert.PostKernelIdeal.main_arg9)) →
    ∃ (v0 : (c : Dev Cert.PostKernelIdeal.nD) → Buf (Elt Ideal) ((c.tc : Thread Cert.PostKernelIdeal.nD Cert.PostKernelIdeal.τ).loc Cert.PostKernelIdeal.main_v12)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v12) = v0 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
          ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
          ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8)
          ∧ r.2.mem ((c.tc : Thread Cert.PostKernelIdeal.nD Cert.PostKernelIdeal.τ).loc Cert.PostKernelIdeal.main_arg9) = m ((c.tc : Thread Cert.PostKernelIdeal.nD Cert.PostKernelIdeal.τ).loc Cert.PostKernelIdeal.main_arg9))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v61) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9))

def preserves_InKernel_InKernelIdeal : Prop :=
  True

def algebraic_InKernelIdeal_InReferenceIdeal_pre_finite [hInKernelIdeal : Cert.InKernelIdeal.Facts] [hInReferenceIdeal : Cert.InReferenceIdeal.Facts] [hPre_finite : Cert.Pre_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v60_0)) (v1 : (c : Dev Cert.InKernelIdeal.nD) → Buf (Elt Ideal) ((c.tc : Thread Cert.InKernelIdeal.nD Cert.InKernelIdeal.τ).loc Cert.InKernelIdeal.main_v60_1)) (v2 : (c : Dev Cert.InKernelIdeal.nD) → Buf (Elt Ideal) ((c.tc : Thread Cert.InKernelIdeal.nD Cert.InKernelIdeal.τ).loc Cert.InKernelIdeal.main_v60_2)) (v3 : (c : Dev Cert.InKernelIdeal.nD) → Buf (Elt Ideal) ((c.tc : Thread Cert.InKernelIdeal.nD Cert.InKernelIdeal.τ).loc Cert.InKernelIdeal.main_v60_3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v60_0) = v0 c
          ∧ r.2.mem ((c.tc : Thread Cert.InKernelIdeal.nD Cert.InKernelIdeal.τ).loc Cert.InKernelIdeal.main_v60_1) = v1 c
          ∧ r.2.mem ((c.tc : Thread Cert.InKernelIdeal.nD Cert.InKernelIdeal.τ).loc Cert.InKernelIdeal.main_v60_2) = v2 c
          ∧ r.2.mem ((c.tc : Thread Cert.InKernelIdeal.nD Cert.InKernelIdeal.τ).loc Cert.InKernelIdeal.main_v60_3) = v3 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v50) = v0 c
          ∧ r.2.mem ((c.tc : Thread Cert.InReferenceIdeal.nD Cert.InReferenceIdeal.τ).loc Cert.InReferenceIdeal.main_v58) = v1 c
          ∧ r.2.mem ((c.tc : Thread Cert.InReferenceIdeal.nD Cert.InReferenceIdeal.τ).loc Cert.InReferenceIdeal.main_v64) = v2 c
          ∧ r.2.mem ((c.tc : Thread Cert.InReferenceIdeal.nD Cert.InReferenceIdeal.τ).loc Cert.InReferenceIdeal.main_v65) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def Claim : Prop :=
  ∃ (hKernel : Cert.Kernel.Facts) (hKernelIdeal : Cert.KernelIdeal.Facts) (hReferenceIdeal : Cert.ReferenceIdeal.Facts) (hPostKernel : Cert.PostKernel.Facts) (hPostKernelIdeal : Cert.PostKernelIdeal.Facts) (hPostReferenceIdeal : Cert.PostReferenceIdeal.Facts) (hInKernel : Cert.InKernel.Facts) (hInKernelIdeal : Cert.InKernelIdeal.Facts) (hInReferenceIdeal : Cert.InReferenceIdeal.Facts) (hPre_finite_and_ones : Cert.Pre_finite_and_ones.Facts) (hPre_finite : Cert.Pre_finite.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_InKernel (hInKernel := hInKernel)
    ∧ quiescent_InKernelIdeal (hInKernelIdeal := hInKernelIdeal)
    ∧ quiescent_InKernelIdeal_pre_finite (hInKernelIdeal := hInKernelIdeal) (hPre_finite := hPre_finite)
    ∧ quiescent_InReferenceIdeal (hInReferenceIdeal := hInReferenceIdeal)
    ∧ quiescent_InReferenceIdeal_pre_finite (hInReferenceIdeal := hInReferenceIdeal) (hPre_finite := hPre_finite)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_PostKernel_PostKernelIdeal
    ∧ algebraic_PostKernelIdeal_PostReferenceIdeal (hPostKernelIdeal := hPostKernelIdeal) (hPostReferenceIdeal := hPostReferenceIdeal)
    ∧ preserves_InKernel_InKernelIdeal
    ∧ algebraic_InKernelIdeal_InReferenceIdeal_pre_finite (hInKernelIdeal := hInKernelIdeal) (hInReferenceIdeal := hInReferenceIdeal) (hPre_finite := hPre_finite)
-- ==== Pre_finite.lean ====
abbrev S2x8192x1024 : Shape := ⟨3, ![2, 8192, 1024]⟩
abbrev S1024x2056 : Shape := ⟨2, ![1024, 2056]⟩
abbrev S8 : Shape := ⟨1, ![8]⟩
abbrev S4x128x128 : Shape := ⟨3, ![4, 128, 128]⟩
abbrev S512 : Shape := ⟨1, ![512]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1024x2056 : S_.BroadcastsInDim S1024x2056 (![] : Fin 0 → Fin S1024x2056.rank)
  reducesTo_S1024x2056_S_d0_1 : S1024x2056.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2x8192x1024 .f32) (main_arg1 : FVec F S1024x2056 .f32) (main_arg2 : FVec F S8 .f32) (main_arg3 : FVec F S4x128x128 .f32) (main_arg4 : FVec F S512 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1024x2056 .f32 := Host.absf main_arg1
  let main_cst_0 : FVec F S_ .f32 := constant S_ .f32 0x7F800000#32
  let main_v5 : FVec F S1024x2056 .f32 := broadcastInDim S1024x2056 ![] bcast_S_S1024x2056 main_cst_0
  let main_v6 : IVec S1024x2056 1 := cmpf .olt main_v4 main_v5
  let main_c_1 : IVec S_ 1 := constantI S_ 1 1#1
  let main_v7 : IVec S_ 1 := (fun x v => Host.reduce IntOp.andi x v reducesTo_S1024x2056_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_finite_and_ones.lean ====
abbrev S2x8192x1024 : Shape := ⟨3, ![2, 8192, 1024]⟩
abbrev S2x8x16x80x512 : Shape := ⟨5, ![2, 8, 16, 80, 512]⟩
abbrev S_ : Shape := ⟨0, ![]⟩
abbrev S2x8x16x1x512 : Shape := ⟨5, ![2, 8, 16, 1, 512]⟩
abbrev S2x8x16x512 : Shape := ⟨4, ![2, 8, 16, 512]⟩

class Facts : Prop where
  bitsLt_bf16_f32 : FTy.bits .bf16 < FTy.bits .f32
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  slices_S2x8x16x80x512_S2x8x16x1x512_0_0_0_64_0 : S2x8x16x80x512.Slices ![0, 0, 0, 64, 0] S2x8x16x1x512
  shapeCasts_S2x8x16x1x512_S2x8x16x512 : S2x8x16x1x512.ShapeCasts S2x8x16x512
  bcast_S_S2x8x16x512 : S_.BroadcastsInDim S2x8x16x512 (![] : Fin 0 → Fin S2x8x16x512.rank)
  reducesTo_S2x8x16x512_S_d0_1_2_3 : S2x8x16x512.ReducesTo [0, 1, 2, 3] S_

variable [Facts]

def fn {F : FTy → Type} [FloatOps F] (main_arg0 : FVec F S2x8192x1024 .bf16) (main_arg1 : FVec F S2x8192x1024 .bf16) (main_arg2 : FVec F S2x8x16x80x512 .bf16) : IVec S_ 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_c : IVec S_ 1 := constantI S_ 1 1#1
  let main_v4 : IVec S_ 1 := (fun x v => Host.reduce IntOp.andi x v reducesTo_S2x8192x1024_S_d0_1_2 h_S_) main_v3 main_c
  let main_v5 : FVec F S2x8192x1024 .f32 := (extf .f32 · bitsLt_bf16_f32) main_arg1
  let main_v6 : FVec F S2x8192x1024 .f32 := Host.absf main_v5
  let main_cst_0 : FVec F S_ .f32 := constant S_ .f32 0x7F800000#32
  let main_v7 : FVec F S2x8192x1024 .f32 := broadcastInDim S2x8192x1024 ![] bcast_S_S2x8192x1024 main_cst_0
  let main_v8 : IVec S2x8192x1024 1 := cmpf .olt main_v6 main_v7
  let main_c_1 : IVec S_ 1 := constantI S_ 1 1#1
  let main_v9 : IVec S_ 1 := (fun x v => Host.reduce IntOp.andi x v reducesTo_S2x8192x1024_S_d0_1_2 h_S_) main_v8 main_c_1
  let main_v10 : IVec S_ 1 := andi main_v4 main_v9
  let main_v11 : FVec F S2x8x16x1x512 .bf16 := (extractStridedSlice S2x8x16x1x512 ![0, 0, 0, 64, 0] · slices_S2x8x16x80x512_S2x8x16x1x512_0_0_0_64_0) main_arg2
  let main_v12 : FVec F S2x8x16x512 .bf16 := shapeCast S2x8x16x512 main_v11 shapeCasts_S2x8x16x1x512_S2x8x16x512
  let main_v13 : FVec F S2x8x16x512 .f32 := (extf .f32 · bitsLt_bf16_f32) main_v12
  let main_cst_2 : FVec F S_ .f32 := constant S_ .f32 0x3F800000#32
  let main_v14 : FVec F S2x8x16x512 .f32 := broadcastInDim S2x8x16x512 ![] bcast_S_S2x8x16x512 main_cst_2
  let main_v15 : IVec S2x8x16x512 1 := cmpf .oeq main_v13 main_v14
  let main_c_3 : IVec S_ 1 := constantI S_ 1 1#1
  let main_v16 : IVec S_ 1 := (fun x v => Host.reduce IntOp.andi x v reducesTo_S2x8x16x512_S_d0_1_2_3 h_S_) main_v15 main_c_3
  let main_v17 : IVec S_ 1 := andi main_v10 main_v16
  main_v17
-- ==== Kernel.lean ====
abbrev S2x8192x1024 : Shape := ⟨3, ![2, 8192, 1024]⟩
abbrev S2x8x16x80x512 : Shape := ⟨5, ![2, 8, 16, 80, 512]⟩
abbrev S2x8192x512 : Shape := ⟨3, ![2, 8192, 512]⟩
abbrev S1x512x256 : Shape := ⟨3, ![1, 512, 256]⟩
abbrev S1x8192x256 : Shape := ⟨3, ![1, 8192, 256]⟩
abbrev S1x2x16x80x512 : Shape := ⟨5, ![1, 2, 16, 80, 512]⟩
abbrev S1x512x128 : Shape := ⟨3, ![1, 512, 128]⟩
abbrev S2x1x512 : Shape := ⟨3, ![2, 1, 512]⟩
abbrev S2x80x512 : Shape := ⟨3, ![2, 80, 512]⟩
abbrev S512x256 : Shape := ⟨2, ![512, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S80x256 : Shape := ⟨2, ![80, 256]⟩
abbrev S1x1x1x80x512 : Shape := ⟨5, ![1, 1, 1, 80, 512]⟩
abbrev S80x512 : Shape := ⟨2, ![80, 512]⟩
abbrev S1x80x512 : Shape := ⟨3, ![1, 80, 512]⟩
abbrev S64x512 : Shape := ⟨2, ![64, 512]⟩
abbrev S1x512 : Shape := ⟨2, ![1, 512]⟩
abbrev S128x512 : Shape := ⟨2, ![128, 512]⟩
abbrev S512x128 : Shape := ⟨2, ![512, 128]⟩

abbrev nBuf : Space → Nat
  | .hbm => 4
  | .vmem => 10
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8x16x80x512, .bf16⟩
  | .hbm, ⟨3, _⟩ => ⟨S2x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x2x16x80x512, .bf16⟩
  | .local _ .vmem, ⟨5, _⟩ => ⟨S1x2x16x80x512, .bf16⟩
  | .local _ .vmem, ⟨6, _⟩ => ⟨S1x512x128, .bf16⟩
  | .local _ .vmem, ⟨7, _⟩ => ⟨S1x512x128, .bf16⟩
  | .local _ .vmem, ⟨8, _⟩ => ⟨S2x1x512, .f32⟩
  | .local _ .vmem, ⟨9, _⟩ => ⟨S2x80x512, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_14 : BitVec 32 := 0#32
  let arg2 : BitVec 32 := BitVec.ofNat 32 (i 2).val
  let v37 : BitVec 32 := Scalar.subi arg2 c0_i32_14
  let c1_i32 : BitVec 32 := 1#32
  let v39 : BitVec 32 := Scalar.divsi v37 c1_i32
  let v40 : BitVec 32 := Scalar.muli v39 c1_i32
  let v41 : BitVec 32 := Scalar.addi c0_i32_14 v40
  let c1_i32_15 : BitVec 32 := 1#32
  ⟨c0_i32_14, v41, c1_i32_15⟩
def k0_mult1 (i : grid0.Coords) (k0_t1 : Fin (k0_t1_loop i).trips) : BitVec 32 :=
  let c0_i32_14 : BitVec 32 := 0#32
  let c1_i32_15 : BitVec 32 := 1#32
  let arg9 : BitVec 32 := Scf.iv c0_i32_14 c1_i32_15 k0_t1
  let c512_i32_109 : BitVec 32 := 512#32
  let v205 : BitVec 32 := Scalar.muli arg9 c512_i32_109
  v205
def k0_off1 (i : grid0.Coords) (k0_t1 : Fin (k0_t1_loop i).trips) : Fin 3 → Nat :=
  let c0_110 : Index := 0#32
  let c0_i32_14 : BitVec 32 := 0#32
  let c1_i32_15 : BitVec 32 := 1#32
  let arg9 : BitVec 32 := Scf.iv c0_i32_14 c1_i32_15 k0_t1
  let c512_i32_109 : BitVec 32 := 512#32
  let v205 : BitVec 32 := Scalar.muli arg9 c512_i32_109
  let v206 : BitVec 32 := v205
  let v207 : Index := Scalar.indexCast v206
  let c0_111 : Index := 0#32
  ![0, v207.toNat, 0]
def k0_off2 (i : grid0.Coords) (k0_t1 : Fin (k0_t1_loop i).trips) : Fin 5 → Nat :=
  let c0_121 : Index := 0#32
  let c0_122 : Index := 0#32
  let c0_i32_14 : BitVec 32 := 0#32
  let c1_i32_15 : BitVec 32 := 1#32
  let arg9 : BitVec 32 := Scf.iv c0_i32_14 c1_i32_15 k0_t1
  let v229 : Index := Scalar.indexCast arg9
  let c0_123 : Index := 0#32
  let c0_124 : Index := 0#32
  ![0, 0, v229.toNat, 0, 0]
def k0_off3 (i : grid0.Coords) (k0_t1 : Fin (k0_t1_loop i).trips) : Fin 5 → Nat :=
  let c0_159 : Index := 0#32
  let c1_160 : Index := 1#32
  let c0_i32_14 : BitVec 32 := 0#32
  let c1_i32_15 : BitVec 32 := 1#32
  let arg9 : BitVec 32 := Scf.iv c0_i32_14 c1_i32_15 k0_t1
  let v285 : Index := Scalar.indexCast arg9
  let c0_161 : Index := 0#32
  let c0_162 : Index := 0#32
  ![0, 1, v285.toNat, 0, 0]
@[reducible] def k0_t2_loop (i : grid0.Coords) : Scf.Loop 32 :=
  let c0_i32_14 : BitVec 32 := 0#32
  let arg2 : BitVec 32 := BitVec.ofNat 32 (i 2).val
  let v37 : BitVec 32 := Scalar.subi arg2 c0_i32_14
  let c1_i32 : BitVec 32 := 1#32
  let v39 : BitVec 32 := Scalar.divsi v37 c1_i32
  let v40 : BitVec 32 := Scalar.muli v39 c1_i32
  let v41 : BitVec 32 := Scalar.addi c0_i32_14 v40
  let v38 : BitVec 32 := Scalar.addi c0_i32_14 v37
  let c1_i32_16 : BitVec 32 := 1#32
  ⟨v41, v38, c1_i32_16⟩
def k0_mult2 (i : grid0.Coords) (k0_t2 : Fin (k0_t2_loop i).trips) : BitVec 32 :=
  let c0_i32_14 : BitVec 32 := 0#32
  let arg2 : BitVec 32 := BitVec.ofNat 32 (i 2).val
  let v37 : BitVec 32 := Scalar.subi arg2 c0_i32_14
  let c1_i32 : BitVec 32 := 1#32
  let v39 : BitVec 32 := Scalar.divsi v37 c1_i32
  let v40 : BitVec 32 := Scalar.muli v39 c1_i32
  let v41 : BitVec 32 := Scalar.addi c0_i32_14 v40
  let c1_i32_16 : BitVec 32 := 1#32
  let arg9 : BitVec 32 := Scf.iv v41 c1_i32_16 k0_t2
  let c512_i32_109 : BitVec 32 := 512#32
  let v205 : BitVec 32 := Scalar.muli arg9 c512_i32_109
  v205
def k0_off4 (i : grid0.Coords) (k0_t2 : Fin (k0_t2_loop i).trips) : Fin 3 → Nat :=
  let c0_110 : Index := 0#32
  let c0_i32_14 : BitVec 32 := 0#32
  let arg2 : BitVec 32 := BitVec.ofNat 32 (i 2).val
  let v37 : BitVec 32 := Scalar.subi arg2 c0_i32_14
  let c1_i32 : BitVec 32 := 1#32
  let v39 : BitVec 32 := Scalar.divsi v37 c1_i32
  let v40 : BitVec 32 := Scalar.muli v39 c1_i32
  let v41 : BitVec 32 := Scalar.addi c0_i32_14 v40
  let c1_i32_16 : BitVec 32 := 1#32
  let arg9 : BitVec 32 := Scf.iv v41 c1_i32_16 k0_t2
  let c512_i32_109 : BitVec 32 := 512#32
  let v205 : BitVec 32 := Scalar.muli arg9 c512_i32_109
  let v206 : BitVec 32 := v205
  let v207 : Index := Scalar.indexCast v206
  let c0_111 : Index := 0#32
  ![0, v207.toNat, 0]
def k0_off5 (i : grid0.Coords) (k0_t2 : Fin (k0_t2_loop i).trips) : Fin 5 → Nat :=
  let c0_121 : Index := 0#32
  let c0_122 : Index := 0#32
  let c0_i32_14 : BitVec 32 := 0#32
  let arg2 : BitVec 32 := BitVec.ofNat 32 (i 2).val
  let v37 : BitVec 32 := Scalar.subi arg2 c0_i32_14
  let c1_i32 : BitVec 32 := 1#32
  let v39 : BitVec 32 := Scalar.divsi v37 c1_i32
  let v40 : BitVec 32 := Scalar.muli v39 c1_i32
  let v41 : BitVec 32 := Scalar.addi c0_i32_14 v40
  let c1_i32_16 : BitVec 32 := 1#32
  let arg9 : BitVec 32 := Scf.iv v41 c1_i32_16 k0_t2
  let v229 : Index := Scalar.indexCast arg9
  let c0_123 : Index := 0#32
  let c0_124 : Index := 0#32
  ![0, 0, v229.toNat, 0, 0]
def k0_off6 (i : grid0.Coords) (k0_t2 : Fin (k0_t2_loop i).trips) : Fin 5 → Nat :=
  let c0_159 : Index := 0#32
  let c1_160 : Index := 1#32
  let c0_i32_14 : BitVec 32 := 0#32
  let arg2 : BitVec 32 := BitVec.ofNat 32 (i 2).val
  let v37 : BitVec 32 := Scalar.subi arg2 c0_i32_14
  let c1_i32 : BitVec 32 := 1#32
  let v39 : BitVec 32 := Scalar.divsi v37 c1_i32
  let v40 : BitVec 32 := Scalar.muli v39 c1_i32
  let v41 : BitVec 32 := Scalar.addi c0_i32_14 v40
  let c1_i32_16 : BitVec 32 := 1#32
  let arg9 : BitVec 32 := Scf.iv v41 c1_i32_16 k0_t2
  let v285 : Index := Scalar.indexCast arg9
  let c0_161 : Index := 0#32
  let c0_162 : Index := 0#32
  ![0, 1, v285.toNat, 0, 0]
def k0_mult3 (i : grid0.Coords) : BitVec 32 :=
  let arg2 : BitVec 32 := BitVec.ofNat 32 (i 2).val
  let c512_i32 : BitVec 32 := 512#32
  let v42 : BitVec 32 := Scalar.muli arg2 c512_i32
  v42
def k0_off7 (i : grid0.Coords) : Fin 3 → Nat :=
  let c0_17 : Index := 0#32
  let arg2 : BitVec 32 := BitVec.ofNat 32 (i 2).val
  let c512_i32 : BitVec 32 := 512#32
  let v42 : BitVec 32 := Scalar.muli arg2 c512_i32
  let v43 : BitVec 32 := v42
  let v44 : Index := Scalar.indexCast v43
  let c0_18 : Index := 0#32
  ![0, v44.toNat, 0]
def k0_off8 (i : grid0.Coords) : Fin 5 → Nat :=
  let c0_30 : Index := 0#32
  let c0_31 : Index := 0#32
  let arg2 : BitVec 32 := BitVec.ofNat 32 (i 2).val
  let v73 : Index := Scalar.indexCast arg2
  let c0_32 : Index := 0#32
  let c0_33 : Index := 0#32
  ![0, 0, v73.toNat, 0, 0]
def k0_off9 (i : grid0.Coords) : Fin 5 → Nat :=
  let c0_69 : Index := 0#32
  let c1_70 : Index := 1#32
  let arg2 : BitVec 32 := BitVec.ofNat 32 (i 2).val
  let v143 : Index := Scalar.indexCast arg2
  let c0_71 : Index := 0#32
  let c0_72 : Index := 0#32
  ![0, 1, v143.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x1024 : Shape := ⟨3, ![2, 8192, 1024]⟩
abbrev S2x8x16x80x512 : Shape := ⟨5, ![2, 8, 16, 80, 512]⟩
abbrev S2x8192x4x256 : Shape := ⟨4, ![2, 8192, 4, 256]⟩
abbrev S2x8192x4x128 : Shape := ⟨4, ![2, 8192, 4, 128]⟩
abbrev S2x8192x8x64 : Shape := ⟨4, ![2, 8192, 8, 64]⟩
abbrev S2x8192x4x12 : Shape := ⟨4, ![2, 8192, 4, 12]⟩
abbrev S2x8192x8x6 : Shape := ⟨4, ![2, 8192, 8, 6]⟩
abbrev S2x8x16x64x512 : Shape := ⟨5, ![2, 8, 16, 64, 512]⟩
abbrev S2x8x16x512x64 : Shape := ⟨5, ![2, 8, 16, 512, 64]⟩
abbrev S2x8x8192x64 : Shape := ⟨4, ![2, 8, 8192, 64]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8192x512 : Shape := ⟨3, ![2, 8192, 512]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8x16x80x512, .bf16⟩
  | .hbm, ⟨3, _⟩ => ⟨S2x8192x4x256, .bf16⟩
  | .hbm, ⟨4, _⟩ => ⟨S2x8192x4x128, .bf16⟩
  | .hbm, ⟨5, _⟩ => ⟨S2x8192x8x64, .bf16⟩
  | .hbm, ⟨6, _⟩ => ⟨S2x8192x4x256, .bf16⟩
  | .hbm, ⟨7, _⟩ => ⟨S2x8192x4x128, .bf16⟩
  | .hbm, ⟨8, _⟩ => ⟨S2x8192x8x64, .bf16⟩
  | .hbm, ⟨9, _⟩ => ⟨S2x8192x4x256, .bf16⟩
  | .hbm, ⟨10, _⟩ => ⟨S2x8192x4x12, .bf16⟩
  | .hbm, ⟨11, _⟩ => ⟨S2x8192x8x6, .bf16⟩
  | .hbm, ⟨12, _⟩ => ⟨S2x8192x4x256, .bf16⟩
  | .hbm, ⟨13, _⟩ => ⟨S2x8192x4x12, .bf16⟩
  | .hbm, ⟨14, _⟩ => ⟨S2x8192x8x6, .bf16⟩
  | .hbm, ⟨15, _⟩ => ⟨S2x8x16x64x512, .bf16⟩
  | .hbm, ⟨16, _⟩ => ⟨S2x8x16x512x64, .bf16⟩
  | .hbm, ⟨17, _⟩ => ⟨S2x8x8192x64, .bf16⟩
  | .hbm, ⟨18, _⟩ => ⟨S2x8x8192x8192, .f32⟩
  | .hbm, ⟨19, _⟩ => ⟨S2x8x8192x8192, .f32⟩
  | .hbm, ⟨20, _⟩ => ⟨S2x8x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S2x8x8192x8192, .i1⟩
  | .hbm, ⟨30, _⟩ => ⟨S2x8x8192x8192, .f32⟩
  | .hbm, ⟨31, _⟩ => ⟨S2x8x8192x8192, .f32⟩
  | .hbm, ⟨32, _⟩ => ⟨S_, .f32⟩
  | .hbm, ⟨33, _⟩ => ⟨S2x8x8192, .f32⟩
  | .hbm, ⟨34, _⟩ => ⟨S2x8x8192x1, .f32⟩
  | .hbm, ⟨35, _⟩ => ⟨S2x8x8192x8192, .f32⟩
  | .hbm, ⟨36, _⟩ => ⟨S2x8x8192x8192, .f32⟩
  | .hbm, ⟨37, _⟩ => ⟨S2x8x8192x8192, .f32⟩
  | .hbm, ⟨38, _⟩ => ⟨S_, .f32⟩
  | .hbm, ⟨39, _⟩ => ⟨S2x8x8192, .f32⟩
  | .hbm, ⟨40, _⟩ => ⟨S2x8x8192x1, .f32⟩
  | .hbm, ⟨41, _⟩ => ⟨S2x8x8192x8192, .f32⟩
  | .hbm, ⟨42, _⟩ => ⟨S2x8x8192x8192, .f32⟩
  | .hbm, ⟨43, _⟩ => ⟨S2x8x8192x8192, .bf16⟩
  | .hbm, ⟨44, _⟩ => ⟨S2x8x8192x64, .f32⟩
  | .hbm, ⟨45, _⟩ => ⟨S2x8192x8x64, .f32⟩
  | .hbm, ⟨46, _⟩ => ⟨S2x8192x512, .f32⟩
  | .hbm, ⟨47, _⟩ => ⟨S2x8192x512, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== PostKernel.lean ====
abbrev S2x8192x1024 : Shape := ⟨3, ![2, 8192, 1024]⟩
abbrev S2x8192x512 : Shape := ⟨3, ![2, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 23
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S16384x1024, .f32⟩
  | .hbm, ⟨12, _⟩ => ⟨S16384x512, .bf16⟩
  | .hbm, ⟨13, _⟩ => ⟨S16384x512, .bf16⟩
  | .hbm, ⟨14, _⟩ => ⟨S512x1024, .bf16⟩
  | .hbm, ⟨15, _⟩ => ⟨S512x1024, .bf16⟩
  | .hbm, ⟨16, _⟩ => ⟨S1x1024, .f32⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostReferenceIdeal.lean ====
abbrev S2x8192x1024 : Shape := ⟨3, ![2, 8192, 1024]⟩
abbrev S2x8192x512 : Shape := ⟨3, ![2, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S16384x1024 : Shape := ⟨2, ![16384, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S2x8192x1024, .bf16⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | .hbm, ⟨46, _⟩ => ⟨S2x8192x4096, .f32⟩
  | .hbm, ⟨47, _⟩ => ⟨S_, .f32⟩
  | .hbm, ⟨48, _⟩ => ⟨S2x8192x4096, .f32⟩
  | .hbm, ⟨49, _⟩ => ⟨S2x8192x4096, .f32⟩
  | .hbm, ⟨50, _⟩ => ⟨S2x8192x4096, .f32⟩
  | .hbm, ⟨51, _⟩ => ⟨S_, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S_, .f32⟩
  | .hbm, ⟨66, _⟩ => ⟨S2x8192, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S2x8192x1, .f32⟩
  | .hbm, ⟨77, _⟩ => ⟨S2x8192x1024, .f32⟩
  | .hbm, ⟨78, _⟩ => ⟨S2x8192x1024, .f32⟩
  | .hbm, ⟨79, _⟩ => ⟨S1x1x1024, .f32⟩
  | .hbm, ⟨80, _⟩ => ⟨S2x8192x1024, .f32⟩
  | .hbm, ⟨81, _⟩ => ⟨S2x8192x1024, .f32⟩
  | .hbm, ⟨82, _⟩ => ⟨S1x1x1024, .f32⟩
  | .hbm, ⟨83, _⟩ => ⟨S2x8192x1024, .f32⟩
  | .hbm, ⟨84, _⟩ => ⟨S2x8192x1024, .f32⟩
  | .hbm, ⟨85, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== InKernel.lean ====
abbrev S2x8192x1024 : Shape := ⟨3, ![2, 8192, 1024]⟩
abbrev S1024x2056 : Shape := ⟨2, ![1024, 2056]⟩
abbrev S8 : Shape := ⟨1, ![8]⟩
abbrev S4x128x128 : Shape := ⟨3, ![4, 128, 128]⟩
abbrev S512 : Shape := ⟨1, ![512]⟩
abbrev S128x4x2x6 : Shape := ⟨4, ![128, 4, 2, 6]⟩
abbrev S_ : Shape := ⟨0, ![]⟩
abbrev S128x4x12 : Shape := ⟨3, ![128, 4, 12]⟩
abbrev S128x4x128 : Shape := ⟨3, ![128, 4, 128]⟩
abbrev S128x512 : Shape := ⟨2, ![128, 512]⟩
abbrev S1024x512 : Shape := ⟨2, ![1024, 512]⟩
abbrev S512x1024 : Shape := ⟨2, ![512, 1024]⟩
abbrev S1024x8 : Shape := ⟨2, ![1024, 8]⟩
abbrev S1x1024x1x8 : Shape := ⟨4, ![1, 1024, 1, 8]⟩
abbrev S1x1024x3x8 : Shape := ⟨4, ![1, 1024, 3, 8]⟩
abbrev S1024x24 : Shape := ⟨2, ![1024, 24]⟩
abbrev S1024x128 : Shape := ⟨2, ![1024, 128]⟩
abbrev S1x8 : Shape := ⟨2, ![1, 8]⟩
abbrev S3x8 : Shape := ⟨2, ![3, 8]⟩
abbrev S24 : Shape := ⟨1, ![24]⟩
abbrev S128 : Shape := ⟨1, ![128]⟩
abbrev S1x128 : Shape := ⟨2, ![1, 128]⟩
abbrev S1x512 : Shape := ⟨2, ![1, 512]⟩
abbrev S2x8192x512 : Shape := ⟨3, ![2, 8192, 512]⟩
abbrev S2x8x16x80x512 : Shape := ⟨5, ![2, 8, 16, 80, 512]⟩
abbrev S1x512x1024 : Shape := ⟨3, ![1, 512, 1024]⟩
abbrev S1x512x512 : Shape := ⟨3, ![1, 512, 512]⟩
abbrev S1x8x1x80x512 : Shape := ⟨5, ![1, 8, 1, 80, 512]⟩
abbrev S544x512 : Shape := ⟨2, ![544, 512]⟩
abbrev S544x384 : Shape := ⟨2, ![544, 384]⟩
abbrev S544x256 : Shape := ⟨2, ![544, 256]⟩
abbrev S544x128 : Shape := ⟨2, ![544, 128]⟩
abbrev S8x128 : Shape := ⟨2, ![8, 128]⟩
abbrev S32x512 : Shape := ⟨2, ![32, 512]⟩
abbrev S512x128 : Shape := ⟨2, ![512, 128]⟩
abbrev S512x512 : Shape := ⟨2, ![512, 512]⟩
abbrev S1x512x128 : Shape := ⟨3, ![1, 512, 128]⟩
abbrev S16x512 : Shape := ⟨2, ![16, 512]⟩
abbrev S64x512 : Shape := ⟨2, ![64, 512]⟩
abbrev S1x1x1x64x512 : Shape := ⟨5, ![1, 1, 1, 64, 512]⟩
abbrev S1x1x1x16x512 : Shape := ⟨5, ![1, 1, 1, 16, 512]⟩
abbrev S536x512 : Shape := ⟨2, ![536, 512]⟩
abbrev S536x384 : Shape := ⟨2, ![536, 384]⟩
abbrev S528x384 : Shape := ⟨2, ![528, 384]⟩
abbrev S528x256 : Shape := ⟨2, ![528, 256]⟩
abbrev S520x256 : Shape := ⟨2, ![520, 256]⟩
abbrev S520x128 : Shape := ⟨2, ![520, 128]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 97
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S1024x2056, .f32⟩
  | .hbm, ⟨2, _⟩ => ⟨S8, .f32⟩
  | .hbm, ⟨3, _⟩ => ⟨S4x128x128, .f32⟩
  | .hbm, ⟨4, _⟩ => ⟨S512, .f32⟩
  | .hbm, ⟨5, _⟩ => ⟨S128x4x2x6, .i32⟩
  | .hbm, ⟨6, _⟩ => ⟨S128x4x2x6, .i32⟩
  | .hbm, ⟨7, _⟩ => ⟨S128x4x2x6, .i32⟩
  | .hbm, ⟨8, _⟩ => ⟨S128x4x2x6, .i32⟩
  | .hbm, ⟨9, _⟩ => ⟨S_, .i32⟩
  | .hbm, ⟨10, _⟩ => ⟨S128x4x2x6, .i32⟩
  | .hbm, ⟨11, _⟩ => ⟨S128x4x2x6, .i32⟩
  | .hbm, ⟨12, _⟩ => ⟨S128x4x2x6, .i32⟩
  | .hbm, ⟨13, _⟩ => ⟨S_, .i32⟩
  | .hbm, ⟨14, _⟩ => ⟨S128x4x2x6, .i32⟩
  | .hbm, ⟨15, _⟩ => ⟨S128x4x2x6, .i1⟩
  | .hbm, ⟨16, _⟩ => ⟨S_, .f32⟩
  | .hbm, ⟨17, _⟩ => ⟨S_, .f32⟩
  | .hbm, ⟨18, _⟩ => ⟨S128x4x2x6, .f32⟩
  | .hbm, ⟨19, _⟩ => ⟨S128x4x2x6, .f32⟩
  | .hbm, ⟨20, _⟩ => ⟨S128x4x2x6, .f32⟩
  | .hbm, ⟨21, _⟩ => ⟨S_, .i32⟩
  | .hbm, ⟨22, _⟩ => ⟨S128x4x2x6, .i32⟩
  | .hbm, ⟨23, _⟩ => ⟨S128x4x2x6, .i1⟩
  | .hbm, ⟨24, _⟩ => ⟨S_, .i32⟩
  | .hbm, ⟨25, _⟩ => ⟨S128x4x2x6, .i32⟩
  | .hbm, ⟨26, _⟩ => ⟨S128x4x2x6, .i32⟩
  | .hbm, ⟨27, _⟩ => ⟨S128x4x2x6, .i32⟩
  | .hbm, ⟨28, _⟩ => ⟨S128x4x2x6, .i1⟩
  | .hbm, ⟨29, _⟩ => ⟨S_, .f32⟩
  | .hbm, ⟨30, _⟩ => ⟨S_, .f32⟩
  | .hbm, ⟨31, _⟩ => ⟨S128x4x2x6, .f32⟩
  | .hbm, ⟨32, _⟩ => ⟨S128x4x2x6, .f32⟩
  | .hbm, ⟨33, _⟩ => ⟨S128x4x2x6, .f32⟩
  | .hbm, ⟨34, _⟩ => ⟨S128x4x2x6, .f32⟩
  | .hbm, ⟨35, _⟩ => ⟨S_, .i32⟩
  | .hbm, ⟨36, _⟩ => ⟨S128x4x2x6, .i32⟩
  | .hbm, ⟨37, _⟩ => ⟨S128x4x2x6, .i1⟩
  | .hbm, ⟨38, _⟩ => ⟨S_, .i32⟩
  | .hbm, ⟨39, _⟩ => ⟨S128x4x2x6, .i32⟩
  | .hbm, ⟨40, _⟩ => ⟨S128x4x2x6, .i32⟩
  | .hbm, ⟨41, _⟩ => ⟨S_, .i32⟩
  | .hbm, ⟨42, _⟩ => ⟨S128x4x2x6, .i32⟩
  | .hbm, ⟨43, _⟩ => ⟨S128x4x2x6, .i32⟩
  | .hbm, ⟨44, _⟩ => ⟨S128x4x2x6, .i32⟩
  | .hbm, ⟨45, _⟩ => ⟨S128x4x2x6, .i1⟩
  | .hbm, ⟨46, _⟩ => ⟨S_, .f32⟩
  | .hbm, ⟨47, _⟩ => ⟨S_, .f32⟩
  | .hbm, ⟨48, _⟩ => ⟨S128x4x2x6, .f32⟩
  | .hbm, ⟨49, _⟩ => ⟨S128x4x2x6, .f32⟩
  | .hbm, ⟨50, _⟩ => ⟨S128x4x2x6, .f32⟩
  | .hbm, ⟨51, _⟩ => ⟨S128x4x2x6, .f32⟩
  | .hbm, ⟨52, _⟩ => ⟨S128x4x2x6, .bf16⟩
  | .hbm, ⟨53, _⟩ => ⟨S128x4x12, .bf16⟩
  | .hbm, ⟨54, _⟩ => ⟨S_, .i32⟩
  | .hbm, ⟨55, _⟩ => ⟨S_, .bf16⟩
  | .hbm, ⟨56, _⟩ => ⟨S128x4x128, .bf16⟩
  | .hbm, ⟨57, _⟩ => ⟨S128x512, .bf16⟩
  | .hbm, ⟨58, _⟩ => ⟨S128x4x2x6, .bf16⟩
  | .hbm, ⟨59, _⟩ => ⟨S128x4x12, .bf16⟩
  | .hbm, ⟨60, _⟩ => ⟨S_, .i32⟩
  | .hbm, ⟨61, _⟩ => ⟨S_, .bf16⟩
  | .hbm, ⟨62, _⟩ => ⟨S128x4x128, .bf16⟩
  | .hbm, ⟨63, _⟩ => ⟨S128x512, .bf16⟩
  | .hbm, ⟨64, _⟩ => ⟨S1024x512, .f32⟩
  | .hbm, ⟨65, _⟩ => ⟨S1024x512, .bf16⟩
  | .hbm, ⟨66, _⟩ => ⟨S1024x512, .f32⟩
  | .hbm, ⟨67, _⟩ => ⟨S_, .f32⟩
  | .hbm, ⟨68, _⟩ => ⟨S1024x512, .f32⟩
  | .hbm, ⟨69, _⟩ => ⟨S1024x512, .f32⟩
  | .hbm, ⟨70, _⟩ => ⟨S1024x512, .bf16⟩
  | .hbm, ⟨71, _⟩ => ⟨S1024x512, .f32⟩
  | .hbm, ⟨72, _⟩ => ⟨S1024x512, .bf16⟩
  | .hbm, ⟨73, _⟩ => ⟨S1024x512, .f32⟩
  | .hbm, ⟨74, _⟩ => ⟨S512x1024, .f32⟩
  | .hbm, ⟨75, _⟩ => ⟨S512x1024, .bf16⟩
  | .hbm, ⟨76, _⟩ => ⟨S1024x8, .f32⟩
  | .hbm, ⟨77, _⟩ => ⟨S1x1024x1x8, .f32⟩
  | .hbm, ⟨78, _⟩ => ⟨S1x1024x3x8, .f32⟩
  | .hbm, ⟨79, _⟩ => ⟨S1024x24, .f32⟩
  | .hbm, ⟨80, _⟩ => ⟨S_, .i32⟩
  | .hbm, ⟨81, _⟩ => ⟨S_, .f32⟩
  | .hbm, ⟨82, _⟩ => ⟨S1024x128, .f32⟩
  | .hbm, ⟨83, _⟩ => ⟨S1024x128, .bf16⟩
  | .hbm, ⟨84, _⟩ => ⟨S1x8, .f32⟩
  | .hbm, ⟨85, _⟩ => ⟨S3x8, .f32⟩
  | .hbm, ⟨86, _⟩ => ⟨S24, .f32⟩
  | .hbm, ⟨87, _⟩ => ⟨S_, .i32⟩
  | .hbm, ⟨88, _⟩ => ⟨S_, .f32⟩
  | .hbm, ⟨89, _⟩ => ⟨S128, .f32⟩
  | .hbm, ⟨90, _⟩ => ⟨S1x128, .f32⟩
  | .hbm, ⟨91, _⟩ => ⟨S4x128x128, .bf16⟩
  | .hbm, ⟨92, _⟩ => ⟨S1x512, .f32⟩
  | .hbm, ⟨93, _⟩ => ⟨S2x8192x512, .bf16⟩
  | .hbm, ⟨94, _⟩ => ⟨S2x8192x1024, .bf16⟩
  | .hbm, ⟨95, _⟩ => ⟨S2x8192x1024, .bf16⟩
  | .hbm, ⟨96, _⟩ => ⟨S2x8x16x80x512, .bf16⟩
  | .local _ .vmem, ⟨0, _⟩ => ⟨S1x512x1024, .f32⟩
  | .local _ .vmem, ⟨1, _⟩ => ⟨S1x512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S1024x128, .bf16⟩
  | .local _ .vmem, ⟨7, _⟩ => ⟨S1x128, .f32⟩
  | .local _ .vmem, ⟨8, _⟩ => ⟨S4x128x128, .bf16⟩
  | .local _ .vmem, ⟨9, _⟩ => ⟨S1x512, .f32⟩
  | .local _ .vmem, ⟨10, _⟩ => ⟨S128x512, .bf16⟩
  | .local _ .vmem, ⟨11, _⟩ => ⟨S128x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x8x1x80x512, .bf16⟩
  | .local _ .vmem, ⟨19, _⟩ => ⟨S1x8x1x80x512, .bf16⟩
  | .local _ .vmem, ⟨20, _⟩ => ⟨S544x512, .f32⟩
  | .local _ .vmem, ⟨21, _⟩ => ⟨S544x384, .f32⟩
  | .local _ .vmem, ⟨22, _⟩ => ⟨S544x256, .f32⟩
  | .local _ .vmem, ⟨23, _⟩ => ⟨S544x128, .f32⟩
  | .local _ .vmem, ⟨24, _⟩ => ⟨S8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_c_7 : Ref sig .tc := ⟨.hbm, 38, rfl⟩
abbrev main_v20 : Ref sig .tc := ⟨.hbm, 39, rfl⟩
abbrev main_v21 : Ref sig .tc := ⟨.hbm, 40, rfl⟩
abbrev main_c_8 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_cst_10 : Ref sig .tc := ⟨.hbm, 47, rfl⟩
abbrev main_call3_v0 : Ref sig .tc := ⟨.hbm, 48, rfl⟩
abbrev main_call3_v1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_11 : Ref sig .tc := ⟨.hbm, 54, rfl⟩
abbrev main_call5_v0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_12 : Ref sig .tc := ⟨.hbm, 60, rfl⟩
abbrev main_call6_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_13 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_14 : Ref sig .tc := ⟨.hbm, 80, rfl⟩
abbrev main_call7_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_15 : Ref sig .tc := ⟨.hbm, 87, rfl⟩
abbrev main_call8_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60_0 : Ref sig .tc := ⟨.hbm, 93, rfl⟩
abbrev main_v60_1 : Ref sig .tc := ⟨.hbm, 94, rfl⟩
abbrev main_v60_2 : Ref sig .tc := ⟨.hbm, 95, rfl⟩
abbrev main_v60_3 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x1x80x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InReferenceIdeal.lean ====
abbrev S2x8192x1024 : Shape := ⟨3, ![2, 8192, 1024]⟩
abbrev S1024x2056 : Shape := ⟨2, ![1024, 2056]⟩
abbrev S8 : Shape := ⟨1, ![8]⟩
abbrev S4x128x128 : Shape := ⟨3, ![4, 128, 128]⟩
abbrev S512 : Shape := ⟨1, ![512]⟩
abbrev S4 : Shape := ⟨1, ![4]⟩
abbrev S2x8192x2056 : Shape := ⟨3, ![2, 8192, 2056]⟩
abbrev S2x8192x512 : Shape := ⟨3, ![2, 8192, 512]⟩
abbrev S_ : Shape := ⟨0, ![]⟩
abbrev S8192 : Shape := ⟨1, ![8192]⟩
abbrev S2x8208x512 : Shape := ⟨3, ![2, 8208, 512]⟩
abbrev S2x8192x128 : Shape := ⟨3, ![2, 8192, 128]⟩
abbrev S8192x1 : Shape := ⟨2, ![8192, 1]⟩
abbrev S1x4 : Shape := ⟨2, ![1, 4]⟩
abbrev S8192x4 : Shape := ⟨2, ![8192, 4]⟩
abbrev S1x8192x4x1 : Shape := ⟨4, ![1, 8192, 4, 1]⟩
abbrev S2x8192x4x128 : Shape := ⟨4, ![2, 8192, 4, 128]⟩
abbrev S4x128x2x8192 : Shape := ⟨4, ![4, 128, 2, 8192]⟩
abbrev S1x1x512 : Shape := ⟨3, ![1, 1, 512]⟩
abbrev S2x8192x8 : Shape := ⟨3, ![2, 8192, 8]⟩
abbrev S1x1x8 : Shape := ⟨3, ![1, 1, 8]⟩
abbrev S2x8192x8x1 : Shape := ⟨4, ![2, 8192, 8, 1]⟩
abbrev S2x8192x8x2 : Shape := ⟨4, ![2, 8192, 8, 2]⟩
abbrev S2x8192x8x3 : Shape := ⟨4, ![2, 8192, 8, 3]⟩
abbrev S2x8192x8x6 : Shape := ⟨4, ![2, 8192, 8, 6]⟩
abbrev S2x16x512x8x64 : Shape := ⟨5, ![2, 16, 512, 8, 64]⟩
abbrev S2x8x16x64x512 : Shape := ⟨5, ![2, 8, 16, 64, 512]⟩
abbrev S2x8x16x1x512 : Shape := ⟨5, ![2, 8, 16, 1, 512]⟩
abbrev S2x8x16x15x512 : Shape := ⟨5, ![2, 8, 16, 15, 512]⟩
abbrev S2x8x16x80x512 : Shape := ⟨5, ![2, 8, 16, 80, 512]⟩
abbrev S2x8192x4x12 : Shape := ⟨4, ![2, 8192, 4, 12]⟩
abbrev S2x8192x4x116 : Shape := ⟨4, ![2, 8192, 4, 116]⟩
abbrev S2x8192x4x256 : Shape := ⟨4, ![2, 8192, 4, 256]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2056, .f32⟩
  | .hbm, ⟨2, _⟩ => ⟨S8, .f32⟩
  | .hbm, ⟨3, _⟩ => ⟨S4x128x128, .f32⟩
  | .hbm, ⟨4, _⟩ => ⟨S512, .f32⟩
  | .hbm, ⟨5, _⟩ => ⟨S4, .f32⟩
  | .hbm, ⟨6, _⟩ => ⟨S2x8192x2056, .f32⟩
  | .hbm, ⟨7, _⟩ => ⟨S2x8192x512, .f32⟩
  | .hbm, ⟨8, _⟩ => ⟨S2x8192x512, .f32⟩
  | .hbm, ⟨9, _⟩ => ⟨S2x8192x512, .f32⟩
  | .hbm, ⟨10, _⟩ => ⟨S2x8192x512, .f32⟩
  | .hbm, ⟨11, _⟩ => ⟨S_, .f32⟩
  | .hbm, ⟨12, _⟩ => ⟨S_, .f32⟩
  | .hbm, ⟨13, _⟩ => ⟨S2x8192x512, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .i32⟩
  | .hbm, ⟨19, _⟩ => ⟨S_, .f32⟩
  | .hbm, ⟨20, _⟩ => ⟨S2x8208x512, .f32⟩
  | .hbm, ⟨21, _⟩ => ⟨S2x8192x128, .f32⟩
  | .hbm, ⟨22, _⟩ => ⟨S2x8192x128, .f32⟩
  | .hbm, ⟨23, _⟩ => ⟨S2x8192x128, .f32⟩
  | .hbm, ⟨24, _⟩ => ⟨S2x8192x128, .f32⟩
  | .hbm, ⟨25, _⟩ => ⟨S2x8192x512, .f32⟩
  | .hbm, ⟨26, _⟩ => ⟨S8192x1, .f32⟩
  | .hbm, ⟨27, _⟩ => ⟨S1x4, .f32⟩
  | .hbm, ⟨28, _⟩ => ⟨S8192x4, .f32⟩
  | .hbm, ⟨29, _⟩ => ⟨S8192x4, .f32⟩
  | .hbm, ⟨30, _⟩ => ⟨S8192x4, .f32⟩
  | .hbm, ⟨31, _⟩ => ⟨S1x8192x4x1, .f32⟩
  | .hbm, ⟨32, _⟩ => ⟨S2x8192x512, .f32⟩
  | .hbm, ⟨33, _⟩ => ⟨S2x8192x4x128, .f32⟩
  | .hbm, ⟨34, _⟩ => ⟨S2x8192x4x128, .f32⟩
  | .hbm, ⟨35, _⟩ => ⟨S2x8192x4x128, .f32⟩
  | .hbm, ⟨36, _⟩ => ⟨S2x8192x4x128, .f32⟩
  | .hbm, ⟨37, _⟩ => ⟨S2x8192x4x128, .f32⟩
  | .hbm, ⟨38, _⟩ => ⟨S4x128x2x8192, .f32⟩
  | .hbm, ⟨39, _⟩ => ⟨S2x8192x4x128, .f32⟩
  | .hbm, ⟨40, _⟩ => ⟨S2x8192x512, .f32⟩
  | .hbm, ⟨41, _⟩ => ⟨S1x1x512, .f32⟩
  | .hbm, ⟨42, _⟩ => ⟨S2x8192x512, .f32⟩
  | .hbm, ⟨43, _⟩ => ⟨S2x8192x512, .f32⟩
  | .hbm, ⟨44, _⟩ => ⟨S2x8192x8, .f32⟩
  | .hbm, ⟨45, _⟩ => ⟨S1x1x8, .f32⟩
  | .hbm, ⟨46, _⟩ => ⟨S2x8192x8, .f32⟩
  | .hbm, ⟨47, _⟩ => ⟨S2x8192x8, .f32⟩
  | .hbm, ⟨48, _⟩ => ⟨S2x8192x8, .f32⟩
  | .hbm, ⟨49, _⟩ => ⟨S_, .f32⟩
  | .hbm, ⟨50, _⟩ => ⟨S2x8192x8, .f32⟩
  | .hbm, ⟨51, _⟩ => ⟨S2x8192x8, .f32⟩
  | .hbm, ⟨52, _⟩ => ⟨S2x8192x8, .f32⟩
  | .hbm, ⟨53, _⟩ => ⟨S2x8192x8, .f32⟩
  | .hbm, ⟨54, _⟩ => ⟨S2x8192x8, .i1⟩
  | .hbm, ⟨55, _⟩ => ⟨S2x8192x8, .f32⟩
  | .hbm, ⟨56, _⟩ => ⟨S2x8192x8, .f32⟩
  | .hbm, ⟨57, _⟩ => ⟨S2x8192x8, .f32⟩
  | .hbm, ⟨58, _⟩ => ⟨S2x8192x8, .f32⟩
  | .hbm, ⟨59, _⟩ => ⟨S2x8192x8, .f32⟩
  | .hbm, ⟨60, _⟩ => ⟨S2x8192x8, .f32⟩
  | .hbm, ⟨61, _⟩ => ⟨S2x8192x8, .f32⟩
  | .hbm, ⟨62, _⟩ => ⟨S2x8192x8, .f32⟩
  | .hbm, ⟨63, _⟩ => ⟨S2x8192x8, .f32⟩
  | .hbm, ⟨64, _⟩ => ⟨S_, .f32⟩
  | .hbm, ⟨65, _⟩ => ⟨S_, .f32⟩
  | .hbm, ⟨66, _⟩ => ⟨S2x8192x8, .f32⟩
  | .hbm, ⟨67, _⟩ => ⟨S2x8192x8x1, .f32⟩
  | .hbm, ⟨68, _⟩ => ⟨S_, .f32⟩
  | .hbm, ⟨69, _⟩ => ⟨S2x8192x8x2, .f32⟩
  | .hbm, ⟨70, _⟩ => ⟨S_, .f32⟩
  | .hbm, ⟨71, _⟩ => ⟨S2x8192x8x3, .f32⟩
  | .hbm, ⟨72, _⟩ => ⟨S2x8192x8x6, .f32⟩
  | .hbm, ⟨73, _⟩ => ⟨S2x8192x8x1, .f32⟩
  | .hbm, ⟨74, _⟩ => ⟨S2x8192x8x6, .f32⟩
  | .hbm, ⟨75, _⟩ => ⟨S2x16x512x8x64, .f32⟩
  | .hbm, ⟨76, _⟩ => ⟨S2x8x16x64x512, .f32⟩
  | .hbm, ⟨77, _⟩ => ⟨S_, .f32⟩
  | .hbm, ⟨78, _⟩ => ⟨S2x8x16x1x512, .f32⟩
  | .hbm, ⟨79, _⟩ => ⟨S_, .f32⟩
  | .hbm, ⟨80, _⟩ => ⟨S2x8x16x15x512, .f32⟩
  | .hbm, ⟨81, _⟩ => ⟨S2x8x16x80x512, .f32⟩
  | .hbm, ⟨82, _⟩ => ⟨S2x8192x512, .bf16⟩
  | .hbm, ⟨83, _⟩ => ⟨S_, .f32⟩
  | .hbm, ⟨84, _⟩ => ⟨S2x8192x512, .f32⟩
  | .hbm, ⟨85, _⟩ => ⟨S2x8192x512, .f32⟩
  | .hbm, ⟨86, _⟩ => ⟨S2x8192x4x128, .f32⟩
  | .hbm, ⟨87, _⟩ => ⟨S2x8192x4x12, .f32⟩
  | .hbm, ⟨88, _⟩ => ⟨S_, .f32⟩
  | .hbm, ⟨89, _⟩ => ⟨S2x8192x4x116, .f32⟩
  | .hbm, ⟨90, _⟩ => ⟨S2x8192x4x256, .f32⟩
  | .hbm, ⟨91, _⟩ => ⟨S2x8192x1024, .f32⟩
  | .hbm, ⟨92, _⟩ => ⟨S2x8192x1024, .bf16⟩
  | .hbm, ⟨93, _⟩ => ⟨S2x8192x4x128, .f32⟩
  | .hbm, ⟨94, _⟩ => ⟨S2x8192x4x12, .f32⟩
  | .hbm, ⟨95, _⟩ => ⟨S_, .f32⟩
  | .hbm, ⟨96, _⟩ => ⟨S2x8192x4x116, .f32⟩
  | .hbm, ⟨97, _⟩ => ⟨S2x8192x4x256, .f32⟩
  | .hbm, ⟨98, _⟩ => ⟨S2x8192x1024, .f32⟩
  | .hbm, ⟨99, _⟩ => ⟨S2x8192x1024, .bf16⟩
  | .hbm, ⟨100, _⟩ => ⟨S2x8x16x80x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_call0_cst : Ref sig .tc := ⟨.hbm, 11, rfl⟩
abbrev main_call0_call0_v0 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call2_v0 : Ref sig .tc := ⟨.hbm, 48, rfl⟩
abbrev main_call2_call0_cst : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_call0_v2 : Ref sig .tc := ⟨.hbm, 52, rfl⟩
abbrev main_call2_call0_v3 : Ref sig .tc := ⟨.hbm, 53, rfl⟩
abbrev main_call2_call0_v4 : Ref sig .tc := ⟨.hbm, 54, rfl⟩
abbrev main_call2_call0_v5 : Ref sig .tc := ⟨.hbm, 55, rfl⟩
abbrev main_call2_call0_v6 : Ref sig .tc := ⟨.hbm, 56, rfl⟩
abbrev main_call2_call0_v7 : Ref sig .tc := ⟨.hbm, 57, rfl⟩
abbrev main_call2_call0_v8 : Ref sig .tc := ⟨.hbm, 58, rfl⟩
abbrev main_call2_call0_v9 : Ref sig .tc := ⟨.hbm, 59, rfl⟩
abbrev main_call2_call0_v10 : Ref sig .tc := ⟨.hbm, 60, rfl⟩
abbrev main_call2_call0_v11 : Ref sig .tc := ⟨.hbm, 61, rfl⟩
abbrev main_call2_v1 : Ref sig .tc := ⟨.hbm, 62, rfl⟩
abbrev main_v37 : Ref sig .tc := ⟨.hbm, 63, rfl⟩
abbrev main_call3_call0_cst : Ref sig .tc := ⟨.hbm, 64, rfl⟩
abbrev main_call3_call0_v0 : Ref sig .tc := ⟨.hbm, 65, rfl⟩
abbrev main_v38 : Ref sig .tc := ⟨.hbm, 66, rfl⟩
abbrev main_v39 : Ref sig .tc := ⟨.hbm, 67, rfl⟩
abbrev main_cst_1 : Ref sig .tc := ⟨.hbm, 68, rfl⟩
abbrev main_v40 : Ref sig .tc := ⟨.hbm, 69, rfl⟩
abbrev main_cst_2 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_3 : Ref sig .tc := ⟨.hbm, 77, rfl⟩
abbrev main_v47 : Ref sig .tc := ⟨.hbm, 78, rfl⟩
abbrev main_cst_4 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_5 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_6 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_7 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== Proof.Online.lean ====
module

public import Idealize.ShloMosaic.Lib.Pointwise
public import Idealize.ShloMosaic.Lib.Claim

@[expose] public section

noncomputable section

namespace Cert.Online

open Idealize.ShloMosaic

/-! ## The exponential of a difference -/

/-- The exponential is never negative. -/
theorem exp_nonneg (x : EReal) : 0 ≤ Ideal.exp x := by
  induction x with
  | bot => exact le_refl _
  | top => exact le_top
  | coe r => exact EReal.coe_nonneg.mpr (Real.exp_pos r).le

/-- Below a bound other than `⊤` the exponential of the distance to the bound is at most one. -/
theorem exp_sub_ne_top {s m : EReal} (h : s ≤ m) (hm : m ≠ ⊤) : Ideal.exp (s - m) ≠ ⊤ := by
  induction m with
  | top => exact absurd rfl hm
  | bot =>
    obtain rfl : s = ⊥ := le_bot_iff.mp h
    show Ideal.exp (⊥ + -⊥) ≠ ⊤
    rw [EReal.bot_add]; exact EReal.zero_ne_top
  | coe m =>
    induction s with
    | top => exact absurd (le_antisymm le_top h) (EReal.coe_ne_top m)
    | bot =>
      rw [sub_eq_add_neg, EReal.bot_add]; exact EReal.zero_ne_top
    | coe s =>
      rw [← EReal.coe_sub]; exact EReal.coe_ne_top _

/-- A stage's correction: the exponential of the distance between two bounds times that of a score to the older bound is
    that of the score to the newer one. -/
theorem exp_mul_exp {s m m' : EReal} (h : s ≤ m) (h' : m ≤ m') (hm : m' ≠ ⊤) :
    Ideal.exp (m - m') * Ideal.exp (s - m) = Ideal.exp (s - m') := by
  induction m' with
  | top => exact absurd rfl hm
  | bot =>
    obtain rfl : m = ⊥ := le_bot_iff.mp h'
    obtain rfl : s = ⊥ := le_bot_iff.mp h
    rw [sub_eq_add_neg, EReal.bot_add]; exact zero_mul _
  | coe m' =>
    induction m with
    | top => exact absurd (le_antisymm le_top h') (EReal.coe_ne_top m')
    | bot =>
      obtain rfl : s = ⊥ := le_bot_iff.mp h
      rw [sub_eq_add_neg, sub_eq_add_neg, EReal.bot_add, EReal.bot_add]; exact zero_mul _
    | coe m =>
      induction s with
      | top => exact absurd (le_antisymm le_top h) (EReal.coe_ne_top m)
      | bot =>
        rw [sub_eq_add_neg (⊥ : EReal), sub_eq_add_neg (⊥ : EReal), EReal.bot_add, EReal.bot_add]; exact mul_zero _
      | coe s =>
        rw [← EReal.coe_sub, ← EReal.coe_sub, ← EReal.coe_sub]
        show ((Real.exp (m - m') : ℝ) : EReal) * ((Real.exp (s - m) : ℝ) : EReal) = ((Real.exp (s - m') : ℝ) : EReal)
        rw [← EReal.coe_mul, ← Real.exp_add]
        congr 2; ring

/-! ## The running maximum and the running weighted sum -/

/-- A nonnegative factor other than `⊤` goes into a sum. -/
theorem mul_sum {ι : Type} (c : EReal) (h0 : 0 ≤ c) (ht : c ≠ ⊤) (s : Finset ι) (f : ι → EReal) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 ht, ih]

/-- The running maximum after `n` blocks of 512 scores, from `⊥`. -/
def runMax (S : ℕ → Fin 512 → EReal) : ℕ → EReal
  | 0 => ⊥
  | n + 1 => max (runMax S n) (Finset.univ.sup (S n))

/-- The running sum after `n` blocks: the old sum corrected to the new maximum, plus the block's weighted values. -/
def runSum (S V : ℕ → Fin 512 → EReal) : ℕ → EReal
  | 0 => 0
  | n + 1 => Ideal.exp (runMax S n - runMax S (n + 1)) * runSum S V n
      + ∑ k : Fin 512, V n k * Ideal.exp (S n k - runMax S (n + 1))

variable (S V : ℕ → Fin 512 → EReal)

theorem runMax_mono_succ (n : ℕ) : runMax S n ≤ runMax S (n + 1) := le_max_left _ _

theorem runMax_mono : Monotone (runMax S) := monotone_nat_of_le_succ (runMax_mono_succ S)

/-- A score of an earlier block is below the maximum. -/
theorem le_runMax {n N : ℕ} (h : n < N) (k : Fin 512) : S n k ≤ runMax S N :=
  ((Finset.le_sup (f := S n) (Finset.mem_univ k)).trans (le_max_right _ _)).trans (runMax_mono S (Nat.succ_le_of_lt h))

/-- Scores other than `⊤` have a maximum other than `⊤`. -/
theorem runMax_ne_top (hS : ∀ n k, S n k ≠ ⊤) (N : ℕ) : runMax S N ≠ ⊤ := by
  induction N with
  | zero => exact bot_ne_top
  | succ N ih =>
    refine (max_lt (lt_top_iff_ne_top.mpr ih) ?_).ne
    exact (Finset.sup_lt_iff (by exact bot_lt_top)).mpr fun k _ => lt_top_iff_ne_top.mpr (hS N k)

/-- The running sum is the weighted sum taken at the last maximum. -/
theorem runSum_eq (hS : ∀ n k, S n k ≠ ⊤) (N : ℕ) :
    runSum S V N = ∑ n ∈ Finset.range N, ∑ k : Fin 512, V n k * Ideal.exp (S n k - runMax S N) := by
  induction N with
  | zero => rfl
  | succ N ih =>
    have hm := runMax_ne_top S hS (N + 1)
    have hle := runMax_mono_succ S N
    rw [Finset.sum_range_succ]
    show Ideal.exp (runMax S N - runMax S (N + 1)) * runSum S V N + _ = _
    congr 1
    rw [ih, mul_sum _ (exp_nonneg _) (exp_sub_ne_top hle hm)]
    refine Finset.sum_congr rfl fun n hn => ?_
    rw [mul_sum _ (exp_nonneg _) (exp_sub_ne_top hle hm)]
    refine Finset.sum_congr rfl fun k _ => ?_
    rw [mul_left_comm, exp_mul_exp (le_runMax S (Finset.mem_range.mp hn) k) hle hm]

/-- Blocks whose scores are all `⊥` change neither the maximum … -/
theorem runMax_of_bot {N : ℕ} (hb : ∀ n, N ≤ n → ∀ k, S n k = ⊥) (d : ℕ) : runMax S (N + d) = runMax S N := by
  induction d with
  | zero => rfl
  | succ d ih =>
    show max (runMax S (N + d)) _ = _
    rw [ih, max_eq_left]
    exact Finset.sup_le fun k _ => (hb (N + d) (Nat.le_add_right N d) k).le.trans bot_le

/-- … nor the weighted sum. -/
theorem sum_of_bot {N : ℕ} (hb : ∀ n, N ≤ n → ∀ k, S n k = ⊥) (d : ℕ) (m : EReal) :
    ∑ n ∈ Finset.range (N + d), ∑ k : Fin 512, V n k * Ideal.exp (S n k - m)
      = ∑ n ∈ Finset.range N, ∑ k : Fin 512, V n k * Ideal.exp (S n k - m) := by
  induction d with
  | zero => rfl
  | succ d ih =>
    rw [← Nat.add_assoc, Finset.sum_range_succ, ih]
    refine (congrArg _ (Finset.sum_eq_zero fun k _ => ?_)).trans (add_zero _)
    rw [hb _ (Nat.le_add_right N d) k, sub_eq_add_neg, EReal.bot_add]
    exact mul_zero _

/-- The maximum is the supremum over all blocks' scores. -/
theorem runMax_eq_sup (N : ℕ) : runMax S N = (Finset.range N).sup fun n => Finset.univ.sup (S n) := by
  induction N with
  | zero => rfl
  | succ N ih =>
    rw [Finset.range_add_one, Finset.sup_insert, ← ih, max_comm]; rfl

/-! ## Normalising -/

/-- Dividing each weight by a total of at least one before the products is dividing the weighted sum by it. -/
theorem div_sum {ι : Type} (D : EReal) (hD : 1 ≤ D) (s : Finset ι) (w v : ι → EReal) :
    ∑ k ∈ s, Ideal.div (w k) D * v k = Ideal.div (∑ k ∈ s, v k * w k) D := by
  have h0 : D ≠ 0 := fun h => absurd (h ▸ hD) (by norm_num)
  have hi : D⁻¹ ≠ ⊤ := by
    induction D with
    | bot => exact absurd (zero_le_one.trans hD) (by simp)
    | top => simp
    | coe r => rw [← EReal.coe_inv]; exact EReal.coe_ne_top _
  have hn : 0 ≤ D⁻¹ := EReal.inv_nonneg_of_nonneg (zero_le_one.trans hD)
  simp only [Ideal.div, if_neg h0]
  rw [mul_comm, mul_sum _ hn hi]
  exact Finset.sum_congr rfl fun k _ => by rw [mul_comm (w k), mul_assoc, mul_comm (w k)]

end Cert.Online

end
-- ==== Proof.AttnRef.lean ====
module

public import proofs.«01_k».proof.Proof.Gen.ReferenceIdeal.Run
public import proofs.«01_k».proof.Proof.Online
public import Idealize.ShloMosaic.Lib.Pointwise
public import Idealize.ShloMosaic.Lib.Claim
public import Idealize.ShloMosaic.Lib.WordCmp

@[expose] public section

set_option maxRecDepth 16384

noncomputable section

namespace Cert.AttnRef
open Cert.ReferenceIdeal Cert.ReferenceIdeal.Gen Idealize.ShloMosaic Idealize.ShloMosaic.TcCoe Idealize.SL.Sem

/-- A head's 64 lanes of the packed queries or keys. -/
def lanes (X : FVec Ideal S2x8192x1024 .bf16) : FVec Ideal S2x8192x8x64 .bf16 :=
  shapeCast _ (extractStridedSlice S2x8192x4x128 ![0, 0, 0, 0] (shapeCast _ X shapeCasts_S2x8192x1024_S2x8192x4x256) slices_S2x8192x4x256_S2x8192x4x128_0_0_0_0) shapeCasts_S2x8192x4x128_S2x8192x8x64

/-- A head's six gate lanes. -/
def gates (X : FVec Ideal S2x8192x1024 .bf16) : FVec Ideal S2x8192x8x6 .bf16 :=
  shapeCast _ (extractStridedSlice S2x8192x4x12 ![0, 0, 0, 128] (shapeCast _ X shapeCasts_S2x8192x1024_S2x8192x4x256) slices_S2x8192x4x256_S2x8192x4x12_0_0_0_128) shapeCasts_S2x8192x4x12_S2x8192x8x6

/-- A head's values. -/
def vals (Z : FVec Ideal S2x8x16x80x512 .bf16) : FVec Ideal S2x8x8192x64 .bf16 :=
  shapeCast _ (transpose S2x8x16x512x64 [0, 1, 2, 4, 3] (extractStridedSlice S2x8x16x64x512 ![0, 0, 0, 0, 0] Z slices_S2x8x16x80x512_S2x8x16x64x512_0_0_0_0_0) transposes_S2x8x16x64x512_S2x8x16x512x64_0_1_2_4_3) shapeCasts_S2x8x16x512x64_S2x8x8192x64

/-- The masked scores. -/
def scores (X Y : FVec Ideal S2x8192x1024 .bf16) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (addf (Host.dotGeneral dot_S2x8192x8x64_S2x8192x8x64_S2x8x8192x8192_3_3_1_1_02_02 none (lanes X) (lanes Y))
      (Host.dotGeneral dot_S2x8192x8x6_S2x8192x8x6_S2x8x8192x8192_3_3_1_1_02_02 none (gates X) (gates Y)))
    (broadcastInDim S2x8x8192x8192 ![] bcast_S_S2x8x8192x8192 (id (constant S_ .f32 0xFF800000#32)))

/-- The exponentials of the scores below their row's maximum. -/
def expo (S : FVec Ideal S2x8x8192x8192 .f32) : FVec Ideal S2x8x8192x8192 .f32 :=
  Host.exp (subf S (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduce FloatOps.maximumf S (constant S_ .f32 0xFF800000#32) reducesTo_S2x8x8192x8192_S2x8x8192_d3 h_S_))))

/-- The normalised weights. -/
def weights (E : FVec Ideal S2x8x8192x8192 .f32) : FVec Ideal S2x8x8192x8192 .bf16 :=
  truncf .bf16 (Host.divf E (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd E (constant S_ .f32 0x00000000#32) reducesTo_S2x8x8192x8192_S2x8x8192_d3 h_S_)))) bitsLt_bf16_f32

/-- The reference's result, from its arguments. -/
def result (X Y : FVec Ideal S2x8192x1024 .bf16) (Z : FVec Ideal S2x8x16x80x512 .bf16) : FVec Ideal S2x8192x512 .bf16 :=
  truncf .bf16 (shapeCast _ (transpose S2x8192x8x64 [0, 2, 1, 3] (Host.dotGeneral dot_S2x8x8192x8192_S2x8x8192x64_S2x8x8192x64_3_2_2_3_01_01 none
    (weights (expo (scores X Y))) (vals Z)) transposes_S2x8x8192x64_S2x8192x8x64_0_2_1_3) shapeCasts_S2x8192x8x64_S2x8192x512) bitsLt_bf16_f32

/-- The reference's run ends with this result. -/
theorem res_eq (m : (ℓ : Loc nD τ sig) → Buf (Elt Ideal) ℓ) (c : Dev nD) :
    Value.res_main_v38 m c = result (m ((c.tc : Thread nD τ).loc main_arg0)) (m ((c.tc : Thread nD τ).loc main_arg1)) (m ((c.tc : Thread nD τ).loc main_arg2)) := by
  unfold Value.res_main_v38
  rfl

theorem lanes_at (X : FVec Ideal S2x8192x1024 .bf16) (b : Fin 2) (s : Fin 8192) (h : Fin 8) (l : Fin 64) :
    lanes X (ix4 b s h l) = X (ix3 b s ⟨256 * (h.val / 2) + (64 * (h.val % 2) + l.val), by omega⟩) := by
  pointwise [lanes]
  exact congrArg (fun k => X (ix3 b s k)) (Fin.ext (by show h.val / 2 * 256 + (h.val % 2 * 64 + l.val) = 256 * (h.val / 2) + (64 * (h.val % 2) + l.val); omega))

theorem gates_at (X : FVec Ideal S2x8192x1024 .bf16) (b : Fin 2) (s : Fin 8192) (h : Fin 8) (l : Fin 6) :
    gates X (ix4 b s h l) = X (ix3 b s ⟨256 * (h.val / 2) + (128 + (6 * (h.val % 2) + l.val)), by omega⟩) := by
  pointwise [gates]
  exact congrArg (fun k => X (ix3 b s k)) (Fin.ext (by show h.val / 2 * 256 + (128 + (h.val % 2 * 6 + l.val)) = 256 * (h.val / 2) + (128 + (6 * (h.val % 2) + l.val)); omega))

theorem vals_at (Z : FVec Ideal S2x8x16x80x512 .bf16) (b : Fin 2) (h : Fin 8) (s : Fin 8192) (l : Fin 64) :
    vals Z (ix4 b h s l) = Z (ix5 b h ⟨s.val / 512, by omega⟩ ⟨l.val, by omega⟩ ⟨s.val % 512, by omega⟩) := by
  pointwise [vals]

/-- A query's score at a key, before the mask: the product of the head's lanes and that of its gate lanes. -/
def dotRow (X Y : FVec Ideal S2x8192x1024 .bf16) (b : Fin 2) (h : Fin 8) (q k : Fin 8192) : EReal :=
  (∑ x : Fin 64, X (ix3 b q ⟨256 * (h.val / 2) + (64 * (h.val % 2) + x.val), by omega⟩) * Y (ix3 b k ⟨256 * (h.val / 2) + (64 * (h.val % 2) + x.val), by omega⟩))
    + ∑ x : Fin 6, X (ix3 b q ⟨256 * (h.val / 2) + (128 + (6 * (h.val % 2) + x.val)), by omega⟩) * Y (ix3 b k ⟨256 * (h.val / 2) + (128 + (6 * (h.val % 2) + x.val)), by omega⟩)

/-- Its masked score. -/
def score (X Y : FVec Ideal S2x8192x1024 .bf16) (b : Fin 2) (h : Fin 8) (q k : Fin 8192) : EReal :=
  if k.val ≤ q.val then dotRow X Y b h q k else ⊥

/-- The pattern of minus infinity. -/
theorem negInf : Ideal.ofBits FTy.f32 4286578688#32 = (⊥ : EReal) := by
  simp [Ideal.ofBits, Ideal.ieee]

theorem scores_at (X Y : FVec Ideal S2x8192x1024 .bf16) (b : Fin 2) (h : Fin 8) (q k : Fin 8192) :
    scores X Y (ix4 b h q k) = score X Y b h q k := by
  pointwise [scores, lanes_at, gates_at]
  have hc : (id (constant (F := Ideal) S_ FTy.f32 4286578688#32) ix0 : EReal) = ⊥ := negInf
  rw [hc, Scalar.select, score]
  have hk := k.isLt
  have hq := q.isLt
  by_cases hle : k.val ≤ q.val
  · rw [if_pos hle, if_pos]
    · rfl
    · exact (WordCmp.cmpi_sle_ofNat_eq_one_iff (by norm_num; omega) (by norm_num; omega)).mpr hle
  · rw [if_neg hle, if_neg]; exact fun h => hle ((WordCmp.cmpi_sle_ofNat_eq_one_iff (by norm_num; omega) (by norm_num; omega)).mp h)

theorem expo_at (S : FVec Ideal S2x8x8192x8192 .f32) (b : Fin 2) (h : Fin 8) (q k : Fin 8192) :
    expo S (ix4 b h q k) = Ideal.exp (S (ix4 b h q k) - Finset.univ.sup fun x : Fin 8192 => S (ix4 b h q x)) := by
  pointwise [expo]
  rw [negInf]; rfl

theorem weights_at (S : FVec Ideal S2x8x8192x8192 .f32) (b : Fin 2) (h : Fin 8) (q k : Fin 8192) :
    weights S (ix4 b h q k) = Ideal.div (S (ix4 b h q k)) (∑ x : Fin 8192, S (ix4 b h q x)) := by
  pointwise [weights]

/-- The softmax of a row of scores applied to a row of values. -/
def attend (s v : Fin 8192 → EReal) : EReal :=
  ∑ k, Ideal.div (Ideal.exp (s k - Finset.univ.sup s)) (∑ x, Ideal.exp (s x - Finset.univ.sup s)) * v k

theorem result_at (X Y : FVec Ideal S2x8192x1024 .bf16) (Z : FVec Ideal S2x8x16x80x512 .bf16) (b : Fin 2) (q : Fin 8192) (d : Fin 512) :
    result X Y Z (ix3 b q d) = attend (score X Y b ⟨d.val / 64, by omega⟩ q)
      (fun s => Z (ix5 b ⟨d.val / 64, by omega⟩ ⟨s.val / 512, by omega⟩ ⟨d.val % 64, by omega⟩ ⟨s.val % 512, by omega⟩)) := by
  pointwise [result, weights_at, expo_at, scores_at, vals_at]
  rfl

end Cert.AttnRef

end
-- ==== Proof.AttnMath.lean ====
module

public import proofs.«01_k».proof.Proof.AttnRef

@[expose] public section

noncomputable section

namespace Cert.AttnMath
open Idealize.ShloMosaic Cert.Online Cert.AttnRef

/-! ## Blocks of keys -/

/-- A row of 8192 scores in blocks of 512, minus infinity past its end. -/
def blocks (s : Fin 8192 → EReal) (n : ℕ) (b : Fin 512) : EReal :=
  if h : n < 16 then s ⟨512 * n + b.val, by omega⟩ else ⊥

/-- A sum over the keys, block by block. -/
theorem sum_blocks (f : Fin 8192 → EReal) (F : ℕ → Fin 512 → EReal)
    (h : ∀ (n : Fin 16) (b : Fin 512), F n.val b = f ⟨512 * n.val + b.val, by omega⟩) :
    ∑ n ∈ Finset.range 16, ∑ b : Fin 512, F n b = ∑ k : Fin 8192, f k := by
  rw [Finset.sum_range, ← Fintype.sum_prod_type']
  refine Fintype.sum_equiv (finProdFinEquiv : Fin 16 × Fin 512 ≃ Fin 8192) _ _ fun x => ?_
  rw [h x.1 x.2]
  exact congrArg f (Fin.ext (Nat.add_comm _ _))

/-- The maximum of a row, block by block. -/
theorem sup_blocks (s : Fin 8192 → EReal) : runMax (blocks s) 16 = Finset.univ.sup s := by
  rw [runMax_eq_sup]
  refine le_antisymm (Finset.sup_le fun n hn => Finset.sup_le fun b _ => ?_) (Finset.sup_le fun k _ => ?_)
  · rw [blocks, dif_pos (Finset.mem_range.mp hn)]; exact Finset.le_sup (Finset.mem_univ _)
  · have hk := k.isLt
    have h16 : k.val / 512 < 16 := by omega
    have e : s k = blocks s (k.val / 512) ⟨k.val % 512, Nat.mod_lt _ (by norm_num)⟩ := by
      rw [blocks, dif_pos h16]; exact congrArg s (Fin.ext (by show k.val = 512 * (k.val / 512) + k.val % 512; omega))
    rw [e]
    exact (Finset.le_sup (f := blocks s (k.val / 512)) (Finset.mem_univ _)).trans
      (Finset.le_sup (f := fun n => Finset.univ.sup (blocks s n)) (Finset.mem_range.mpr h16))

/-- The first blocks decide the running maximum -/
theorem runMax_congr {S S' : ℕ → Fin 512 → EReal} {N : ℕ} (h : ∀ n < N, S n = S' n) : runMax S N = runMax S' N := by
  induction N with
  | zero => rfl
  | succ N ih => show max _ _ = max _ _; rw [ih fun n hn => h n (by omega), h N (by omega)]

/-- and the running sum. -/
theorem runSum_congr {S S' V V' : ℕ → Fin 512 → EReal} {N : ℕ} (h : ∀ n < N, S n = S' n) (hv : ∀ n < N, V n = V' n) :
    runSum S V N = runSum S' V' N := by
  induction N with
  | zero => rfl
  | succ N ih =>
    have hm : runMax S N = runMax S' N := runMax_congr fun n hn => h n (by omega)
    simp only [runSum]
    rw [ih (fun n hn => h n (by omega)) (fun n hn => hv n (by omega)), h N (by omega), hv N (by omega), hm, runMax_congr h]

/-! ## The online softmax is the softmax -/

/-- After the query's own block the running sum is the whole row's. -/
theorem runSum_row (s v : Fin 8192 → EReal) (V : ℕ → Fin 512 → EReal) (i : ℕ) (hi : i < 16) (ht : ∀ k, s k ≠ ⊤)
    (hb : ∀ k : Fin 8192, 512 * (i + 1) ≤ k.val → s k = ⊥)
    (hV : ∀ (n : Fin 16) (b : Fin 512), V n.val b = v ⟨512 * n.val + b.val, by omega⟩) :
    runSum (blocks s) V (i + 1) = ∑ k, v k * Ideal.exp (s k - Finset.univ.sup s) := by
  have hS : ∀ n k, blocks s n k ≠ ⊤ := fun n k => by
    rw [blocks]; split_ifs
    · exact ht _
    · exact bot_ne_top
  have hbot : ∀ n, i + 1 ≤ n → ∀ k, blocks s n k = ⊥ := fun n hn k => by
    rw [blocks]; split_ifs
    · exact hb _ (by show 512 * (i + 1) ≤ 512 * n + k.val; omega)
    · rfl
  have h16 : i + 1 + (15 - i) = 16 := by omega
  rw [runSum_eq _ _ hS, ← runMax_of_bot _ hbot (15 - i), ← sum_of_bot _ _ hbot (15 - i), h16, sup_blocks]
  refine sum_blocks _ _ fun n b => ?_
  rw [hV, blocks, dif_pos n.isLt]

/-- The normalised running sums are the reference's attention. -/
theorem attend_eq (s v o : Fin 8192 → EReal) (V O : ℕ → Fin 512 → EReal) (i : ℕ) (hi : i < 16) (ht : ∀ k, s k ≠ ⊤)
    (hr : ∃ k, s k ≠ ⊥) (hb : ∀ k : Fin 8192, 512 * (i + 1) ≤ k.val → s k = ⊥)
    (hV : ∀ (n : Fin 16) (b : Fin 512), V n.val b = v ⟨512 * n.val + b.val, by omega⟩)
    (hO : ∀ (n : Fin 16) (b : Fin 512), O n.val b = o ⟨512 * n.val + b.val, by omega⟩) (ho : ∀ k, o k = 1) :
    Ideal.div (runSum (blocks s) V (i + 1)) (runSum (blocks s) O (i + 1)) = attend s v := by
  rw [runSum_row s v V i hi ht hb hV, runSum_row s o O i hi ht hb hO, attend]
  have hD : (∑ k, o k * Ideal.exp (s k - Finset.univ.sup s)) = ∑ k, Ideal.exp (s k - Finset.univ.sup s) :=
    Finset.sum_congr rfl fun k _ => by rw [ho, one_mul]
  rw [hD]
  refine (div_sum _ ?_ _ _ _).symm
  obtain ⟨k, -, hk⟩ := Finset.exists_mem_eq_sup (Finset.univ : Finset (Fin 8192)) ⟨0, Finset.mem_univ _⟩ s
  have hkb : s k ≠ ⊥ := by
    obtain ⟨j, hj⟩ := hr
    intro h
    exact hj (le_bot_iff.mp ((Finset.le_sup (f := s) (Finset.mem_univ j)).trans (le_of_eq (hk.trans h))))
  have h1 : Ideal.exp (s k - Finset.univ.sup s) = 1 := by
    rw [hk, EReal.sub_self (ht k) hkb]
    show ((Real.exp 0 : ℝ) : EReal) = 1
    rw [Real.exp_zero]; rfl
  calc (1 : EReal) = Ideal.exp (s k - Finset.univ.sup s) := h1.symm
    _ ≤ _ := Finset.single_le_sum (f := fun k => Ideal.exp (s k - Finset.univ.sup s)) (fun j _ => exp_nonneg _) (Finset.mem_univ k)

/-! ## Finite scores -/

/-- A finite extended real. -/
def Fin' (x : EReal) : Prop := ∃ r : ℝ, x = r

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.sum {ι : Type} (s : Finset ι) (f : ι → EReal) (h : ∀ i, Fin' (f i)) : Fin' (∑ i ∈ s, f i) :=
  Finset.sum_induction f Fin' (fun _ _ => Fin'.add) ⟨0, rfl⟩ fun i _ => h i

theorem Fin'.ne_top {x : EReal} (h : Fin' x) : x ≠ ⊤ := by obtain ⟨r, rfl⟩ := h; exact EReal.coe_ne_top r
theorem Fin'.ne_bot {x : EReal} (h : Fin' x) : x ≠ ⊥ := by obtain ⟨r, rfl⟩ := h; exact EReal.coe_ne_bot r

/-- Finite queries and keys have finite products. -/
theorem dotRow_fin (X Y : FVec Ideal Cert.ReferenceIdeal.S2x8192x1024 .bf16) (hX : ∀ j, Fin' (X j)) (hY : ∀ j, Fin' (Y j))
    (b : Fin 2) (h : Fin 8) (q k : Fin 8192) : Fin' (dotRow X Y b h q k) :=
  (Fin'.sum _ _ fun _ => (hX _).mul (hY _)).add (Fin'.sum _ _ fun _ => (hX _).mul (hY _))

/-! ## A head's lanes among the pair's 256 -/

/-- The lane of a head's 64 lanes and its six gate lanes. -/
def lane (g : Fin 2) : Fin 64 ⊕ Fin 6 → Fin 256
  | .inl x => ⟨64 * g.val + x.val, by omega⟩
  | .inr x => ⟨128 + (6 * g.val + x.val), by omega⟩

theorem lane_inj (g : Fin 2) : Function.Injective (lane g) := by
  rintro (x | x) (y | y) h <;> have h' := congrArg Fin.val h <;> simp only [lane] at h'
  · exact congrArg _ (Fin.ext (by omega))
  · omega
  · omega
  · exact congrArg _ (Fin.ext (by omega))

/-- A sum over the pair's lanes with the other lanes zero is the two sums of the head. -/
theorem sum_lanes (g : Fin 2) (f : Fin 256 → EReal)
    (h0 : ∀ l : Fin 256, ¬ ((64 * g.val ≤ l.val ∧ l.val < 64 * g.val + 64) ∨ (128 + 6 * g.val ≤ l.val ∧ l.val < 134 + 6 * g.val)) → f l = 0) :
    ∑ l, f l = (∑ x : Fin 64, f (lane g (.inl x))) + ∑ x : Fin 6, f (lane g (.inr x)) := by
  rw [← Fintype.sum_sum_type fun x => f (lane g x)]
  refine (Fintype.sum_of_injective (lane g) (lane_inj g) _ _ (fun l hl => h0 l fun h => hl ?_) fun _ => rfl).symm
  rcases h with ⟨ha, hb⟩ | ⟨ha, hb⟩
  · exact ⟨.inl ⟨l.val - 64 * g.val, by omega⟩, Fin.ext (by show 64 * g.val + (l.val - 64 * g.val) = l.val; omega)⟩
  · exact ⟨.inr ⟨l.val - (128 + 6 * g.val), by omega⟩, Fin.ext (by show 128 + (6 * g.val + (l.val - (128 + 6 * g.val))) = l.val; omega)⟩

end Cert.AttnMath

end
-- ==== Proof.AttnStep.lean ====
module

public import proofs.«01_k».proof.Proof.Gen.KernelIdeal.Value
public import proofs.«01_k».proof.Proof.Online
public import Idealize.ShloMosaic.Lib.Pointwise
public import Idealize.ShloMosaic.Lib.Claim
public import Idealize.ShloMosaic.Lib.Pipeline.ValueKit
public import Idealize.ShloMosaic.Lib.WritesUnit

@[expose] public section

set_option maxRecDepth 16384

noncomputable section

namespace Cert.Attn
open Cert.KernelIdeal Cert.KernelIdeal.Gen Idealize.ShloMosaic Idealize.ShloMosaic.TcCoe Idealize.SL.Sem

/-! ## Scores, values and one step -/

/-- A query of the lower half of a tile. -/
def lo (a : Fin 256) : Fin 512 := ⟨a.val, by omega⟩

/-- A query of the upper half. -/
def hi (a : Fin 256) : Fin 512 := ⟨256 + a.val, by omega⟩

/-- The score of key `b` of key block `n` for query `t`: the product of the key's 256 lanes with the query's. -/
def sc (K : S1x8192x256.Idx → EReal) (Q : S512x256.Idx → EReal) (n : ℕ) (t : Fin 512) (b : Fin 512) : EReal :=
  if h : n < 16 then ∑ l : Fin 256, K (ix3 0 ⟨512 * n + b.val, by omega⟩ l) * Q (ix2 t l) else ⊥

/-- Row `r` of head `h`'s values at key `b` of block `n`. -/
def vl (V : S1x2x16x80x512.Idx → EReal) (h : Fin 2) (r : Fin 80) (n : ℕ) (b : Fin 512) : EReal :=
  if hn : n < 16 then V (ix5 0 h ⟨n, hn⟩ r b) else 0

/-- The maximum after one block of scores. -/
def newM (M : EReal) (S : Fin 512 → EReal) : EReal := max M (Finset.univ.sup S)

/-- The weighted sum after one block of scores and values. -/
def newA (M A : EReal) (S V : Fin 512 → EReal) : EReal :=
  Ideal.exp (M - newM M S) * A + ∑ b : Fin 512, V b * Ideal.exp (S b - newM M S)

/-- The pattern of minus infinity. -/
theorem negInf : Ideal.ofBits FTy.f32 4286578688#32 = (⊥ : EReal) := by
  simp [Ideal.ofBits, Ideal.ieee]

/-- A fold of maxima from minus infinity is the supremum. -/
theorem fold_max (f : Fin 512 → EReal) :
    Finset.fold max (Ideal.ofBits FTy.f32 4286578688#32) f Finset.univ = Finset.univ.sup f := by
  rw [negInf]; rfl

/-! ## Reading a window of a buffer -/

section Read

variable {sig' : RefSig} {κ' : Kind} {sp : Space} {s : Shape} {e : EltTy}

/-- A load through a unit-stride window reads the buffer at the offset index. -/
theorem readAt_at (v : View sig' κ' sp s e) (f : v.ty.Contents (Elt Ideal)) {off off' size : Fin s.rank → ℕ}
    (inb : ∀ a, off a + size a ≤ s.size a) (x : (Rect.unit off size inb).shape.Idx) (y : s.Idx) (ho : off = off')
    (h : ∀ a, (y a).val = off' a + (x a).val) :
    v.readAt (Elt Ideal) (Rect.unit off size inb).toLoadRect f x = v.read (Elt Ideal) f y := by
  subst ho
  exact congrArg (v.read (Elt Ideal) f) (funext fun a => Fin.ext (by
    show off a + 1 * (x a).val = (y a).val
    rw [h a, Nat.one_mul]))

end Read

/-! ## The loop's trip -/

section Trip

variable (i : grid0.Coords) (arg4 : Memref sig .tc .vmem S1x8192x256 .bf16) (arg5 : Memref sig .tc .vmem S1x2x16x80x512 .bf16)
  (arg7 : Memref sig .tc .vmem S2x1x512 .f32) (arg8 : Memref sig .tc .vmem S2x80x512 .f32)
  (v25 v28 : FVec Ideal S512x256 .bf16) (X4 : BufTy.Contents (Elt Ideal) arg4.view.ty) (X5 : BufTy.Contents (Elt Ideal) arg5.view.ty)
  (k : Fin (k0_t1_loop i).trips) (f7 : BufTy.Contents (Elt Ideal) arg7.view.ty) (f8 : BufTy.Contents (Elt Ideal) arg8.view.ty)

/-- The loop runs once per key block before the query's own. -/
theorem trips1 : (k0_t1_loop i).trips = (i 2).val :=
  (by decide +kernel : ∀ x : Fin 16, Scf.trips (0#32) (Scalar.addi 0#32 (Scalar.muli (Scalar.divsi (Scalar.subi (BitVec.ofNat 32 x.val) 0#32) 1#32) 1#32)) 1#32 = x.val) (i 2)

theorem lt16 : k.val < 16 := by
  exact (lt_of_lt_of_eq k.isLt (trips1 i)).trans (i 2).isLt

/-- Where a trip's keys lie. -/
theorem off1 : k0_off1 i k = ![0, 512 * k.val, 0] := by
  have h := (by decide +kernel : ∀ x : Fin 16, (Scalar.indexCast (Scalar.muli (Scf.iv 0#32 1#32 x.val) 512#32)).toNat = 512 * x.val) ⟨k.val, lt16 i k⟩
  show ![0, _, 0] = _
  rw [h]

theorem off2 : k0_off2 i k = ![0, 0, k.val, 0, 0] := by
  have h := (by decide +kernel : ∀ x : Fin 16, (Scalar.indexCast (Scf.iv 0#32 1#32 x.val)).toNat = x.val) ⟨k.val, lt16 i k⟩
  show ![0, 0, _, 0, 0] = _
  rw [h]

theorem off3 : k0_off3 i k = ![0, 1, k.val, 0, 0] := by
  have h := (by decide +kernel : ∀ x : Fin 16, (Scalar.indexCast (Scf.iv 0#32 1#32 x.val)).toNat = x.val) ⟨k.val, lt16 i k⟩
  show ![0, 1, _, 0, 0] = _
  rw [h]

/-- The trip's key block. -/
theorem v209_at (b : Fin 512) (l : Fin 256) : trip_k0_t1.sl.v209 i arg4 X4 k (ix2 b l)
    = arg4.view.read (Elt Ideal) X4 (ix3 0 ⟨512 * k.val + b.val, by have := lt16 i k; omega⟩ l) := by
  unfold trip_k0_t1.sl.v209
  pointwise []
  refine readAt_at _ _ _ _ _ (off1 i k) fun a => ?_
  fin_cases a <;> simp [ix3]

theorem v231_at (r : Fin 80) (b : Fin 512) : trip_k0_t1.sl.v231 i arg5 X5 k (ix2 r b)
    = vl (arg5.view.read (Elt Ideal) X5) 0 r k.val b := by
  rw [vl, dif_pos (lt16 i k)]
  unfold trip_k0_t1.sl.v231
  pointwise []
  refine readAt_at _ _ _ _ _ (off2 i k) fun a => ?_
  fin_cases a <;> simp [ix5]

theorem v287_at (r : Fin 80) (b : Fin 512) : trip_k0_t1.sl.v287 i arg5 X5 k (ix2 r b)
    = vl (arg5.view.read (Elt Ideal) X5) 1 r k.val b := by
  rw [vl, dif_pos (lt16 i k)]
  unfold trip_k0_t1.sl.v287
  pointwise []
  refine readAt_at _ _ _ _ _ (off3 i k) fun a => ?_
  fin_cases a <;> simp [ix5]

theorem v211_at (b : Fin 512) (a : Fin 256) : trip_k0_t1.sl.v211 i arg4 v25 X4 k (ix2 b a)
    = sc (arg4.view.read (Elt Ideal) X4) v25 k.val (lo a) b := by
  rw [sc, dif_pos (lt16 i k)]
  unfold trip_k0_t1.sl.v211 trip_k0_t1.sl.v210 trip_k0_t1.sl.cst_112
  pointwise [v209_at]
  rfl

theorem v213_at (b : Fin 512) (a : Fin 256) : trip_k0_t1.sl.v213 i arg4 v25 X4 k (ix2 b a)
    = sc (arg4.view.read (Elt Ideal) X4) v25 k.val (hi a) b := by
  rw [sc, dif_pos (lt16 i k)]
  unfold trip_k0_t1.sl.v213 trip_k0_t1.sl.v212 trip_k0_t1.sl.cst_112
  pointwise [v209_at]
  rfl

theorem v241_at (b : Fin 512) (a : Fin 256) : trip_k0_t1.sl.v241 i arg4 v28 X4 k (ix2 b a)
    = sc (arg4.view.read (Elt Ideal) X4) v28 k.val (lo a) b := by
  rw [sc, dif_pos (lt16 i k)]
  unfold trip_k0_t1.sl.v241 trip_k0_t1.sl.v240 trip_k0_t1.sl.cst_112
  pointwise [v209_at]
  rfl

theorem v269_at (b : Fin 512) (a : Fin 256) : trip_k0_t1.sl.v269 i arg4 v28 X4 k (ix2 b a)
    = sc (arg4.view.read (Elt Ideal) X4) v28 k.val (hi a) b := by
  rw [sc, dif_pos (lt16 i k)]
  unfold trip_k0_t1.sl.v269 trip_k0_t1.sl.v268 trip_k0_t1.sl.cst_112
  pointwise [v209_at]
  rfl

/-! What the four units find in the two buffers. -/

theorem v215_at (a : Fin 256) : trip_k0_t1.sl.v215 arg7 f7 (ix2 0 a) = arg7.view.read (Elt Ideal) f7 (ix3 0 0 (lo a)) := by
  unfold trip_k0_t1.sl.v215
  pointwise []
  refine readAt_at _ _ _ _ _ rfl fun a => ?_
  fin_cases a <;> simp [ix3, lo]

theorem v243_at (a : Fin 256) : trip_k0_t1.sl.v243 arg7 f7 (ix2 0 a) = arg7.view.read (Elt Ideal) f7 (ix3 0 0 (hi a)) := by
  unfold trip_k0_t1.sl.v243 trip_k0_t1.sl.v242
  pointwise []
  refine readAt_at _ _ _ _ _ rfl fun a => ?_
  fin_cases a <;> simp [ix3, hi]

theorem v271_at (a : Fin 256) : trip_k0_t1.sl.v271 arg7 f7 (ix2 0 a) = arg7.view.read (Elt Ideal) f7 (ix3 1 0 (lo a)) := by
  unfold trip_k0_t1.sl.v271 trip_k0_t1.sl.v270
  pointwise []
  refine readAt_at _ _ _ _ _ rfl fun a => ?_
  fin_cases a <;> simp [ix3, lo]

theorem v297_at (a : Fin 256) : trip_k0_t1.sl.v297 arg7 f7 (ix2 0 a) = arg7.view.read (Elt Ideal) f7 (ix3 1 0 (hi a)) := by
  unfold trip_k0_t1.sl.v297 trip_k0_t1.sl.v296
  pointwise []
  refine readAt_at _ _ _ _ _ rfl fun a => ?_
  fin_cases a <;> simp [ix3, hi]

theorem v226_at (r : Fin 80) (a : Fin 256) : trip_k0_t1.sl.v226 arg8 f8 (ix2 r a) = arg8.view.read (Elt Ideal) f8 (ix3 0 r (lo a)) := by
  unfold trip_k0_t1.sl.v226
  pointwise []
  refine readAt_at _ _ _ _ _ rfl fun a => ?_
  fin_cases a <;> simp [ix3, lo]

theorem v254_at (r : Fin 80) (a : Fin 256) : trip_k0_t1.sl.v254 arg8 f8 (ix2 r a) = arg8.view.read (Elt Ideal) f8 (ix3 0 r (hi a)) := by
  unfold trip_k0_t1.sl.v254 trip_k0_t1.sl.v253
  pointwise []
  refine readAt_at _ _ _ _ _ rfl fun a => ?_
  fin_cases a <;> simp [ix3, hi]

theorem v282_at (r : Fin 80) (a : Fin 256) : trip_k0_t1.sl.v282 arg8 f8 (ix2 r a) = arg8.view.read (Elt Ideal) f8 (ix3 1 r (lo a)) := by
  unfold trip_k0_t1.sl.v282 trip_k0_t1.sl.v281
  pointwise []
  refine readAt_at _ _ _ _ _ rfl fun a => ?_
  fin_cases a <;> simp [ix3, lo]

theorem v308_at (r : Fin 80) (a : Fin 256) : trip_k0_t1.sl.v308 arg8 f8 (ix2 r a) = arg8.view.read (Elt Ideal) f8 (ix3 1 r (hi a)) := by
  unfold trip_k0_t1.sl.v308 trip_k0_t1.sl.v307
  pointwise []
  refine readAt_at _ _ _ _ _ rfl fun a => ?_
  fin_cases a <;> simp [ix3, hi]

/-! The four units' new maxima. -/

theorem v218_at (a : Fin 256) : trip_k0_t1.sl.v218 i arg4 arg7 v25 X4 k f7 (ix2 0 a)
    = newM (arg7.view.read (Elt Ideal) f7 (ix3 0 0 (lo a))) (sc (arg4.view.read (Elt Ideal) X4) v25 k.val (lo a)) := by
  unfold trip_k0_t1.sl.v218 trip_k0_t1.sl.v217 trip_k0_t1.sl.v216
  pointwise [v215_at, v211_at]
  rw [fold_max]; rfl

theorem v246_at (a : Fin 256) : trip_k0_t1.sl.v246 i arg4 arg7 v25 X4 k f7 (ix2 0 a)
    = newM (arg7.view.read (Elt Ideal) f7 (ix3 0 0 (hi a))) (sc (arg4.view.read (Elt Ideal) X4) v25 k.val (hi a)) := by
  unfold trip_k0_t1.sl.v246 trip_k0_t1.sl.v245 trip_k0_t1.sl.v244
  pointwise [v243_at, v213_at]
  rw [fold_max]; rfl

theorem v274_at (a : Fin 256) : trip_k0_t1.sl.v274 i arg4 arg7 v28 X4 k f7 (ix2 0 a)
    = newM (arg7.view.read (Elt Ideal) f7 (ix3 1 0 (lo a))) (sc (arg4.view.read (Elt Ideal) X4) v28 k.val (lo a)) := by
  unfold trip_k0_t1.sl.v274 trip_k0_t1.sl.v273 trip_k0_t1.sl.v272
  pointwise [v271_at, v241_at]
  rw [fold_max]; rfl

theorem v300_at (a : Fin 256) : trip_k0_t1.sl.v300 i arg4 arg7 v28 X4 k f7 (ix2 0 a)
    = newM (arg7.view.read (Elt Ideal) f7 (ix3 1 0 (hi a))) (sc (arg4.view.read (Elt Ideal) X4) v28 k.val (hi a)) := by
  unfold trip_k0_t1.sl.v300 trip_k0_t1.sl.v299 trip_k0_t1.sl.v298
  pointwise [v297_at, v269_at]
  rw [fold_max]; rfl

/-! The four units' new sums. -/

theorem v236_at (r : Fin 80) (a : Fin 256) : trip_k0_t1.sl.v236 i arg4 arg5 arg7 arg8 v25 X4 X5 k f7 f8 (ix3 0 r a)
    = newA (arg7.view.read (Elt Ideal) f7 (ix3 0 0 (lo a))) (arg8.view.read (Elt Ideal) f8 (ix3 0 r (lo a)))
        (sc (arg4.view.read (Elt Ideal) X4) v25 k.val (lo a)) (vl (arg5.view.read (Elt Ideal) X5) 0 r k.val) := by
  unfold trip_k0_t1.sl.v236 trip_k0_t1.sl.v233 trip_k0_t1.sl.v228 trip_k0_t1.sl.v227 trip_k0_t1.sl.v220 trip_k0_t1.sl.v219
    trip_k0_t1.sl.v232 trip_k0_t1.sl.v224 trip_k0_t1.sl.v223 trip_k0_t1.sl.v222 trip_k0_t1.sl.v221 trip_k0_t1.sl.cst_125
  pointwise [v215_at, v218_at, v226_at, v231_at, v211_at]
  rfl

theorem v264_at (r : Fin 80) (a : Fin 256) : trip_k0_t1.sl.v264 i arg4 arg5 arg7 arg8 v25 X4 X5 k f7 f8 (ix3 0 r a)
    = newA (arg7.view.read (Elt Ideal) f7 (ix3 0 0 (hi a))) (arg8.view.read (Elt Ideal) f8 (ix3 0 r (hi a)))
        (sc (arg4.view.read (Elt Ideal) X4) v25 k.val (hi a)) (vl (arg5.view.read (Elt Ideal) X5) 0 r k.val) := by
  unfold trip_k0_t1.sl.v264 trip_k0_t1.sl.v261 trip_k0_t1.sl.v256 trip_k0_t1.sl.v255 trip_k0_t1.sl.v248 trip_k0_t1.sl.v247
    trip_k0_t1.sl.v260 trip_k0_t1.sl.v252 trip_k0_t1.sl.v251 trip_k0_t1.sl.v250 trip_k0_t1.sl.v249 trip_k0_t1.sl.cst_125
  pointwise [v243_at, v246_at, v254_at, v231_at, v213_at]
  rfl

theorem v292_at (r : Fin 80) (a : Fin 256) : trip_k0_t1.sl.v292 i arg4 arg5 arg7 arg8 v28 X4 X5 k f7 f8 (ix3 0 r a)
    = newA (arg7.view.read (Elt Ideal) f7 (ix3 1 0 (lo a))) (arg8.view.read (Elt Ideal) f8 (ix3 1 r (lo a)))
        (sc (arg4.view.read (Elt Ideal) X4) v28 k.val (lo a)) (vl (arg5.view.read (Elt Ideal) X5) 1 r k.val) := by
  unfold trip_k0_t1.sl.v292 trip_k0_t1.sl.v289 trip_k0_t1.sl.v284 trip_k0_t1.sl.v283 trip_k0_t1.sl.v276 trip_k0_t1.sl.v275
    trip_k0_t1.sl.v288 trip_k0_t1.sl.v280 trip_k0_t1.sl.v279 trip_k0_t1.sl.v278 trip_k0_t1.sl.v277 trip_k0_t1.sl.cst_125
  pointwise [v271_at, v274_at, v282_at, v287_at, v241_at]
  rfl

theorem pay56_at (r : Fin 80) (a : Fin 256) : k0_pay56 (trip_k0_t1.sl.v306 i arg4 arg7 v28 X4 k f7)
      (trip_k0_t1.sl.v308 arg8 f8) (trip_k0_t1.sl.v309 i arg4 arg7 v28 X4 k f7)
      (arg5.view.readAt (Elt Ideal) (Rect.unit (s := S1x2x16x80x512) (k0_off3 i k) S1x1x1x80x512.size (k0_off3_inb i k)).toLoadRect X5) (ix3 0 r a)
    = newA (arg7.view.read (Elt Ideal) f7 (ix3 1 0 (hi a))) (arg8.view.read (Elt Ideal) f8 (ix3 1 r (hi a)))
        (sc (arg4.view.read (Elt Ideal) X4) v28 k.val (hi a)) (vl (arg5.view.read (Elt Ideal) X5) 1 r k.val) := by
  have hv : ∀ x : Fin 512, arg5.view.readAt (Elt Ideal) (Rect.unit (s := S1x2x16x80x512) (k0_off3 i k) S1x1x1x80x512.size (k0_off3_inb i k)).toLoadRect X5
      (ix5 0 0 0 r x) = vl (arg5.view.read (Elt Ideal) X5) 1 r k.val x := fun x => by
    rw [vl, dif_pos (lt16 i k)]
    refine readAt_at _ _ _ _ _ (off3 i k) fun a => ?_
    fin_cases a <;> simp [ix5]
  unfold trip_k0_t1.sl.v309 trip_k0_t1.sl.v302 trip_k0_t1.sl.v301
    trip_k0_t1.sl.v306 trip_k0_t1.sl.v305 trip_k0_t1.sl.v304 trip_k0_t1.sl.v303
  pointwise [k0_pay56, v297_at, v300_at, v308_at, v269_at, hv]
  rfl

end Trip

end Cert.Attn

end
-- ==== Proof.AttnLoop.lean ====
module

public import proofs.«01_k».proof.Proof.AttnStep

@[expose] public section

set_option maxRecDepth 16384

noncomputable section

namespace Cert.Attn
open Cert.KernelIdeal Cert.KernelIdeal.Gen Idealize.ShloMosaic Idealize.ShloMosaic.TcCoe Idealize.SL.Sem

/-! ## Four pieces, one per head and half -/

section Pieces

variable {sig' : RefSig} {κ' : Kind} {sp : Space}

/-- A query lies in one of the two halves. -/
theorem half (t : Fin 512) : (∃ a, t = lo a) ∨ ∃ a, t = hi a := by
  by_cases h : t.val < 256
  · exact .inl ⟨⟨t.val, h⟩, rfl⟩
  · exact .inr ⟨⟨t.val - 256, by omega⟩, Fin.ext (by show t.val = 256 + (t.val - 256); omega)⟩

/-- What is read after a piece of head `h` and half `o` has been written to a buffer of `n` rows: -/
theorem read_hit {n : ℕ} (v : View sig' κ' sp (⟨3, ![2, n, 512]⟩ : Shape) .f32) (f : v.ty.Contents (Elt Ideal)) (h o : ℕ)
    (inb : ∀ a, (![h, 0, o] : Fin 3 → ℕ) a + (![1, n, 256] : Fin 3 → ℕ) a ≤ (⟨3, ![2, n, 512]⟩ : Shape).size a)
    (w : (Rect.unit (s := ⟨3, ![2, n, 512]⟩) ![h, 0, o] ![1, n, 256] inb).shape.Idx → EReal)
    (L : List (View.Piece (Elt Ideal) (⟨3, ![2, n, 512]⟩ : Shape) .f32)) (g : Fin 2) (r : Fin n) (t : Fin 512) (a : Fin 256)
    (hg : g.val = h) (ht : t.val = o + a.val) :
    v.read (Elt Ideal) (v.writes (Elt Ideal) f (⟨Rect.unit (s := ⟨3, ![2, n, 512]⟩) ![h, 0, o] ![1, n, 256] inb, w⟩ :: L)) (ix3 g r t)
      = w (ix3 (n0 := 1) (n1 := n) (n2 := 256) 0 r a) :=
  View.read_writes_cons_unit_of_mem v f inb w L _ (ix3 (n0 := 1) (n1 := n) (n2 := 256) 0 r a) rfl fun b => by
    fin_cases b
    · show g.val = h + 0; omega
    · show r.val = 0 + r.val; omega
    · exact ht

/-- another head's element is left, -/
theorem read_head {n : ℕ} (v : View sig' κ' sp (⟨3, ![2, n, 512]⟩ : Shape) .f32) (f : v.ty.Contents (Elt Ideal)) (h o : ℕ)
    (inb : ∀ a, (![h, 0, o] : Fin 3 → ℕ) a + (![1, n, 256] : Fin 3 → ℕ) a ≤ (⟨3, ![2, n, 512]⟩ : Shape).size a)
    (w : (Rect.unit (s := ⟨3, ![2, n, 512]⟩) ![h, 0, o] ![1, n, 256] inb).shape.Idx → EReal)
    (L : List (View.Piece (Elt Ideal) (⟨3, ![2, n, 512]⟩ : Shape) .f32)) (g : Fin 2) (r : Fin n) (t : Fin 512)
    (hg : g.val ≠ h) :
    v.read (Elt Ideal) (v.writes (Elt Ideal) f (⟨Rect.unit (s := ⟨3, ![2, n, 512]⟩) ![h, 0, o] ![1, n, 256] inb, w⟩ :: L)) (ix3 g r t)
      = v.read (Elt Ideal) (v.writes (Elt Ideal) f L) (ix3 g r t) :=
  View.read_writes_cons_unit_of_not_mem v f inb w L _ rfl (0 : Fin 3) (by
    show g.val < h ∨ h + 1 ≤ g.val; omega)

/-- and so is the other half's. -/
theorem read_half {n : ℕ} (v : View sig' κ' sp (⟨3, ![2, n, 512]⟩ : Shape) .f32) (f : v.ty.Contents (Elt Ideal)) (h o : ℕ)
    (inb : ∀ a, (![h, 0, o] : Fin 3 → ℕ) a + (![1, n, 256] : Fin 3 → ℕ) a ≤ (⟨3, ![2, n, 512]⟩ : Shape).size a)
    (w : (Rect.unit (s := ⟨3, ![2, n, 512]⟩) ![h, 0, o] ![1, n, 256] inb).shape.Idx → EReal)
    (L : List (View.Piece (Elt Ideal) (⟨3, ![2, n, 512]⟩ : Shape) .f32)) (g : Fin 2) (r : Fin n) (t : Fin 512)
    (ht : t.val < o ∨ o + 256 ≤ t.val) :
    v.read (Elt Ideal) (v.writes (Elt Ideal) f (⟨Rect.unit (s := ⟨3, ![2, n, 512]⟩) ![h, 0, o] ![1, n, 256] inb, w⟩ :: L)) (ix3 g r t)
      = v.read (Elt Ideal) (v.writes (Elt Ideal) f L) (ix3 g r t) :=
  View.read_writes_cons_unit_of_not_mem v f inb w L _ rfl (2 : Fin 3) (by
    show t.val < o ∨ o + 256 ≤ t.val; exact ht)

/-- After the four pieces each element is its own piece's. -/
theorem read_four {n : ℕ} (v : View sig' κ' sp (⟨3, ![2, n, 512]⟩ : Shape) .f32) (f : v.ty.Contents (Elt Ideal))
    (i0 : ∀ a, (![1, 0, 256] : Fin 3 → ℕ) a + (![1, n, 256] : Fin 3 → ℕ) a ≤ (⟨3, ![2, n, 512]⟩ : Shape).size a)
    (i1 : ∀ a, (![1, 0, 0] : Fin 3 → ℕ) a + (![1, n, 256] : Fin 3 → ℕ) a ≤ (⟨3, ![2, n, 512]⟩ : Shape).size a)
    (i2 : ∀ a, (![0, 0, 256] : Fin 3 → ℕ) a + (![1, n, 256] : Fin 3 → ℕ) a ≤ (⟨3, ![2, n, 512]⟩ : Shape).size a)
    (i3 : ∀ a, (![0, 0, 0] : Fin 3 → ℕ) a + (![1, n, 256] : Fin 3 → ℕ) a ≤ (⟨3, ![2, n, 512]⟩ : Shape).size a)
    (w0 : (Rect.unit (s := ⟨3, ![2, n, 512]⟩) ![1, 0, 256] ![1, n, 256] i0).shape.Idx → EReal)
    (w1 : (Rect.unit (s := ⟨3, ![2, n, 512]⟩) ![1, 0, 0] ![1, n, 256] i1).shape.Idx → EReal)
    (w2 : (Rect.unit (s := ⟨3, ![2, n, 512]⟩) ![0, 0, 256] ![1, n, 256] i2).shape.Idx → EReal)
    (w3 : (Rect.unit (s := ⟨3, ![2, n, 512]⟩) ![0, 0, 0] ![1, n, 256] i3).shape.Idx → EReal)
    (L : List (View.Piece (Elt Ideal) (⟨3, ![2, n, 512]⟩ : Shape) .f32)) (W : Fin 2 → Fin n → Fin 512 → EReal)
    (h0 : ∀ r a, w0 (ix3 (n0 := 1) (n1 := n) (n2 := 256) 0 r a) = W 1 r (hi a))
    (h1 : ∀ r a, w1 (ix3 (n0 := 1) (n1 := n) (n2 := 256) 0 r a) = W 1 r (lo a))
    (h2 : ∀ r a, w2 (ix3 (n0 := 1) (n1 := n) (n2 := 256) 0 r a) = W 0 r (hi a))
    (h3 : ∀ r a, w3 (ix3 (n0 := 1) (n1 := n) (n2 := 256) 0 r a) = W 0 r (lo a)) (g : Fin 2) (r : Fin n) (t : Fin 512) :
    v.read (Elt Ideal) (v.writes (Elt Ideal) f
      (⟨Rect.unit (s := ⟨3, ![2, n, 512]⟩) ![1, 0, 256] ![1, n, 256] i0, w0⟩ ::
       ⟨Rect.unit (s := ⟨3, ![2, n, 512]⟩) ![1, 0, 0] ![1, n, 256] i1, w1⟩ ::
       ⟨Rect.unit (s := ⟨3, ![2, n, 512]⟩) ![0, 0, 256] ![1, n, 256] i2, w2⟩ ::
       ⟨Rect.unit (s := ⟨3, ![2, n, 512]⟩) ![0, 0, 0] ![1, n, 256] i3, w3⟩ :: L)) (ix3 g r t) = W g r t := by
  rcases half t with ⟨a, rfl⟩ | ⟨a, rfl⟩
  · have hlo : (lo a).val < 256 := a.isLt
    rw [read_half v f 1 256 i0 _ _ _ _ _ (.inl hlo)]
    fin_cases g
    · refine (read_head v f 1 0 i1 _ _ _ _ _ (by decide)).trans ?_
      refine (read_half v f 0 256 i2 _ _ _ _ _ (.inl hlo)).trans ?_
      exact (read_hit v f 0 0 i3 _ _ _ _ _ a rfl (by show a.val = 0 + a.val; omega)).trans (h3 r a)
    · exact (read_hit v f 1 0 i1 _ _ _ _ _ a rfl (by show a.val = 0 + a.val; omega)).trans (h1 r a)
  · have hhi : 0 + 256 ≤ (hi a).val := Nat.le_add_right _ _
    fin_cases g
    · refine (read_head v f 1 256 i0 _ _ _ _ _ (by decide)).trans ?_
      refine (read_head v f 1 0 i1 _ _ _ _ _ (by decide)).trans ?_
      exact (read_hit v f 0 256 i2 _ _ _ _ _ a rfl rfl).trans (h2 r a)
    · exact (read_hit v f 1 256 i0 _ _ _ _ _ a rfl rfl).trans (h0 r a)

end Pieces

/-! ## The loop -/

section Loop

variable (c : Dev nD) (i : grid0.Coords) (arg3 : Memref sig .tc .vmem S1x512x256 .bf16) (harg3 : arg3.IsWhole)
  (arg4 : Memref sig .tc .vmem S1x8192x256 .bf16) (harg4 : arg4.IsWhole)
  (arg5 : Memref sig .tc .vmem S1x2x16x80x512 .bf16) (harg5 : arg5.IsWhole)
  (arg6 : Memref sig .tc .vmem S1x512x128 .bf16) (harg6 : arg6.IsWhole)
  (arg7 : Memref sig .tc .vmem S2x1x512 .f32) (harg7 : arg7.IsWhole) (arg8 : Memref sig .tc .vmem S2x80x512 .f32)
  (harg8 : arg8.IsWhole) (arg2 : BitVec 32)
  (v25 v28 : FVec Ideal S512x256 .bf16) (v33 : FVec Ideal S2x80x512 .f32)
  (X4 : BufTy.Contents (Elt Ideal) arg4.view.ty) (X5 : BufTy.Contents (Elt Ideal) arg5.view.ty)

/-- The queries of head `h` of the pair. -/
def qsel (v25 v28 : FVec Ideal S512x256 .bf16) (h : Fin 2) : S512x256.Idx → EReal := if h = 0 then v25 else v28

/-- Each maximum after a trip. -/
theorem trip7 (k : Fin (k0_t1_loop i).trips) (f7 : BufTy.Contents (Elt Ideal) arg7.view.ty) (f8 : BufTy.Contents (Elt Ideal) arg8.view.ty)
    (g : Fin 2) (t : Fin 512) :
    arg7.view.read (Elt Ideal) (arg7.view.writes (Elt Ideal) f7 ((tripL_k0_t1 Variants.none c none i arg3 harg3 arg4 harg4 arg5 harg5 arg6 harg6 arg7 harg7 arg8 harg8 arg2 v25 v28 v33 X4 X5 k f7 f8).1)) (ix3 g 0 t)
      = newM (arg7.view.read (Elt Ideal) f7 (ix3 g 0 t)) (sc (arg4.view.read (Elt Ideal) X4) (qsel v25 v28 g) k.val t) := by
  unfold tripL_k0_t1 trip_k0_t1
  refine read_four arg7.view f7 _ _ _ _ _ _ _ _ [] (fun g _ t => newM (arg7.view.read (Elt Ideal) f7 (ix3 g 0 t))
    (sc (arg4.view.read (Elt Ideal) X4) (qsel v25 v28 g) k.val t)) ?_ ?_ ?_ ?_ g 0 t
  all_goals intro r a; obtain rfl : r = 0 := Subsingleton.elim _ _
  · pointwise [k0_pay57]; exact v300_at ..
  · unfold trip_k0_t1.sl.v295; pointwise []; exact v274_at ..
  · unfold trip_k0_t1.sl.v267; pointwise []; exact v246_at ..
  · unfold trip_k0_t1.sl.v239; pointwise []; exact v218_at ..

/-- Each weighted sum after a trip. -/
theorem trip8 (k : Fin (k0_t1_loop i).trips) (f7 : BufTy.Contents (Elt Ideal) arg7.view.ty) (f8 : BufTy.Contents (Elt Ideal) arg8.view.ty)
    (g : Fin 2) (r : Fin 80) (t : Fin 512) :
    arg8.view.read (Elt Ideal) (arg8.view.writes (Elt Ideal) f8 ((tripL_k0_t1 Variants.none c none i arg3 harg3 arg4 harg4 arg5 harg5 arg6 harg6 arg7 harg7 arg8 harg8 arg2 v25 v28 v33 X4 X5 k f7 f8).2)) (ix3 g r t)
      = newA (arg7.view.read (Elt Ideal) f7 (ix3 g 0 t)) (arg8.view.read (Elt Ideal) f8 (ix3 g r t))
        (sc (arg4.view.read (Elt Ideal) X4) (qsel v25 v28 g) k.val t) (vl (arg5.view.read (Elt Ideal) X5) g r k.val) := by
  unfold tripL_k0_t1 trip_k0_t1
  refine read_four arg8.view f8 _ _ _ _ _ _ _ _ [] (fun g r t => newA (arg7.view.read (Elt Ideal) f7 (ix3 g 0 t)) (arg8.view.read (Elt Ideal) f8 (ix3 g r t))
        (sc (arg4.view.read (Elt Ideal) X4) (qsel v25 v28 g) k.val t) (vl (arg5.view.read (Elt Ideal) X5) g r k.val)) ?_ ?_ ?_ ?_ g r t
  all_goals intro r a
  · exact pay56_at ..
  · exact v292_at ..
  · exact v264_at ..
  · exact v236_at ..

/-- Before trip `n` the two buffers hold the running maxima and the running sums of the first `n` blocks. -/
theorem loop_at (G7 : BufTy.Contents (Elt Ideal) arg7.view.ty) (G8 : BufTy.Contents (Elt Ideal) arg8.view.ty)
    (h7 : ∀ g t, arg7.view.read (Elt Ideal) G7 (ix3 g 0 t) = ⊥) (h8 : ∀ g r t, arg8.view.read (Elt Ideal) G8 (ix3 g r t) = 0)
    (n : ℕ) (hn : n ≤ (k0_t1_loop i).trips) :
    (∀ g t, arg7.view.read (Elt Ideal) (arg7.view.writes (Elt Ideal) G7 (pb_k0_t1 Variants.none c none i arg3 harg3 arg4 harg4 arg5 harg5 arg6 harg6 arg7 harg7 arg8 harg8 arg2 v25 v28 v33 X4 X5 G7 G8 n).1) (ix3 g 0 t)
      = Online.runMax (fun n => sc (arg4.view.read (Elt Ideal) X4) (qsel v25 v28 g) n t) n)
    ∧ ∀ g r t, arg8.view.read (Elt Ideal) (arg8.view.writes (Elt Ideal) G8 (pb_k0_t1 Variants.none c none i arg3 harg3 arg4 harg4 arg5 harg5 arg6 harg6 arg7 harg7 arg8 harg8 arg2 v25 v28 v33 X4 X5 G7 G8 n).2) (ix3 g r t)
      = Online.runSum (fun n => sc (arg4.view.read (Elt Ideal) X4) (qsel v25 v28 g) n t) (vl (arg5.view.read (Elt Ideal) X5) g r) n := by
  induction n with
  | zero => exact ⟨h7, h8⟩
  | succ n ih =>
    obtain ⟨i7, i8⟩ := ih (Nat.le_of_succ_le hn)
    rw [pb_k0_t1_succ Variants.none c none i arg3 harg3 arg4 harg4 arg5 harg5 arg6 harg6 arg7 harg7 arg8 harg8 arg2 v25 v28 v33 X4 X5 G7 G8 ⟨n, hn⟩]
    dsimp only
    refine ⟨fun g t => ?_, fun g r t => ?_⟩
    · rw [View.writes_append]
      refine (trip7 ..).trans ?_
      rw [i7]; rfl
    · rw [View.writes_append]
      refine (trip8 ..).trans ?_
      rw [i7, i8]; rfl

end Loop

end Cert.Attn

end
-- ==== Proof.AttnDiag.lean ====
module

public import proofs.«01_k».proof.Proof.AttnLoop
public import Idealize.ShloMosaic.Lib.WordCmp

@[expose] public section

set_option maxRecDepth 16384

noncomputable section

namespace Cert.Attn
open Cert.KernelIdeal Cert.KernelIdeal.Gen Idealize.ShloMosaic Idealize.ShloMosaic.TcCoe Idealize.SL.Sem

/-! ## The named mask and the comparisons of positions -/

/-- The named mask denotes minus infinity. -/
theorem mask_eq : Named.named (F := Ideal) κ "mask" (φ := .f32) 4048155338#32 = (⊥ : EReal) :=
  IdealRules.named_const.ideal_named_scalar _ _ _ _ rfl

/-- The masked scores of the query's own block. -/
def sd (K : S1x8192x256.Idx → EReal) (Q : S512x256.Idx → EReal) (n : ℕ) (t b : Fin 512) : EReal :=
  if b.val ≤ t.val then sc K Q n t b else ⊥

/-- The causal comparison, by the positions within the block. -/
theorem mask_sel (b : Fin 512) (a : Fin 256) (o : ℕ) (ho : o ≤ 256) (x : EReal) :
    Scalar.select (IntOp.cmpi .sle (BitVec.ofNat 32 b.val) (IntOp.addi (BitVec.ofNat 32 a.val) (BitVec.ofNat 32 o))) x
      (Named.named (F := Ideal) κ "mask" (φ := .f32) 4048155338#32) = if b.val ≤ a.val + o then x else ⊥ := by
  rw [mask_eq]
  have h : IntOp.addi (BitVec.ofNat 32 a.val) (BitVec.ofNat 32 o) = BitVec.ofNat 32 (a.val + o) := (BitVec.ofNat_add ..).symm
  rw [h, Scalar.select]
  have hb := b.isLt
  have ha := a.isLt
  by_cases hc : b.val ≤ a.val + o
  · rw [if_pos hc, if_pos]; exact (WordCmp.cmpi_sle_ofNat_eq_one_iff (by norm_num; omega) (by norm_num; omega)).mpr hc
  · rw [if_neg hc, if_neg]; exact fun h => hc ((WordCmp.cmpi_sle_ofNat_eq_one_iff (by norm_num; omega) (by norm_num; omega)).mp h)

/-! ## The payloads of the masked step -/

section Pay

variable (q : FVec Ideal S512x256 .bf16) (v45 : Vec Ideal S1x512x256 .bf16) (s : FVec Ideal S512x256 .f32)
  (m : Vec Ideal S1x1x256 .f32) (A : Vec Ideal S1x80x256 .f32) (v : Vec Ideal S1x1x1x80x512 .bf16)

/-- A unit's scores, masked, for the half `f` of the queries. -/
def msk (f : Fin 256 → Fin 512) (s : Fin 512 → Fin 256 → EReal) (a : Fin 256) (b : Fin 512) : EReal :=
  if b.val ≤ (f a).val then s b a else ⊥

theorem pay62_at (b : Fin 512) (a : Fin 256) : k0_pay62 q v45 (ix2 b a)
    = msk lo (fun b a => ∑ l : Fin 256, v45 (ix3 0 b l) * q (ix2 (lo a) l)) a b := by
  pointwise [k0_pay62, k0_pay60]
  exact mask_sel b a 0 (by norm_num) _

theorem pay70_at (b : Fin 512) (a : Fin 256) : k0_pay70 s (ix2 b a) = msk hi (fun b a => s (ix2 b a)) a b := by
  pointwise [k0_pay70]
  refine (mask_sel b a 256 le_rfl _).trans ?_
  rw [msk, show (hi a).val = a.val + 256 from Nat.add_comm _ _]

theorem pay78_at (b : Fin 512) (a : Fin 256) : k0_pay78 s (ix2 b a) = msk lo (fun b a => s (ix2 b a)) a b := by
  pointwise [k0_pay78]
  exact mask_sel b a 0 (by norm_num) _

theorem pay85_at (b : Fin 512) (a : Fin 256) : k0_pay85 s (ix2 b a) = msk hi (fun b a => s (ix2 b a)) a b := by
  pointwise [k0_pay85]
  refine (mask_sel b a 256 le_rfl _).trans ?_
  rw [msk, show (hi a).val = a.val + 256 from Nat.add_comm _ _]

theorem pay61_at (b : Fin 512) (a : Fin 256) : k0_pay61 q v45 (ix2 b a) = ∑ l : Fin 256, v45 (ix3 0 b l) * q (ix2 (hi a) l) := by
  pointwise [k0_pay61, k0_pay60]; rfl

theorem pay69_at (w : FVec Ideal S512x256 .bf16) (b : Fin 512) (a : Fin 256) :
    k0_pay69 q w (ix2 b a) = ∑ l : Fin 256, w (ix2 b l) * q (ix2 (lo a) l) := by
  pointwise [k0_pay69]; rfl

theorem pay77_at (w : FVec Ideal S512x256 .bf16) (b : Fin 512) (a : Fin 256) :
    k0_pay77 q w (ix2 b a) = ∑ l : Fin 256, w (ix2 b l) * q (ix2 (hi a) l) := by
  pointwise [k0_pay77]; rfl

theorem pay64_at (a : Fin 256) : k0_pay64 q v45 m (ix2 0 a)
    = newM (m (ix3 0 0 a)) (msk lo (fun b a => ∑ l : Fin 256, v45 (ix3 0 b l) * q (ix2 (lo a) l)) a) := by
  pointwise [k0_pay64, k0_pay63, pay62_at]; rw [fold_max]; rfl

theorem pay72_at (a : Fin 256) : k0_pay72 s m (ix2 0 a) = newM (m (ix3 0 0 a)) (msk hi (fun b a => s (ix2 b a)) a) := by
  pointwise [k0_pay72, k0_pay71, pay70_at]; rw [fold_max]; rfl

theorem pay80_at (a : Fin 256) : k0_pay80 s m (ix2 0 a) = newM (m (ix3 0 0 a)) (msk lo (fun b a => s (ix2 b a)) a) := by
  pointwise [k0_pay80, k0_pay79, pay78_at]; rw [fold_max]; rfl

theorem pay87_at (a : Fin 256) : k0_pay87 s m (ix2 0 a) = newM (m (ix3 0 0 a)) (msk hi (fun b a => s (ix2 b a)) a) := by
  pointwise [k0_pay87, k0_pay86, pay85_at]; rw [fold_max]; rfl

theorem pay67_at (r : Fin 80) (a : Fin 256) : k0_pay67 (k0_pay65 q v45 m) (k0_pay66 q v45 m A) v (ix3 0 r a)
    = newA (m (ix3 0 0 a)) (A (ix3 0 r a)) (msk lo (fun b a => ∑ l : Fin 256, v45 (ix3 0 b l) * q (ix2 (lo a) l)) a)
        (fun b => v (ix5 0 0 0 r b)) := by
  pointwise [k0_pay67, k0_pay66, k0_pay65, k0_pay63, pay62_at, pay64_at]; rfl

theorem pay75_at (r : Fin 80) (a : Fin 256) : k0_pay75 (k0_pay73 s m) (k0_pay74 s m A) v (ix3 0 r a)
    = newA (m (ix3 0 0 a)) (A (ix3 0 r a)) (msk hi (fun b a => s (ix2 b a)) a) (fun b => v (ix5 0 0 0 r b)) := by
  pointwise [k0_pay75, k0_pay74, k0_pay73, k0_pay71, pay70_at, pay72_at]; rfl

theorem pay83_at (r : Fin 80) (a : Fin 256) : k0_pay83 (k0_pay81 s m) (k0_pay82 s m A) v (ix3 0 r a)
    = newA (m (ix3 0 0 a)) (A (ix3 0 r a)) (msk lo (fun b a => s (ix2 b a)) a) (fun b => v (ix5 0 0 0 r b)) := by
  pointwise [k0_pay83, k0_pay82, k0_pay81, k0_pay79, pay78_at, pay80_at]; rfl

theorem pay88_at (r : Fin 80) (a : Fin 256) : k0_pay1 (k0_pay88 s m A v) (ix3 0 r a)
    = newA (m (ix3 0 0 a)) (A (ix3 0 r a)) (msk hi (fun b a => s (ix2 b a)) a) (fun b => v (ix5 0 0 0 r b)) := by
  pointwise [k0_pay1, k0_pay88, k0_pay86, pay85_at, pay87_at]; rfl

end Pay

end Cert.Attn

end
-- ==== Proof.AttnRun.lean ====
module

public import proofs.«01_k».proof.Proof.AttnDiag

@[expose] public section

set_option maxRecDepth 16384

noncomputable section

namespace Cert.Attn
open Cert.KernelIdeal Cert.KernelIdeal.Gen Idealize.ShloMosaic Idealize.ShloMosaic.TcCoe Idealize.SL.Sem

/-! ## The masked step's loads -/

section Run

variable (c : Dev nD) (i : grid0.Coords) (arg3 : Memref sig .tc .vmem S1x512x256 .bf16) (harg3 : arg3.IsWhole)
  (arg4 : Memref sig .tc .vmem S1x8192x256 .bf16) (harg4 : arg4.IsWhole)
  (arg5 : Memref sig .tc .vmem S1x2x16x80x512 .bf16) (harg5 : arg5.IsWhole)
  (arg6 : Memref sig .tc .vmem S1x512x128 .bf16) (harg6 : arg6.IsWhole)
  (arg7 : Memref sig .tc .vmem S2x1x512 .f32) (harg7 : arg7.IsWhole) (arg8 : Memref sig .tc .vmem S2x80x512 .f32)
  (harg8 : arg8.IsWhole)
  (x0 : Vec Ideal S1x512x256 .bf16) (x1 : Vec Ideal S1x8192x256 .bf16) (x2 : Vec Ideal S1x2x16x80x512 .bf16)

/-- The second loop makes no trip. -/
theorem trips2 : (k0_t2_loop i).trips = 0 := by
  have h : ∀ j : Fin 16, Scf.trips (Scalar.addi 0#32 (Scalar.muli (Scalar.divsi (Scalar.subi (BitVec.ofNat 32 j.val) 0#32) 1#32) 1#32))
      (Scalar.addi 0#32 (Scalar.subi (BitVec.ofNat 32 j.val) 0#32)) 1#32 = 0 := by decide +kernel
  exact h (i 2)

theorem off7 : k0_off7 i = ![0, 512 * (i 2).val, 0] := by
  have h : ∀ j : Fin 16, (Scalar.indexCast (Scalar.muli (BitVec.ofNat 32 j.val) 512#32)).toNat = 512 * j.val := by decide +kernel
  exact congrArg (fun n => (![0, n, 0] : Fin 3 → ℕ)) (h (i 2))

theorem off8 : k0_off8 i = ![0, 0, (i 2).val, 0, 0] := by
  have h : ∀ j : Fin 16, (Scalar.indexCast (BitVec.ofNat 32 j.val)).toNat = j.val := by decide +kernel
  exact congrArg (fun n => (![0, 0, n, 0, 0] : Fin 5 → ℕ)) (h (i 2))

theorem off9 : k0_off9 i = ![0, 1, (i 2).val, 0, 0] := by
  have h : ∀ j : Fin 16, (Scalar.indexCast (BitVec.ofNat 32 j.val)).toNat = j.val := by decide +kernel
  exact congrArg (fun n => (![0, 1, n, 0, 0] : Fin 5 → ℕ)) (h (i 2))

theorem i2_lt : (i 2).val < 16 := (i 2).isLt

/-- The key block's load. -/
theorem key_at (b : Fin 512) (l : Fin 256) :
    arg4.view.readAt (Elt Ideal) (Rect.unit (s := S1x8192x256) (k0_off7 i) S1x512x256.size (k0_off7_inb i)).toLoadRect (harg4.unread x1) (ix3 0 b l)
      = x1 (ix3 0 ⟨512 * (i 2).val + b.val, by have := i2_lt i; omega⟩ l) := by
  refine (readAt_at _ _ _ _ (ix3 0 ⟨512 * (i 2).val + b.val, by have := i2_lt i; omega⟩ l) (off7 i) fun a => ?_).trans
    (congrFun (Memref.IsWhole.read_unread harg4 x1) _)
  fin_cases a <;> simp [ix3]

/-- The loads of the two heads' values. -/
theorem val0_at (r : Fin 80) (b : Fin 512) :
    arg5.view.readAt (Elt Ideal) (Rect.unit (s := S1x2x16x80x512) (k0_off8 i) S1x1x1x80x512.size (k0_off8_inb i)).toLoadRect (harg5.unread x2) (ix5 0 0 0 r b)
      = vl x2 0 r (i 2).val b := by
  rw [vl, dif_pos (i2_lt i)]
  refine (readAt_at _ _ _ _ (ix5 0 0 ⟨(i 2).val, i2_lt i⟩ r b) (off8 i) fun a => ?_).trans
    (congrFun (Memref.IsWhole.read_unread harg5 x2) _)
  fin_cases a <;> simp [ix5]

theorem val1_at (r : Fin 80) (b : Fin 512) :
    arg5.view.readAt (Elt Ideal) (Rect.unit (s := S1x2x16x80x512) (k0_off9 i) S1x1x1x80x512.size (k0_off9_inb i)).toLoadRect (harg5.unread x2) (ix5 0 0 0 r b)
      = vl x2 1 r (i 2).val b := by
  rw [vl, dif_pos (i2_lt i)]
  refine (readAt_at _ _ _ _ (ix5 0 1 ⟨(i 2).val, i2_lt i⟩ r b) (off9 i) fun a => ?_).trans
    (congrFun (Memref.IsWhole.read_unread harg5 x2) _)
  fin_cases a <;> simp [ix5]

/-- The two heads' queries as the run holds them. -/
def qs (g : Fin 2) : S512x256.Idx → EReal :=
  qsel (kernelRun0_A.sl.r (F := Ideal) c arg3 harg3 x0) (kernelRun0_A.sl.r_1 (F := Ideal) c arg3 harg3 x0) g

/-- The running maximum of the blocks before the diagonal, -/
def M0 (g : Fin 2) (t : Fin 512) : EReal := Online.runMax (fun n => sc x1 (qs c arg3 harg3 x0 g) n t) (i 2).val

/-- and the running sums. -/
def A0 (g : Fin 2) (r : Fin 80) (t : Fin 512) : EReal :=
  Online.runSum (fun n => sc x1 (qs c arg3 harg3 x0 g) n t) (vl x2 g r) (i 2).val

/-- The first contents: minus infinity -/
theorem init7 (g : Fin 2) (t : Fin 512) : arg7.view.read (Elt Ideal)
    (arg7.view.writes (Elt Ideal) arg7.view.junk (kernelRun0_A.sl.HS0_1 (F := Ideal))) (ix3 g 0 t) = ⊥ := by
  unfold kernelRun0_A.sl.HS0_1
  refine (View.read_writes_cons_unit_of_mem arg7.view _ _ _ _ _ (ix3 (n0 := 2) (n1 := 1) (n2 := 512) g 0 t) rfl fun a => ?_).trans ?_
  · fin_cases a <;> simp [ix3]
  · pointwise [k0_pay53]; exact mask_eq

/-- and zero. -/
theorem init8 (g : Fin 2) (r : Fin 80) (t : Fin 512) : arg8.view.read (Elt Ideal)
    (arg8.view.writes (Elt Ideal) arg8.view.junk (kernelRun0_A.sl.HS1_1 (F := Ideal))) (ix3 g r t) = 0 := by
  unfold kernelRun0_A.sl.HS1_1
  refine (View.read_writes_cons_unit_of_mem arg8.view _ _ _ _ _ (ix3 (n0 := 2) (n1 := 80) (n2 := 512) g r t) rfl fun a => ?_).trans ?_
  · fin_cases a <;> simp [ix3]
  · pointwise [k0_pay55, k0_pay54]

/-- After the loops: the maxima, -/
theorem base7 (g : Fin 2) (t : Fin 512) : arg7.view.read (Elt Ideal) (arg7.view.writes (Elt Ideal) arg7.view.junk
    (kernelRun0_A.sl.HS0_1_1 (F := Ideal) c i arg3 harg3 arg4 harg4 arg5 harg5 arg6 harg6 arg7 harg7 arg8 harg8 x0 x1 x2).tail) (ix3 g 0 t) = M0 c i arg3 harg3 x0 x1 g t := by
  unfold kernelRun0_A.sl.HS0_1_1
  rw [List.tail_cons, show Scf.trips (k0_t2_loop i).lb (k0_t2_loop i).ub (k0_t2_loop i).st = 0 from trips2 i]
  have h := (loop_at c i arg3 harg3 arg4 harg4 arg5 harg5 arg6 harg6 arg7 harg7 arg8 harg8 (BitVec.ofNat 32 (i 2).val)
    (kernelRun0_A.sl.r (F := Ideal) c arg3 harg3 x0) (kernelRun0_A.sl.r_1 (F := Ideal) c arg3 harg3 x0) k0_pay54 (harg4.unread x1) (harg5.unread x2)
    _ _ (init7 arg7) (init8 arg8) _ le_rfl).1 g t
  rw [Memref.IsWhole.read_unread harg4 x1] at h
  refine Eq.trans ?_ (h.trans ?_)
  · rw [← View.writes_append]; rfl
  · rw [trips1]; rfl

/-- and the sums. -/
theorem base8 (g : Fin 2) (r : Fin 80) (t : Fin 512) : arg8.view.read (Elt Ideal) (arg8.view.writes (Elt Ideal) arg8.view.junk
    (kernelRun0_A.sl.HS1_1_1 (F := Ideal) c i arg3 harg3 arg4 harg4 arg5 harg5 arg6 harg6 arg7 harg7 arg8 harg8 x0 x1 x2).tail) (ix3 g r t) = A0 c i arg3 harg3 x0 x1 x2 g r t := by
  unfold kernelRun0_A.sl.HS1_1_1
  rw [List.tail_cons, show Scf.trips (k0_t2_loop i).lb (k0_t2_loop i).ub (k0_t2_loop i).st = 0 from trips2 i]
  have h := (loop_at c i arg3 harg3 arg4 harg4 arg5 harg5 arg6 harg6 arg7 harg7 arg8 harg8 (BitVec.ofNat 32 (i 2).val)
    (kernelRun0_A.sl.r (F := Ideal) c arg3 harg3 x0) (kernelRun0_A.sl.r_1 (F := Ideal) c arg3 harg3 x0) k0_pay54 (harg4.unread x1) (harg5.unread x2)
    _ _ (init7 arg7) (init8 arg8) _ le_rfl).2 g r t
  rw [Memref.IsWhole.read_unread harg4 x1, Memref.IsWhole.read_unread harg5 x2] at h
  refine Eq.trans ?_ (h.trans ?_)
  · rw [← View.writes_append]; rfl
  · rw [trips1]; rfl

theorem v58_at (a : Fin 256) : kernelRun0_A.sl.v58 (F := Ideal) c i arg3 harg3 arg4 harg4 arg5 harg5 arg6 harg6 arg7 harg7 arg8 harg8 x0 x1 x2 (ix3 0 0 a) = M0 c i arg3 harg3 x0 x1 0 (lo a) := by
  unfold kernelRun0_A.sl.v58 View.readCov
  refine (readAt_at _ _ _ _ (ix3 0 0 (lo a)) rfl fun a => ?_).trans ?_
  · fin_cases a <;> simp [ix3, lo, hi]
  exact base7 c i arg3 harg3 arg4 harg4 arg5 harg5 arg6 harg6 arg7 harg7 arg8 harg8 x0 x1 x2 0 (lo a)

theorem v69_at (r : Fin 80) (a : Fin 256) : kernelRun0_A.sl.v69 (F := Ideal) c i arg3 harg3 arg4 harg4 arg5 harg5 arg6 harg6 arg7 harg7 arg8 harg8 x0 x1 x2 (ix3 0 r a) = A0 c i arg3 harg3 x0 x1 x2 0 r (lo a) := by
  unfold kernelRun0_A.sl.v69 View.readCov
  refine (readAt_at _ _ _ _ (ix3 0 r (lo a)) rfl fun a => ?_).trans ?_
  · fin_cases a <;> simp [ix3, lo, hi]
  exact base8 c i arg3 harg3 arg4 harg4 arg5 harg5 arg6 harg6 arg7 harg7 arg8 harg8 x0 x1 x2 0 r (lo a)

theorem v93_at (a : Fin 256) : kernelRun0_A.sl.v93 (F := Ideal) c i arg3 harg3 arg4 harg4 arg5 harg5 arg6 harg6 arg7 harg7 arg8 harg8 x0 x1 x2 (ix3 0 0 a) = M0 c i arg3 harg3 x0 x1 0 (hi a) := by
  unfold kernelRun0_A.sl.v93 kernelRun0_A.sl.HS0_1_1 View.readCov
  refine (readAt_at _ _ _ _ (ix3 0 0 (hi a)) rfl fun a => ?_).trans ?_
  · fin_cases a <;> simp [ix3, lo, hi]
  refine (read_half arg7.view _ 0 0 _ _ _ _ _ _ (.inr (Nat.le_add_right _ _))).trans ?_
  exact base7 c i arg3 harg3 arg4 harg4 arg5 harg5 arg6 harg6 arg7 harg7 arg8 harg8 x0 x1 x2 0 (hi a)

theorem v104_at (r : Fin 80) (a : Fin 256) : kernelRun0_A.sl.v104 (F := Ideal) c i arg3 harg3 arg4 harg4 arg5 harg5 arg6 harg6 arg7 harg7 arg8 harg8 x0 x1 x2 (ix3 0 r a) = A0 c i arg3 harg3 x0 x1 x2 0 r (hi a) := by
  unfold kernelRun0_A.sl.v104 kernelRun0_A.sl.HS1_1_1 View.readCov
  refine (readAt_at _ _ _ _ (ix3 0 r (hi a)) rfl fun a => ?_).trans ?_
  · fin_cases a <;> simp [ix3, lo, hi]
  refine (read_half arg8.view _ 0 0 _ _ _ _ _ _ (.inr (Nat.le_add_right _ _))).trans ?_
  exact base8 c i arg3 harg3 arg4 harg4 arg5 harg5 arg6 harg6 arg7 harg7 arg8 harg8 x0 x1 x2 0 r (hi a)

theorem v128_at (a : Fin 256) : kernelRun0_A.sl.v128 (F := Ideal) c i arg3 harg3 arg4 harg4 arg5 harg5 arg6 harg6 arg7 harg7 arg8 harg8 x0 x1 x2 (ix3 0 0 a) = M0 c i arg3 harg3 x0 x1 1 (lo a) := by
  unfold kernelRun0_A.sl.v128 kernelRun0_A.sl.HS0_2 kernelRun0_A.sl.HS0_1_1 View.readCov
  refine (readAt_at _ _ _ _ (ix3 1 0 (lo a)) rfl fun a => ?_).trans ?_
  · fin_cases a <;> simp [ix3, lo, hi]
  refine (read_head arg7.view _ 0 256 _ _ _ _ _ _ (by decide)).trans ?_
  refine (read_head arg7.view _ 0 0 _ _ _ _ _ _ (by decide)).trans ?_
  exact base7 c i arg3 harg3 arg4 harg4 arg5 harg5 arg6 harg6 arg7 harg7 arg8 harg8 x0 x1 x2 1 (lo a)

theorem v139_at (r : Fin 80) (a : Fin 256) : kernelRun0_A.sl.v139 (F := Ideal) c i arg3 harg3 arg4 harg4 arg5 harg5 arg6 harg6 arg7 harg7 arg8 harg8 x0 x1 x2 (ix3 0 r a) = A0 c i arg3 harg3 x0 x1 x2 1 r (lo a) := by
  unfold kernelRun0_A.sl.v139 kernelRun0_A.sl.HS1_2 kernelRun0_A.sl.HS1_1_1 View.readCov
  refine (readAt_at _ _ _ _ (ix3 1 r (lo a)) rfl fun a => ?_).trans ?_
  · fin_cases a <;> simp [ix3, lo, hi]
  refine (read_head arg8.view _ 0 256 _ _ _ _ _ _ (by decide)).trans ?_
  refine (read_head arg8.view _ 0 0 _ _ _ _ _ _ (by decide)).trans ?_
  exact base8 c i arg3 harg3 arg4 harg4 arg5 harg5 arg6 harg6 arg7 harg7 arg8 harg8 x0 x1 x2 1 r (lo a)

theorem v161_at (a : Fin 256) : kernelRun0_A.sl.v161 (F := Ideal) c i arg3 harg3 arg4 harg4 arg5 harg5 arg6 harg6 arg7 harg7 arg8 harg8 x0 x1 x2 (ix3 0 0 a) = M0 c i arg3 harg3 x0 x1 1 (hi a) := by
  unfold kernelRun0_A.sl.v161 kernelRun0_A.sl.HS0_3 kernelRun0_A.sl.HS0_2 kernelRun0_A.sl.HS0_1_1 View.readCov
  refine (readAt_at _ _ _ _ (ix3 1 0 (hi a)) rfl fun a => ?_).trans ?_
  · fin_cases a <;> simp [ix3, lo, hi]
  refine (read_half arg7.view _ 1 0 _ _ _ _ _ _ (.inr (Nat.le_add_right _ _))).trans ?_
  refine (read_head arg7.view _ 0 256 _ _ _ _ _ _ (by decide)).trans ?_
  refine (read_head arg7.view _ 0 0 _ _ _ _ _ _ (by decide)).trans ?_
  exact base7 c i arg3 harg3 arg4 harg4 arg5 harg5 arg6 harg6 arg7 harg7 arg8 harg8 x0 x1 x2 1 (hi a)

theorem v172_at (r : Fin 80) (a : Fin 256) : kernelRun0_A.sl.v172 (F := Ideal) c i arg3 harg3 arg4 harg4 arg5 harg5 arg6 harg6 arg7 harg7 arg8 harg8 x0 x1 x2 (ix3 0 r a) = A0 c i arg3 harg3 x0 x1 x2 1 r (hi a) := by
  unfold kernelRun0_A.sl.v172 kernelRun0_A.sl.HS1_3 kernelRun0_A.sl.HS1_2 kernelRun0_A.sl.HS1_1_1 View.readCov
  refine (readAt_at _ _ _ _ (ix3 1 r (hi a)) rfl fun a => ?_).trans ?_
  · fin_cases a <;> simp [ix3, lo, hi]
  refine (read_half arg8.view _ 1 0 _ _ _ _ _ _ (.inr (Nat.le_add_right _ _))).trans ?_
  refine (read_head arg8.view _ 0 256 _ _ _ _ _ _ (by decide)).trans ?_
  refine (read_head arg8.view _ 0 0 _ _ _ _ _ _ (by decide)).trans ?_
  exact base8 c i arg3 harg3 arg4 harg4 arg5 harg5 arg6 harg6 arg7 harg7 arg8 harg8 x0 x1 x2 1 r (hi a)

/-! ## The masked scores of the four units -/

theorem key60_at (b : Fin 512) (l : Fin 256) : kernelRun0_A.sl.r_2 (F := Ideal) i arg4 harg4 x1 (ix2 b l)
    = x1 (ix3 0 ⟨512 * (i 2).val + b.val, by have := i2_lt i; omega⟩ l) := by
  unfold kernelRun0_A.sl.r_2
  pointwise [k0_pay60]
  exact key_at ..

theorem sd0lo (a : Fin 256) : msk lo (fun b a => ∑ l : Fin 256, arg4.view.readAt (Elt Ideal) (Rect.unit (s := S1x8192x256) (k0_off7 i) S1x512x256.size (k0_off7_inb i)).toLoadRect (harg4.unread x1) (ix3 0 b l)
      * kernelRun0_A.sl.r (F := Ideal) c arg3 harg3 x0 (ix2 (lo a) l)) a = sd x1 (qs c arg3 harg3 x0 0) (i 2).val (lo a) := by
  funext b
  rw [sd, sc, dif_pos (i2_lt i)]
  exact if_congr Iff.rfl (Finset.sum_congr rfl fun l _ => congrArg (· * _) (key_at ..)) rfl

theorem sd0hi (a : Fin 256) : msk hi (fun b a => kernelRun0_A.sl.r_3 (F := Ideal) c i arg3 harg3 arg4 harg4 x0 x1 (ix2 b a)) a
    = sd x1 (qs c arg3 harg3 x0 0) (i 2).val (hi a) := by
  funext b
  simp only [msk, kernelRun0_A.sl.r_3, pay61_at]
  rw [sd, sc, dif_pos (i2_lt i)]
  exact if_congr Iff.rfl (Finset.sum_congr rfl fun l _ => congrArg (· * _) (key_at ..)) rfl

theorem sd1lo (a : Fin 256) : msk lo (fun b a => kernelRun0_A.sl.r_7 (F := Ideal) c i arg3 harg3 arg4 harg4 x0 x1 (ix2 b a)) a
    = sd x1 (qs c arg3 harg3 x0 1) (i 2).val (lo a) := by
  funext b
  simp only [msk, kernelRun0_A.sl.r_7, pay69_at, key60_at]
  rw [sd, sc, dif_pos (i2_lt i)]; rfl

theorem sd1hi (a : Fin 256) : msk hi (fun b a => kernelRun0_A.sl.r_11 (F := Ideal) c i arg3 harg3 arg4 harg4 x0 x1 (ix2 b a)) a
    = sd x1 (qs c arg3 harg3 x0 1) (i 2).val (hi a) := by
  funext b
  simp only [msk, kernelRun0_A.sl.r_11, pay77_at, key60_at]
  rw [sd, sc, dif_pos (i2_lt i)]; rfl

/-- The weighted sums the run ends with. -/
def A1 (g : Fin 2) (r : Fin 80) (t : Fin 512) : EReal :=
  newA (M0 c i arg3 harg3 x0 x1 g t) (A0 c i arg3 harg3 x0 x1 x2 g r t) (sd x1 (qs c arg3 harg3 x0 g) (i 2).val t) (vl x2 g r (i 2).val)

theorem last8 (g : Fin 2) (r : Fin 80) (t : Fin 512) : arg8.view.read (Elt Ideal) (arg8.view.writes (Elt Ideal) arg8.view.junk
    (kernelRun0_A.sl.HS1_4 (F := Ideal) c i arg3 harg3 arg4 harg4 arg5 harg5 arg6 harg6 arg7 harg7 arg8 harg8 x0 x1 x2)) (ix3 g r t) = A1 c i arg3 harg3 x0 x1 x2 g r t := by
  unfold kernelRun0_A.sl.HS1_4 kernelRun0_A.sl.HS1_3 kernelRun0_A.sl.HS1_2 kernelRun0_A.sl.HS1_1_1
  refine read_four arg8.view _ _ _ _ _ _ _ _ _ _ (A1 c i arg3 harg3 x0 x1 x2) ?_ ?_ ?_ ?_ g r t
  all_goals intro r a
  · unfold kernelRun0_A.sl.r_16
    refine (pay88_at _ _ _ _ r a).trans ?_
    rw [v161_at, v172_at, sd1hi]
    exact congrArg _ (funext fun b => val1_at ..)
  · unfold kernelRun0_A.sl.r_13 kernelRun0_A.sl.r_14
    refine (pay83_at _ _ _ _ r a).trans ?_
    rw [v128_at, v139_at, sd1lo]
    exact congrArg _ (funext fun b => val1_at ..)
  · unfold kernelRun0_A.sl.r_9 kernelRun0_A.sl.r_10
    refine (pay75_at _ _ _ _ r a).trans ?_
    rw [v93_at, v104_at, sd0hi]
    exact congrArg _ (funext fun b => val0_at ..)
  · unfold kernelRun0_A.sl.r_5 kernelRun0_A.sl.r_6
    refine (pay67_at _ _ _ _ _ r a).trans ?_
    rw [v58_at, v69_at, sd0lo]
    exact congrArg _ (funext fun b => val0_at ..)

theorem v187_at (r : Fin 80) (t : Fin 512) : kernelRun0_A.sl.v187 (F := Ideal) c i arg3 harg3 arg4 harg4 arg5 harg5 arg6 harg6 arg7 harg7 arg8 harg8 x0 x1 x2 (ix3 0 r t) = A1 c i arg3 harg3 x0 x1 x2 0 r t := by
  unfold kernelRun0_A.sl.v187 View.readCov
  refine (readAt_at _ _ _ _ (ix3 0 r t) rfl fun a => ?_).trans (last8 ..)
  fin_cases a <;> simp [ix3]

theorem v193_at (r : Fin 80) (t : Fin 512) : kernelRun0_A.sl.v193 (F := Ideal) c i arg3 harg3 arg4 harg4 arg5 harg5 arg6 harg6 arg7 harg7 arg8 harg8 x0 x1 x2 (ix3 0 r t) = A1 c i arg3 harg3 x0 x1 x2 1 r t := by
  unfold kernelRun0_A.sl.v193 View.readCov
  refine (readAt_at _ _ _ _ (ix3 1 r t) rfl fun a => ?_).trans (last8 ..)
  fin_cases a <;> simp [ix3]

/-- What a grid point leaves in its output block: each head's normalised sums. -/
theorem out_at (t : Fin 512) (l : Fin 128) : out0_A_3 (F := Ideal) c i arg3 harg3 arg4 harg4 arg5 harg5 arg6 harg6 arg7 harg7 arg8 harg8 x0 x1 x2 (ix3 0 t l)
    = if h : l.val < 64 then Ideal.div (A1 c i arg3 harg3 x0 x1 x2 0 ⟨l.val, by omega⟩ t) (A1 c i arg3 harg3 x0 x1 x2 0 64 t)
      else Ideal.div (A1 c i arg3 harg3 x0 x1 x2 1 ⟨l.val - 64, by omega⟩ t) (A1 c i arg3 harg3 x0 x1 x2 1 64 t) := by
  unfold out0_A_3 kernelRun0_A
  dsimp only
  refine (View.read_writes_cons_unit_of_mem _ _ _ _ _ _ (ix3 (n0 := 1) (n1 := 512) (n2 := 128) 0 t l) rfl fun a => ?_).trans ?_
  · fin_cases a <;> simp [ix3]
  · pointwise [k0_pay3, v187_at, v193_at]

end Run

end Cert.Attn

end
-- ==== Proof.AttnBlock.lean ====
module

public import proofs.«01_k».proof.Proof.AttnMath
public import proofs.«01_k».proof.Proof.AttnRun

@[expose] public section

set_option maxRecDepth 16384

noncomputable section

namespace Cert.Attn
open Cert.KernelIdeal Cert.KernelIdeal.Gen Idealize.ShloMosaic Idealize.ShloMosaic.TcCoe Idealize.SL.Sem Cert.AttnMath Cert.Online

/-! ## The head's queries -/

/-- The lane masks of the two heads. -/
theorem mask0 : ∀ a : Fin 256, (IntOp.ori (IntOp.cmpi .slt (BitVec.ofNat 32 a.val) 64#32)
    (IntOp.andi (IntOp.cmpi .sge (BitVec.ofNat 32 a.val) 128#32) (IntOp.cmpi .slt (BitVec.ofNat 32 a.val) 134#32)) = 1#1)
    ↔ (a.val < 64 ∨ (128 ≤ a.val ∧ a.val < 134)) := by decide +kernel

theorem mask1 : ∀ a : Fin 256, (IntOp.ori
    (IntOp.andi (IntOp.cmpi .sge (BitVec.ofNat 32 a.val) 64#32) (IntOp.cmpi .slt (BitVec.ofNat 32 a.val) 128#32))
    (IntOp.andi (IntOp.cmpi .sge (BitVec.ofNat 32 a.val) 134#32) (IntOp.cmpi .slt (BitVec.ofNat 32 a.val) 140#32)) = 1#1)
    ↔ ((64 * 1 ≤ a.val ∧ a.val < 64 * 1 + 64) ∨ (128 + 6 * 1 ≤ a.val ∧ a.val < 134 + 6 * 1)) := by decide +kernel

section
variable (c : Dev nD) (i : grid0.Coords) (arg3 : Memref sig .tc .vmem S1x512x256 .bf16) (harg3 : arg3.IsWhole)
  (arg4 : Memref sig .tc .vmem S1x8192x256 .bf16) (harg4 : arg4.IsWhole)
  (arg5 : Memref sig .tc .vmem S1x2x16x80x512 .bf16) (harg5 : arg5.IsWhole)
  (arg6 : Memref sig .tc .vmem S1x512x128 .bf16) (harg6 : arg6.IsWhole)
  (arg7 : Memref sig .tc .vmem S2x1x512 .f32) (harg7 : arg7.IsWhole) (arg8 : Memref sig .tc .vmem S2x80x512 .f32)
  (harg8 : arg8.IsWhole)
  (x0 : Vec Ideal S1x512x256 .bf16) (x1 : Vec Ideal S1x8192x256 .bf16) (x2 : Vec Ideal S1x2x16x80x512 .bf16)

/-- The query block's load. -/
theorem query_at (t : Fin 512) (l : Fin 256) :
    arg3.view.readAt (Elt Ideal) (Rect.unit (s := S1x512x256) ![0, 0, 0] S1x512x256.size inb_S1x512x256_S1x512x256_0_0_0).toLoadRect (harg3.unread x0) (ix3 0 t l)
      = x0 (ix3 0 t l) := by
  refine (readAt_at _ _ _ _ (ix3 0 t l) rfl fun a => ?_).trans (congrFun (Memref.IsWhole.read_unread harg3 x0) _)
  fin_cases a <;> simp [ix3]

/-- A head's queries: its own lanes, the pair's other lanes zero. -/
theorem qs_at (g : Fin 2) (t : Fin 512) (l : Fin 256) : qs c arg3 harg3 x0 g (ix2 t l)
    = if (64 * g.val ≤ l.val ∧ l.val < 64 * g.val + 64) ∨ (128 + 6 * g.val ≤ l.val ∧ l.val < 134 + 6 * g.val) then x0 (ix3 0 t l) else 0 := by
  fin_cases g
  · show kernelRun0_A.sl.r (F := Ideal) c arg3 harg3 x0 (ix2 t l) = _
    unfold kernelRun0_A.sl.r
    pointwise [k0_pay51, k0_pay50]
    rw [Scalar.select]
    exact if_congr (mask0 l) (query_at ..) rfl
  · show kernelRun0_A.sl.r_1 (F := Ideal) c arg3 harg3 x0 (ix2 t l) = _
    unfold kernelRun0_A.sl.r_1
    pointwise [k0_pay52, k0_pay50]
    rw [Scalar.select]
    exact if_congr (mask1 l) (query_at ..) rfl

/-! ## A grid point computes the reference's attention -/

variable (X Y : FVec Ideal Cert.ReferenceIdeal.S2x8192x1024 .bf16) (Z : FVec Ideal Cert.ReferenceIdeal.S2x8x16x80x512 .bf16)
  (b : Fin 2) (p : Fin 4)

/-- Head `g` of pair `p`. -/
def head (p : Fin 4) (g : Fin 2) : Fin 8 := ⟨2 * p.val + g.val, by omega⟩

/-- The query of row `t` of the grid point's block. -/
def query (i : grid0.Coords) (t : Fin 512) : Fin 8192 := ⟨512 * (i 2).val + t.val, by have := i2_lt i; omega⟩

/-- A block's scores are the reference's products. -/
theorem sc_eq (h0 : ∀ t l, x0 (ix3 0 t l) = X (ix3 b (query i t) ⟨256 * p.val + l.val, by omega⟩))
    (h1 : ∀ k l, x1 (ix3 0 k l) = Y (ix3 b k ⟨256 * p.val + l.val, by omega⟩))
    (g : Fin 2) (n : ℕ) (hn : n < 16) (t k : Fin 512) :
    sc x1 (qs c arg3 harg3 x0 g) n t k = Cert.AttnRef.dotRow X Y b (head p g) (query i t) ⟨512 * n + k.val, by omega⟩ := by
  rw [sc, dif_pos hn, sum_lanes g _ fun l hl => by rw [qs_at, if_neg hl, mul_zero], Cert.AttnRef.dotRow]
  have hg := g.isLt
  refine congrArg₂ (· + ·) (Finset.sum_congr rfl fun x _ => ?_) (Finset.sum_congr rfl fun x _ => ?_)
  · have e : (⟨256 * p.val + (lane g (.inl x)).val, by have := (lane g (.inl x)).isLt; omega⟩ : Fin 1024)
        = ⟨256 * ((head p g).val / 2) + (64 * ((head p g).val % 2) + x.val), by have := (head p g).isLt; omega⟩ :=
      Fin.ext (by show 256 * p.val + (64 * g.val + x.val) = 256 * ((2 * p.val + g.val) / 2) + (64 * ((2 * p.val + g.val) % 2) + x.val); omega)
    rw [qs_at, if_pos (.inl (by simp only [lane]; omega)), h0, h1, e, mul_comm]
  · have e : (⟨256 * p.val + (lane g (.inr x)).val, by have := (lane g (.inr x)).isLt; omega⟩ : Fin 1024)
        = ⟨256 * ((head p g).val / 2) + (128 + (6 * ((head p g).val % 2) + x.val)), by have := (head p g).isLt; omega⟩ :=
      Fin.ext (by show 256 * p.val + (128 + (6 * g.val + x.val)) = 256 * ((2 * p.val + g.val) / 2) + (128 + (6 * ((2 * p.val + g.val) % 2) + x.val)); omega)
    rw [qs_at, if_pos (.inr (by simp only [lane]; omega)), h0, h1, e, mul_comm]

/-- The grid point's weighted sums are the running sums of the reference's row of scores. -/
theorem A1_eq (h0 : ∀ t l, x0 (ix3 0 t l) = X (ix3 b (query i t) ⟨256 * p.val + l.val, by omega⟩))
    (h1 : ∀ k l, x1 (ix3 0 k l) = Y (ix3 b k ⟨256 * p.val + l.val, by omega⟩))
    (g : Fin 2) (r : Fin 80) (t : Fin 512) :
    A1 c i arg3 harg3 x0 x1 x2 g r t
      = runSum (blocks (Cert.AttnRef.score X Y b (head p g) (query i t))) (vl x2 g r) ((i 2).val + 1) := by
  have hi := i2_lt i
  have hlt : ∀ n < (i 2).val, (fun n => sc x1 (qs c arg3 harg3 x0 g) n t) n = blocks (Cert.AttnRef.score X Y b (head p g) (query i t)) n := by
    intro n hn
    funext k
    rw [blocks, dif_pos (by omega), Cert.AttnRef.score, if_pos (by show 512 * n + k.val ≤ 512 * (i 2).val + t.val; omega)]
    exact sc_eq c i arg3 harg3 x0 x1 X Y b p h0 h1 g n (by omega) t k
  have hd : sd x1 (qs c arg3 harg3 x0 g) (i 2).val t = blocks (Cert.AttnRef.score X Y b (head p g) (query i t)) (i 2).val := by
    funext k
    rw [blocks, dif_pos hi, Cert.AttnRef.score, sd]
    exact if_congr (by show k.val ≤ t.val ↔ 512 * (i 2).val + k.val ≤ 512 * (i 2).val + t.val; omega)
      (sc_eq c i arg3 harg3 x0 x1 X Y b p h0 h1 g _ hi t k) rfl
  rw [A1, M0, A0, hd, runMax_congr hlt, runSum_congr hlt fun _ _ => rfl]
  rfl

/-- So its normalised sums are the reference's attention. -/
theorem head_eq (h0 : ∀ t l, x0 (ix3 0 t l) = X (ix3 b (query i t) ⟨256 * p.val + l.val, by omega⟩))
    (h1 : ∀ k l, x1 (ix3 0 k l) = Y (ix3 b k ⟨256 * p.val + l.val, by omega⟩))
    (h2 : ∀ g n r k, x2 (ix5 0 g n r k) = Z (ix5 b (head p g) n r k))
    (hX : ∀ j, Fin' (X j)) (hY : ∀ j, Fin' (Y j)) (hZ : ∀ h n k, Z (ix5 b h n 64 k) = 1)
    (g : Fin 2) (r : Fin 80) (t : Fin 512) :
    Ideal.div (A1 c i arg3 harg3 x0 x1 x2 g r t) (A1 c i arg3 harg3 x0 x1 x2 g 64 t)
      = Cert.AttnRef.attend (Cert.AttnRef.score X Y b (head p g) (query i t))
        (fun s => Z (ix5 b (head p g) ⟨s.val / 512, by omega⟩ r ⟨s.val % 512, by omega⟩)) := by
  have hi := i2_lt i
  have hv : ∀ (r : Fin 80) (n : Fin 16) (k : Fin 512), vl x2 g r n.val k
      = (fun s : Fin 8192 => Z (ix5 b (head p g) ⟨s.val / 512, by omega⟩ r ⟨s.val % 512, by omega⟩)) ⟨512 * n.val + k.val, by omega⟩ := by
    intro r n k
    rw [vl, dif_pos n.isLt, h2]
    have e1 : (512 * n.val + k.val) / 512 = n.val := by omega
    have e2 : (512 * n.val + k.val) % 512 = k.val := by omega
    simp only [e1, e2]
  rw [A1_eq c i arg3 harg3 x0 x1 x2 X Y b p h0 h1, A1_eq c i arg3 harg3 x0 x1 x2 X Y b p h0 h1]
  refine attend_eq _ _ (fun s : Fin 8192 => Z (ix5 b (head p g) ⟨s.val / 512, by omega⟩ 64 ⟨s.val % 512, by omega⟩)) _ _ _ hi (fun k => ?_) ⟨query i t, ?_⟩ (fun k hk => ?_) (hv r) (hv 64) fun k => hZ _ _ _
  · rw [Cert.AttnRef.score]; split_ifs
    · exact (dotRow_fin X Y hX hY ..).ne_top
    · exact bot_ne_top
  · rw [Cert.AttnRef.score, if_pos le_rfl]; exact (dotRow_fin X Y hX hY ..).ne_bot
  · rw [Cert.AttnRef.score, if_neg]
    show ¬ k.val ≤ 512 * (i 2).val + t.val
    omega

end

end Cert.Attn

end
-- ==== Proof.AttnValue.lean ====
module

public import proofs.«01_k».proof.Proof.AttnBlock
public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.Attn
open Cert.KernelIdeal Cert.KernelIdeal.Gen Idealize.ShloMosaic Idealize.ShloMosaic.TcCoe Idealize.SL.Sem Cert.AttnMath

/-- The grid's coordinates and the windows' block indices. -/
theorem idx : ∀ t : Fin cfg0.N, (win0_0.index t = ![t.val / 64, t.val % 16, t.val / 16 % 4] ∧ win0_1.index t = ![t.val / 64, 0, t.val / 16 % 4]
    ∧ win0_2.index t = ![t.val / 64, t.val / 16 % 4, 0, 0, 0] ∧ win0_3.index t = ![t.val / 64, t.val % 16, t.val / 16 % 4]) :=
  (by decide +kernel : ∀ t : Fin grid0.N, _)

theorem coord2 : ∀ t : Fin cfg0.N, (grid0.coords t 2).val = t.val % 16 :=
  (by decide +kernel : ∀ t : Fin grid0.N, _)

variable (m : (ℓ : Loc nD τ sig) → Buf (Elt Ideal) ℓ)

/-- The result array of the kernel is the reference's attention of the same arguments. -/
theorem final (c : Dev nD)
    (hX : ∀ j, Fin' ((m ((c : Thread nD τ).loc main_arg0) : Vec Ideal S2x8192x1024 .bf16) j))
    (hY : ∀ j, Fin' ((m ((c : Thread nD τ).loc main_arg1) : Vec Ideal S2x8192x1024 .bf16) j))
    (hZ : ∀ b h n k, (m ((c : Thread nD τ).loc main_arg2) : Vec Ideal S2x8x16x80x512 .bf16) (ix5 b h n 64 k) = (1 : EReal)) :
    (dats m 0 c).arrAt 3 cfg0.N
    = Cert.AttnRef.result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 128 := t.isLt
  have hy1 : (y 1).val < 512 := (y 1).isLt
  have hy2 : (y 2).val < 128 := (y 2).isLt
  obtain ⟨r, hr⟩ : ∃ r : Fin 512, r.val = (y 1).val := ⟨⟨_, hy1⟩, rfl⟩
  obtain ⟨l, hl⟩ : ∃ l : Fin 128, l.val = (y 2).val := ⟨⟨_, hy2⟩, rfl⟩
  obtain ⟨b, hb⟩ : ∃ b : Fin 2, b.val = t.val / 64 := ⟨⟨_, by omega⟩, rfl⟩
  obtain ⟨p, hp⟩ : ∃ p : Fin 4, p.val = t.val / 16 % 4 := ⟨⟨_, by omega⟩, rfl⟩
  have hq := coord2 t
  have e1 : y = ix3 0 r l := by blk_ext
  have e2 : ((win0_3.blk t).view.emb y : S2x8192x512.Idx) = ix3 b (query (grid0.coords t) r) (⟨128 * p.val + l.val, by omega⟩ : Fin 512) := by
    have hqq : (query (grid0.coords t) r).val = 512 * (t.val % 16) + r.val := by rw [← hq]; rfl
    blk_ext [idx t]
  have h0 : ∀ (r : Fin 512) (l : Fin 256), (iblk m c 0 t : Vec Ideal S1x512x256 .bf16) (ix3 0 r l)
      = (m ((c : Thread nD τ).loc main_arg0) : Vec Ideal S2x8192x1024 .bf16) (ix3 b (query (grid0.coords t) r) ⟨256 * p.val + l.val, by omega⟩) := by
    intro r l
    have hqq : (query (grid0.coords t) r).val = 512 * (t.val % 16) + r.val := by rw [← hq]; rfl
    blk_point [iblk, V, idx t]
  have h1 : ∀ (k : Fin 8192) (l : Fin 256), (iblk m c 1 t : Vec Ideal S1x8192x256 .bf16) (ix3 0 k l)
      = (m ((c : Thread nD τ).loc main_arg1) : Vec Ideal S2x8192x1024 .bf16) (ix3 b k ⟨256 * p.val + l.val, by omega⟩) := by
    intro k l
    blk_point [iblk, V, idx t]
  have h2 : ∀ (g : Fin 2) (n : Fin 16) (r : Fin 80) (k : Fin 512), (iblk m c 2 t : Vec Ideal S1x2x16x80x512 .bf16) (ix5 0 g n r k)
      = (m ((c : Thread nD τ).loc main_arg2) : Vec Ideal S2x8x16x80x512 .bf16) (ix5 b (head p g) n r k) := by
    intro g n r k
    have hh : (head p g).val = 2 * p.val + g.val := rfl
    blk_point [iblk, V, idx t]
  rw [e2]
  refine Eq.trans ?_ (Cert.AttnRef.result_at _ _ _ b _ _).symm
  refine (congrArg _ e1).trans ((out_at _ _ _ _ _ _ _ _ _ _ _ _ _ _ _ _ _ r l).trans ?_)
  have hl' := l.isLt
  by_cases h : l.val < 64
  · rw [dif_pos h]
    refine (head_eq c _ _ _ _ _ _ _ _ _ b p h0 h1 h2 hX hY (hZ b) 0 ⟨l.val, by omega⟩ r).trans ?_
    have eh : head p 0 = ⟨(128 * p.val + l.val) / 64, by omega⟩ := Fin.ext (by show 2 * p.val + 0 = (128 * p.val + l.val) / 64; omega)
    have er : (⟨l.val, by omega⟩ : Fin 80) = ⟨(128 * p.val + l.val) % 64, by omega⟩ := Fin.ext (by show l.val = (128 * p.val + l.val) % 64; omega)
    rw [eh, er]
  · rw [dif_neg h]
    refine (head_eq c _ _ _ _ _ _ _ _ _ b p h0 h1 h2 hX hY (hZ b) 1 ⟨l.val - 64, by omega⟩ r).trans ?_
    have eh : head p 1 = ⟨(128 * p.val + l.val) / 64, by omega⟩ := Fin.ext (by show 2 * p.val + 1 = (128 * p.val + l.val) / 64; omega)
    have er : (⟨l.val - 64, by omega⟩ : Fin 80) = ⟨(128 * p.val + l.val) % 64, by omega⟩ := Fin.ext (by show l.val - 64 = (128 * p.val + l.val) % 64; omega)
    rw [eh, er]

end Cert.Attn

end
-- ==== Proof.PostRows.lean ====
module

public import proofs.«01_k».proof.Proof.Gen.PostKernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Post

/-- The mean of a row of 1024 numbers. -/
def mean (z : Fin 1024 → EReal) : EReal := Ideal.div (∑ k, z k) (Ideal.ofBits FTy.f32 0x44800000#32)

/-- The layer norm of a row `z` with gain `g` and bias `b`. -/
def lnRow (z g b : Fin 1024 → EReal) (k : Fin 1024) : EReal :=
  (z k - mean z) * Ideal.rsqrt (mean (fun j => (z j - mean z) * (z j - mean z)) + Ideal.ofBits FTy.f32 0x3727C5AC#32) * g k + b k

/-- The residual sum of a row: the scaled input plus the mixed heads. -/
def resRow (x y : Fin 1024 → EReal) (k : Fin 1024) : EReal := Ideal.ofBits FTy.f32 0x3FB504F3#32 * x k + y k

/-- The squared rectified hidden unit `j` of a row `x`. -/
def hidRow (x : Fin 1024 → EReal) (w1 : Fin 1024 → Fin 4096 → EReal) (j : Fin 4096) : EReal :=
  max (∑ i, x i * w1 i j) 0 * max (∑ i, x i * w1 i j) 0

/-- A sum over 4096 terms taken as four partial sums of 1024 terms each. -/
def sum4 (f : Fin 4096 → EReal) : EReal :=
  ∑ k : Fin 1024, f ⟨k, by omega⟩ + ∑ k : Fin 1024, f ⟨1024 + k, by omega⟩
    + ∑ k : Fin 1024, f ⟨2048 + k, by omega⟩ + ∑ k : Fin 1024, f ⟨3072 + k, by omega⟩

/-- Four partial sums are the whole sum. -/
theorem sum4_eq (f : Fin 4096 → EReal) : sum4 f = ∑ j, f j := by
  have h : ∑ j : Fin (1024 + 1024 + 1024 + 1024), f j = sum4 f := by
    rw [Fin.sum_univ_add, Fin.sum_univ_add, Fin.sum_univ_add]; rfl
  exact h.symm

/-- The two mixing products of a row, from the pool lanes and from the attention lanes. -/
def mixRow (p q : Fin 512 → EReal) (wp wq : Fin 512 → Fin 1024 → EReal) (k : Fin 1024) : EReal :=
  ∑ i, p i * wp i k + ∑ i, q i * wq i k

/-- The row after the first norm. -/
def firstRow (x : Fin 1024 → EReal) (p q : Fin 512 → EReal) (wp wq : Fin 512 → Fin 1024 → EReal) (g b : Fin 1024 → EReal) :
    Fin 1024 → EReal := lnRow (resRow x (mixRow p q wp wq)) g b

/-- The row after the second norm, from the row after the first. -/
def secondRow (y : Fin 1024 → EReal) (w1 : Fin 1024 → Fin 4096 → EReal) (w2 : Fin 4096 → Fin 1024 → EReal) (g b : Fin 1024 → EReal) :
    Fin 1024 → EReal := lnRow (resRow y (fun k => ∑ j, hidRow y w1 j * w2 j k)) g b

open Cert.PostKernelIdeal Cert.PostKernelIdeal.Gen

variable (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S1x1024 .f32) (x6 : Vec Ideal S1x1024 .f32) (x7 : Vec Ideal S1024x4096 .bf16) (x8 : Vec Ideal S4096x1024 .bf16) (x9 : Vec Ideal S1x1024 .f32) (x10 : Vec Ideal S1x1024 .f32)

/-- The rows of a block after the first norm. -/
theorem first_at (a : Fin 512) (k : Fin 1024) :
    k0_pay4 (F := Ideal) (k0_pay8 x0 x1 x2 x3 x4 x5 x6 x7 x8 x9 x10) (k0_pay9 x0 x1 x2 x3 x4 x5 x6 x7 x8 x9 x10) (k0_pay10 x0 x1 x2 x3 x4 x5 x6 x7 x8 x9 x10) (ix2 a k)
      = firstRow (fun k => x0 (ix2 a k)) (fun i => x1 (ix2 a i)) (fun i => x2 (ix2 a i))
          (fun i k => x3 (ix2 i k)) (fun i k => x4 (ix2 i k)) (fun k => x5 (ix2 0 k)) (fun k => x6 (ix2 0 k)) k := by
  pointwise [k0_pay4, k0_pay8, k0_pay9, k0_pay10, k0_pay1, k0_pay2, k0_pay3]
  rfl

/-- The rows of a block after the second norm, from the rows after the first. -/
theorem second_at (y : Fin 1024 → EReal) (a : Fin 512) (k : Fin 1024)
    (hy : ∀ k, k0_pay4 (F := Ideal) (k0_pay8 x0 x1 x2 x3 x4 x5 x6 x7 x8 x9 x10) (k0_pay9 x0 x1 x2 x3 x4 x5 x6 x7 x8 x9 x10) (k0_pay10 x0 x1 x2 x3 x4 x5 x6 x7 x8 x9 x10) (ix2 a k) = y k) :
    k0_pay7 (F := Ideal) (k0_pay4 (k0_pay8 x0 x1 x2 x3 x4 x5 x6 x7 x8 x9 x10) (k0_pay9 x0 x1 x2 x3 x4 x5 x6 x7 x8 x9 x10) (k0_pay10 x0 x1 x2 x3 x4 x5 x6 x7 x8 x9 x10)) (k0_pay5 (k0_pay8 x0 x1 x2 x3 x4 x5 x6 x7 x8 x9 x10) (k0_pay9 x0 x1 x2 x3 x4 x5 x6 x7 x8 x9 x10) (k0_pay10 x0 x1 x2 x3 x4 x5 x6 x7 x8 x9 x10)) (k0_pay6 (k0_pay8 x0 x1 x2 x3 x4 x5 x6 x7 x8 x9 x10) (k0_pay9 x0 x1 x2 x3 x4 x5 x6 x7 x8 x9 x10) (k0_pay10 x0 x1 x2 x3 x4 x5 x6 x7 x8 x9 x10) (View.ld x7 r0_3) (View.ld x8 r0_4) (View.ld x7 r0_5) (View.ld x8 r0_6) (View.ld x7 r0_7) (View.ld x8 r0_8)) (View.ld x7 r0_9) (View.ld x8 r0_10) (View.ld x9 r0_2) (View.ld x10 r0_2) (ix2 a k)
      = secondRow y (fun i k => x7 (ix2 i k)) (fun i k => x8 (ix2 i k)) (fun k => x9 (ix2 0 k)) (fun k => x10 (ix2 0 k)) k := by
  pointwise [k0_pay7, k0_pay5, k0_pay6]
  simp only [hy]
  simp only [secondRow, ← sum4_eq]
  rfl

end Cert.Post

end
-- ==== Proof.PostRef.lean ====
module

public import proofs.«01_k».proof.Proof.Gen.PostReferenceIdeal.Run
public import proofs.«01_k».proof.Proof.PostRows
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.PostRef

open Cert.PostReferenceIdeal Cert.PostReferenceIdeal.Gen Cert.Post

/-- The reference's residual input of the first norm. -/
def res1 (X : FVec Ideal S2x8192x1024 .f32) (P Q : FVec Ideal S2x8192x512 .bf16) (Wo : FVec Ideal S1024x1024 .f32) :
    FVec Ideal S2x8192x1024 .f32 :=
  addf (mulf (broadcastInDim S2x8192x1024 ![] bcast_S_S2x8192x1024 (constant S_ .f32 0x3FB504F3#32)) X)
    (Host.dotGeneral dot_S2x8192x1024_S1024x1024_S2x8192x1024_2_0_01_1_n_n none
      (extf .f32 (concatenate S2x8192x1024 2 [⟨S2x8192x512, P⟩, ⟨S2x8192x512, Q⟩] concatenates_S2x8192x512_S2x8192x512_S2x8192x1024_d2)
        bitsLt_bf16_f32) Wo)

/-- The reference's centred rows. -/
def centred (Z : FVec Ideal S2x8192x1024 .f32) : FVec Ideal S2x8192x1024 .f32 :=
  subf Z (broadcastInDim S2x8192x1024 ![0, 1, 2] bcast_S2x8192x1_S2x8192x1024_0_1_2
    (Host.divf (broadcastInDim S2x8192x1 ![0, 1] bcast_S2x8192_S2x8192x1_0_1
        (Host.reduceAdd Z (constant S_ .f32 0x00000000#32) reducesTo_S2x8192x1024_S2x8192_d2 h_S_))
      (broadcastInDim S2x8192x1 ![] bcast_S_S2x8192x1 (constant S_ .f32 0x44800000#32))))

/-- The reference's layer norm. -/
def norm (Z : FVec Ideal S2x8192x1024 .f32) (G B : FVec Ideal S1024 .f32) : FVec Ideal S2x8192x1024 .f32 :=
  addf (mulf (mulf (centred Z) (broadcastInDim S2x8192x1024 ![0, 1, 2] bcast_S2x8192x1_S2x8192x1024_0_1_2
      (Host.rsqrt (addf (Host.divf (broadcastInDim S2x8192x1 ![0, 1] bcast_S2x8192_S2x8192x1_0_1
          (Host.reduceAdd (mulf (centred Z) (centred Z)) (constant S_ .f32 0x00000000#32) reducesTo_S2x8192x1024_S2x8192_d2 h_S_))
          (broadcastInDim S2x8192x1 ![] bcast_S_S2x8192x1 (constant S_ .f32 0x44800000#32)))
        (broadcastInDim S2x8192x1 ![] bcast_S_S2x8192x1 (constant S_ .f32 0x3727C5AC#32))))))
      (broadcastInDim S2x8192x1024 ![0, 1, 2] bcast_S1x1x1024_S2x8192x1024_0_1_2 (broadcastInDim S1x1x1024 ![2] bcast_S1024_S1x1x1024_2 G)))
    (broadcastInDim S2x8192x1024 ![0, 1, 2] bcast_S1x1x1024_S2x8192x1024_0_1_2 (broadcastInDim S1x1x1024 ![2] bcast_S1024_S1x1x1024_2 B))

/-- The reference's rectified hidden units. -/
def hidden (Y : FVec Ideal S2x8192x1024 .f32) (W1 : FVec Ideal S1024x4096 .f32) : FVec Ideal S2x8192x4096 .f32 :=
  maximumf (Host.dotGeneral dot_S2x8192x1024_S1024x4096_S2x8192x4096_2_0_01_1_n_n none Y W1)
    (broadcastInDim S2x8192x4096 ![] bcast_S_S2x8192x4096 (constant S_ .f32 0x00000000#32))

/-- The reference's residual input of the second norm. -/
def res2 (Y : FVec Ideal S2x8192x1024 .f32) (W1 : FVec Ideal S1024x4096 .f32) (W2 : FVec Ideal S4096x1024 .f32) :
    FVec Ideal S2x8192x1024 .f32 :=
  addf (mulf (broadcastInDim S2x8192x1024 ![] bcast_S_S2x8192x1024 (constant S_ .f32 0x3FB504F3#32)) Y)
    (Host.dotGeneral dot_S2x8192x4096_S4096x1024_S2x8192x1024_2_0_01_1_n_n none (mulf (hidden Y W1) (hidden Y W1)) W2)

/-- The reference's result, from its arguments. -/
def result (X : FVec Ideal S2x8192x1024 .f32) (P Q : FVec Ideal S2x8192x512 .bf16) (Wo : FVec Ideal S1024x1024 .f32)
    (G1 B1 : FVec Ideal S1024 .f32) (W1 : FVec Ideal S1024x4096 .f32) (W2 : FVec Ideal S4096x1024 .f32) (G2 B2 : FVec Ideal S1024 .f32) :
    FVec Ideal S16384x1024 .f32 :=
  shapeCast _ (norm (res2 (norm (res1 X P Q Wo) G1 B1) W1 W2) G2 B2) shapeCasts_S2x8192x1024_S16384x1024

/-- The residual input of the first norm, row by row. -/
theorem res1_at (X : FVec Ideal S2x8192x1024 .f32) (P Q : FVec Ideal S2x8192x512 .bf16) (Wo : FVec Ideal S1024x1024 .f32)
    (b : Fin 2) (s : Fin 8192) (k : Fin 1024) :
    res1 X P Q Wo (ix3 b s k) = resRow (fun k => X (ix3 b s k))
      (mixRow (fun i => P (ix3 b s i)) (fun i => Q (ix3 b s i)) (fun i k => Wo (ix2 ⟨i, by omega⟩ k))
        (fun i k => Wo (ix2 ⟨512 + i, by omega⟩ k))) k := by
  pointwise [res1]
  rfl

/-- The layer norm, row by row. -/
theorem norm_at (Z : FVec Ideal S2x8192x1024 .f32) (G B : FVec Ideal S1024 .f32) (b : Fin 2) (s : Fin 8192) (k : Fin 1024) :
    norm Z G B (ix3 b s k) = lnRow (fun k => Z (ix3 b s k)) (fun k => G (ix1 k)) (fun k => B (ix1 k)) k := by
  pointwise [norm, centred]
  rfl

/-- The residual input of the second norm, row by row. -/
theorem res2_at (Y : FVec Ideal S2x8192x1024 .f32) (W1 : FVec Ideal S1024x4096 .f32) (W2 : FVec Ideal S4096x1024 .f32)
    (b : Fin 2) (s : Fin 8192) (k : Fin 1024) :
    res2 Y W1 W2 (ix3 b s k) = resRow (fun k => Y (ix3 b s k))
      (fun k => ∑ j, hidRow (fun k => Y (ix3 b s k)) (fun i k => W1 (ix2 i k)) j * W2 (ix2 j k)) k := by
  pointwise [res2, hidden]
  rfl

/-- The reference's result at row `r` (row `r % 8192` of batch `r / 8192`). -/
theorem result_at (X : FVec Ideal S2x8192x1024 .f32) (P Q : FVec Ideal S2x8192x512 .bf16) (Wo : FVec Ideal S1024x1024 .f32)
    (G1 B1 : FVec Ideal S1024 .f32) (W1 : FVec Ideal S1024x4096 .f32) (W2 : FVec Ideal S4096x1024 .f32) (G2 B2 : FVec Ideal S1024 .f32)
    (r : Fin 16384) (b : Fin 2) (s : Fin 8192) (h : (r : ℕ) = b * 8192 + s) (k : Fin 1024) :
    result X P Q Wo G1 B1 W1 W2 G2 B2 (ix2 r k)
      = secondRow (firstRow (fun k => X (ix3 b s k)) (fun i => P (ix3 b s i)) (fun i => Q (ix3 b s i)) (fun i k => Wo (ix2 ⟨i, by omega⟩ k))
        (fun i k => Wo (ix2 ⟨512 + i, by omega⟩ k)) (fun k => G1 (ix1 k)) (fun k => B1 (ix1 k)))
        (fun i k => W1 (ix2 i k)) (fun i k => W2 (ix2 i k)) (fun k => G2 (ix1 k)) (fun k => B2 (ix1 k)) k := by
  have e : result X P Q Wo G1 B1 W1 W2 G2 B2 (ix2 r k) = norm (res2 (norm (res1 X P Q Wo) G1 B1) W1 W2) G2 B2 (ix3 b s k) := by
    pointwise [result]
    blk_ext
  rw [e, norm_at]
  simp only [res2_at, norm_at, res1_at]
  rfl

/-- The printed reference returns this result. -/
theorem res_eq (m : (ℓ : Loc nD τ sig) → Buf (Elt Ideal) ℓ) (c : Dev nD) :
    Cert.PostReferenceIdeal.Value.res_main_v61 m c = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  unfold Cert.PostReferenceIdeal.Value.res_main_v61
  rfl

end Cert.PostRef

end
-- ==== Proof.PostValue.lean ====
module

public import proofs.«01_k».proof.Proof.PostRows
public import proofs.«01_k».proof.Proof.PostRef
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Post

open Cert.PostKernelIdeal Cert.PostKernelIdeal.Gen

section
variable (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S1x1024 .f32) (x6 : Vec Ideal S1x1024 .f32) (x7 : Vec Ideal S1024x4096 .bf16) (x8 : Vec Ideal S4096x1024 .bf16) (x9 : Vec Ideal S1x1024 .f32) (x10 : Vec Ideal S1x1024 .f32)

/-- A whole block, row by row. -/
theorem block_at (r : Fin 512) (k : Fin 1024) :
    out0_11 x0 x1 x2 x3 x4 x5 x6 x7 x8 x9 x10 (ix2 r k)
      = secondRow (firstRow (fun k => x0 (ix2 r k)) (fun i => x1 (ix2 r i)) (fun i => x2 (ix2 r i))
          (fun i k => x3 (ix2 i k)) (fun i k => x4 (ix2 i k)) (fun k => x5 (ix2 0 k)) (fun k => x6 (ix2 0 k)))
          (fun i k => x7 (ix2 i k)) (fun i k => x8 (ix2 i k)) (fun k => x9 (ix2 0 k)) (fun k => x10 (ix2 0 k)) k := by
  unfold out0_11
  canon_tiles x h
  obtain rfl : k = x 1 := Fin.ext h1
  obtain rfl : r = x 0 := Fin.ext h0
  exact (congrArg _ (eq_ix2 x)).trans (second_at x0 x1 x2 x3 x4 x5 x6 x7 x8 x9 x10 _ (x 0) (x 1) (first_at x0 x1 x2 x3 x4 x5 x6 x7 x8 x9 x10 (x 0)))
end

/-- The windows' block indices. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

variable (m : (ℓ : Loc nD τ sig) → Buf (Elt Ideal) ℓ)

/-- The result array of the kernel is the reference's result on the same arguments. -/
theorem final (c : Dev nD) : (dats m 0 c).arrAt 11 cfg0.N
    = Cert.PostRef.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  refine (dats m 0 c).arrAt_eq_of_covers 11 _ (by decide +kernel) fun t _ y => ?_
  blk_simp
  rw [after0_11]
  have ht : t.val < 32 := t.isLt
  have hy0 : (y 0).val < 512 := (y 0).isLt
  have hy1 : (y 1).val < 1024 := (y 1).isLt
  obtain ⟨r, hr⟩ : ∃ r : Fin 512, r.val = (y 0).val := ⟨⟨_, hy0⟩, rfl⟩
  obtain ⟨k, hk⟩ : ∃ k : Fin 1024, k.val = (y 1).val := ⟨⟨_, hy1⟩, rfl⟩
  obtain ⟨b, hb⟩ : ∃ b : Fin 2, b.val = (t.val * 512 + r.val) / 8192 := ⟨⟨_, by omega⟩, rfl⟩
  obtain ⟨s, hs⟩ : ∃ s : Fin 8192, s.val = (t.val * 512 + r.val) % 8192 := ⟨⟨_, by omega⟩, rfl⟩
  have e1 : y = ix2 r k := by blk_ext
  have e2 : ((win0_11.blk t).view.emb y : S16384x1024.Idx) = ix2 (⟨t.val * 512 + r.val, by omega⟩ : Fin 16384) k := by
    blk_ext [idx t]
  rw [e2]
  refine Eq.trans ?_ (Cert.PostRef.result_at _ _ _ _ _ _ _ _ _ _ _ b s (by show t.val * 512 + r.val = _; omega) k).symm
  refine (congrArg _ e1).trans ((block_at _ _ _ _ _ _ _ _ _ _ _ r k).trans ?_)
  have h0 : ∀ (k : Fin 1024), (iblk m c 0 t : Vec Ideal S512x1024 .f32) (ix2 r k) = (m ((c : Thread nD τ).loc main_arg0) : Vec Ideal S2x8192x1024 .f32) (ix3 b s k) := by
    intro k
    blk_point [iblk, V, idx t]
  have h1 : ∀ (k : Fin 512), (iblk m c 1 t : Vec Ideal S512x512 .bf16) (ix2 r k) = (m ((c : Thread nD τ).loc main_arg1) : Vec Ideal S2x8192x512 .bf16) (ix3 b s k) := by
    intro k
    blk_point [iblk, V, idx t]
  have h2 : ∀ (k : Fin 512), (iblk m c 2 t : Vec Ideal S512x512 .bf16) (ix2 r k) = (m ((c : Thread nD τ).loc main_arg2) : Vec Ideal S2x8192x512 .bf16) (ix3 b s k) := by
    intro k
    blk_point [iblk, V, idx t]
  have h3 : ∀ (i : Fin 512) (k : Fin 1024), (iblk m c 3 t : Vec Ideal S512x1024 .bf16) (ix2 i k) = (m ((c : Thread nD τ).loc main_arg3) : Vec Ideal S1024x1024 .f32) (ix2 ⟨i.val, by omega⟩ k) := by
    intro i k
    blk_point [iblk, V, idx t]
  have h4 : ∀ (i : Fin 512) (k : Fin 1024), (iblk m c 4 t : Vec Ideal S512x1024 .bf16) (ix2 i k) = (m ((c : Thread nD τ).loc main_arg3) : Vec Ideal S1024x1024 .f32) (ix2 ⟨512 + i.val, by omega⟩ k) := by
    intro i k
    blk_point [iblk, V, idx t]
  have h5 : ∀ (k : Fin 1024), (iblk m c 5 t : Vec Ideal S1x1024 .f32) (ix2 0 k) = (m ((c : Thread nD τ).loc main_arg4) : Vec Ideal S1024 .f32) (ix1 k) := by
    intro k
    blk_point [iblk, V, idx t]
  have h6 : ∀ (k : Fin 1024), (iblk m c 6 t : Vec Ideal S1x1024 .f32) (ix2 0 k) = (m ((c : Thread nD τ).loc main_arg5) : Vec Ideal S1024 .f32) (ix1 k) := by
    intro k
    blk_point [iblk, V, idx t]
  have h7 : ∀ (i : Fin 1024) (k : Fin 4096), (iblk m c 7 t : Vec Ideal S1024x4096 .bf16) (ix2 i k) = (m ((c : Thread nD τ).loc main_arg6) : Vec Ideal S1024x4096 .f32) (ix2 i k) := by
    intro i k
    blk_point [iblk, V, idx t]
  have h8 : ∀ (i : Fin 4096) (k : Fin 1024), (iblk m c 8 t : Vec Ideal S4096x1024 .bf16) (ix2 i k) = (m ((c : Thread nD τ).loc main_arg7) : Vec Ideal S4096x1024 .f32) (ix2 i k) := by
    intro i k
    blk_point [iblk, V, idx t]
  have h9 : ∀ (k : Fin 1024), (iblk m c 9 t : Vec Ideal S1x1024 .f32) (ix2 0 k) = (m ((c : Thread nD τ).loc main_arg8) : Vec Ideal S1024 .f32) (ix1 k) := by
    intro k
    blk_point [iblk, V, idx t]
  have h10 : ∀ (k : Fin 1024), (iblk m c 10 t : Vec Ideal S1x1024 .f32) (ix2 0 k) = (m ((c : Thread nD τ).loc main_arg9) : Vec Ideal S1024 .f32) (ix1 k) := by
    intro k
    blk_point [iblk, V, idx t]
  simp only [h0, h1, h2, h3, h4, h5, h6, h7, h8, h9, h10]

end Cert.Post

end
-- ==== Proof.InMath.lean ====
module

public import proofs.«01_k».proof.Proof.AttnMath
public import Idealize.ShloMosaic.Lib.Pointwise
public import Idealize.ShloMosaic.Lib.Routing.Ops

@[expose] public section

set_option maxRecDepth 16384

noncomputable section

namespace Cert.InMath
open Idealize.ShloMosaic Idealize.ShloMosaic.TcCoe Idealize.SL.Sem Cert.AttnMath

/-! ## Logarithm of the sigmoid -/

/-- The logarithm of the sigmoid, as the kernel computes it. -/
def lsig (f : EReal) : EReal := min f 0 - Ideal.log1p (Ideal.exp (0 - max f (-f)))

/-- and as the reference does. -/
def lsigRef (f : EReal) : EReal := -(max (-f) 0 + Ideal.log1p (Ideal.exp (-max (-f) (- -f))))

theorem coe_max (a b : ℝ) : max (a : EReal) b = ((max a b : ℝ) : EReal) := by
  rcases le_total a b with h | h
  · rw [max_eq_right h, max_eq_right (EReal.coe_le_coe_iff.mpr h)]
  · rw [max_eq_left h, max_eq_left (EReal.coe_le_coe_iff.mpr h)]

theorem coe_min (a b : ℝ) : min (a : EReal) b = ((min a b : ℝ) : EReal) := by
  rcases le_total a b with h | h
  · rw [min_eq_left h, min_eq_left (EReal.coe_le_coe_iff.mpr h)]
  · rw [min_eq_right h, min_eq_right (EReal.coe_le_coe_iff.mpr h)]

/-- The correction term is a real. -/
theorem log1p_fin (r : ℝ) : Fin' (Ideal.log1p (Ideal.exp (r : EReal))) := by
  refine ⟨Real.log (1 + Real.exp r), ?_⟩
  have h : (0 : ℝ) < 1 + Real.exp r := by positivity
  show Ideal.log (1 + Ideal.exp (r : EReal)) = _
  rw [show Ideal.exp (r : EReal) = ((Real.exp r : ℝ) : EReal) from rfl, ← EReal.coe_one, ← EReal.coe_add]
  show (if 1 + Real.exp r ≤ 0 then (⊥ : EReal) else ((Real.log (1 + Real.exp r) : ℝ) : EReal)) = _
  rw [if_neg (not_le.mpr h)]

theorem neg_coe' (r : ℝ) : -(r : EReal) = ((-r : ℝ) : EReal) := rfl

theorem lsig_real (r : ℝ) : lsig (r : EReal) = ((min r 0 : ℝ) : EReal) - Ideal.log1p (Ideal.exp ((-max r (-r) : ℝ) : EReal)) := by
  unfold lsig
  rw [neg_coe', coe_max, ← EReal.coe_zero, coe_min, ← EReal.coe_sub, zero_sub]

/-- On finite values the two agree. -/
theorem lsigRef_eq (f : EReal) (h : Fin' f) : lsigRef f = lsig f := by
  obtain ⟨r, rfl⟩ := h
  rw [lsig_real]
  unfold lsigRef
  rw [neg_coe', ← EReal.coe_zero, coe_max, neg_coe', coe_max, neg_coe', neg_neg, max_comm (-r) r]
  obtain ⟨l, hl⟩ := log1p_fin (-max r (-r))
  rw [hl, ← EReal.coe_add, ← EReal.coe_sub, neg_coe']
  congr 1
  rcases le_total r 0 with h | h
  · rw [min_eq_left h, max_eq_left (by linarith)]; ring
  · rw [min_eq_right h, max_eq_right (by linarith)]; ring

theorem lsig_fin (f : EReal) (h : Fin' f) : Fin' (lsig f) := by
  obtain ⟨r, rfl⟩ := h
  rw [lsig_real]
  obtain ⟨l, hl⟩ := log1p_fin (-max r (-r))
  exact ⟨min r 0 - l, by rw [hl, ← EReal.coe_sub]⟩

theorem Fin'.sub_self {x : EReal} (h : Fin' x) : x - x = 0 := by
  obtain ⟨r, rfl⟩ := h; rw [← EReal.coe_sub, _root_.sub_self, EReal.coe_zero]

/-! ## Sums over trailing windows -/

/-- Sums over the last 2, 4, 8 and 16 entries, each from the one before. -/
def s2 (e : ℕ → EReal) (n : ℕ) : EReal := e n + e (n - 1)
def s4 (e : ℕ → EReal) (n : ℕ) : EReal := s2 e n + s2 e (n - 2)
def s8 (e : ℕ → EReal) (n : ℕ) : EReal := s4 e n + s4 e (n - 4)
def s16 (e : ℕ → EReal) (n : ℕ) : EReal := s8 e n + s8 e (n - 8)

/-- A sequence behind a halo of 32 zeros. -/
def halo (f : ℕ → EReal) (n : ℕ) : EReal := if n < 32 then 0 else f (n - 32)

/-- A running sum, and the running sum a window earlier. -/
def run (f : ℕ → EReal) (t : ℕ) : EReal := ∑ i ∈ Finset.range (t + 1), f i
def lag (f : ℕ → EReal) (w t : ℕ) : EReal := if t < w then 0 else run f (t - w)

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

section Win
variable (r : ℕ → ℝ)

def C (n : ℕ) : ℝ := ∑ i ∈ Finset.range n, if i < 32 then 0 else r (i - 32)

theorem C_succ (n : ℕ) : C r (n + 1) = C r n + if n < 32 then 0 else r (n - 32) := Finset.sum_range_succ _ _

theorem C_shift (m : ℕ) : C r (m + 32) = ∑ i ∈ Finset.range m, r i := by
  unfold C
  rw [add_comm m 32, Finset.sum_range_add, Finset.sum_eq_zero fun i hi => if_pos (Finset.mem_range.mp hi), zero_add]
  refine Finset.sum_congr rfl fun i _ => ?_
  rw [if_neg (by omega), show 32 + i - 32 = i by omega]

theorem C_low (m : ℕ) (h : m ≤ 32) : C r m = 0 :=
  Finset.sum_eq_zero fun i hi => if_pos (by have := Finset.mem_range.mp hi; omega)

theorem halo_coe (n : ℕ) : halo (fun i => (r i : EReal)) n = ((C r (n + 1) - C r n : ℝ) : EReal) := by
  rw [C_succ, add_sub_cancel_left, halo]
  split <;> simp

theorem s2_coe (n : ℕ) (h : 1 ≤ n) : s2 (halo (fun i => (r i : EReal))) n = ((C r (n + 1) - C r (n - 1) : ℝ) : EReal) := by
  rw [s2, halo_coe, halo_coe, Nat.sub_add_cancel h, ← EReal.coe_add]; congr 1; ring

theorem s4_coe (n : ℕ) (h : 3 ≤ n) : s4 (halo (fun i => (r i : EReal))) n = ((C r (n + 1) - C r (n - 3) : ℝ) : EReal) := by
  rw [s4, s2_coe r _ (by omega), s2_coe r _ (by omega), ← EReal.coe_add, show n - 2 + 1 = n - 1 by omega, show n - 2 - 1 = n - 3 by omega]
  congr 1; ring

theorem s8_coe (n : ℕ) (h : 7 ≤ n) : s8 (halo (fun i => (r i : EReal))) n = ((C r (n + 1) - C r (n - 7) : ℝ) : EReal) := by
  rw [s8, s4_coe r _ (by omega), s4_coe r _ (by omega), ← EReal.coe_add, show n - 4 + 1 = n - 3 by omega, show n - 4 - 3 = n - 7 by omega]
  congr 1; ring

theorem s16_coe (n : ℕ) (h : 15 ≤ n) : s16 (halo (fun i => (r i : EReal))) n = ((C r (n + 1) - C r (n - 15) : ℝ) : EReal) := by
  rw [s16, s8_coe r _ (by omega), s8_coe r _ (by omega), ← EReal.coe_add, show n - 8 + 1 = n - 7 by omega, show n - 8 - 7 = n - 15 by omega]
  congr 1; ring

theorem lag_coe (w t : ℕ) (hw : w ≤ 32) : run (fun i => (r i : EReal)) t - lag (fun i => (r i : EReal)) w t
    = ((C r (t + 32 + 1) - C r (t + 33 - w) : ℝ) : EReal) := by
  have h1 : run (fun i => (r i : EReal)) t = ((C r (t + 32 + 1) : ℝ) : EReal) := by
    rw [run, coe_sum, show t + 32 + 1 = t + 1 + 32 by omega, C_shift]
  have h2 : lag (fun i => (r i : EReal)) w t = ((C r (t + 33 - w) : ℝ) : EReal) := by
    rw [lag]
    split
    · rw [C_low r _ (by omega), EReal.coe_zero]
    · rw [run, coe_sum, show t + 33 - w = t - w + 1 + 32 by omega, C_shift]
  rw [h1, h2, ← EReal.coe_sub]

end Win

/-- The difference of running sums is the sum over the window. -/
theorem win2 (f : ℕ → EReal) (hf : ∀ n, Fin' (f n)) (t : ℕ) : run f t - lag f 2 t = s2 (halo f) (t + 32) := by
  choose r hr using hf
  obtain rfl : f = fun i => (r i : EReal) := funext hr
  rw [lag_coe r _ _ (by omega), s2_coe r _ (by omega)]; rfl
theorem win4 (f : ℕ → EReal) (hf : ∀ n, Fin' (f n)) (t : ℕ) : run f t - lag f 4 t = s4 (halo f) (t + 32) := by
  choose r hr using hf
  obtain rfl : f = fun i => (r i : EReal) := funext hr
  rw [lag_coe r _ _ (by omega), s4_coe r _ (by omega)]; rfl
theorem win8 (f : ℕ → EReal) (hf : ∀ n, Fin' (f n)) (t : ℕ) : run f t - lag f 8 t = s8 (halo f) (t + 32) := by
  choose r hr using hf
  obtain rfl : f = fun i => (r i : EReal) := funext hr
  rw [lag_coe r _ _ (by omega), s8_coe r _ (by omega)]; rfl
theorem win16 (f : ℕ → EReal) (hf : ∀ n, Fin' (f n)) (t : ℕ) : run f t - lag f 16 t = s16 (halo f) (t + 32) := by
  choose r hr using hf
  obtain rfl : f = fun i => (r i : EReal) := funext hr
  rw [lag_coe r _ _ (by omega), s16_coe r _ (by omega)]; rfl

theorem run_fin (f : ℕ → EReal) (hf : ∀ n, Fin' (f n)) (t : ℕ) : Fin' (run f t) := Fin'.sum _ _ hf

/-! ## The host's running sum -/

theorem foldl_add {ι : Type} (g : ι → EReal) (l : List ι) (z : EReal) : l.foldl (fun r n => r + g n) z = z + (l.map g).sum := by
  induction l generalizing z with
  | nil => simp
  | cons a l ih => rw [List.foldl_cons, ih, List.map_cons, List.sum_cons, add_assoc]

/-- A window that ends at `j` sums the entries up to `j`. -/
theorem sum_window (f : ℕ → EReal) (M j : ℕ) (hj : j ≤ M) :
    (∑ w ∈ Finset.range (M + 1), if M ≤ j + w then f (j + w - M) else 0) = run f j := by
  obtain ⟨d, rfl⟩ : ∃ d, M = j + d := ⟨M - j, by omega⟩
  rw [show j + d + 1 = d + (j + 1) by omega, Finset.sum_range_add,
    Finset.sum_eq_zero fun i hi => if_neg (by have := Finset.mem_range.mp hi; omega), zero_add, run]
  refine Finset.sum_congr rfl fun i _ => ?_
  rw [if_pos (by omega), show j + (d + i) - (j + d) = i by omega]

/-- A fold that adds a function of the position is a sum over the positions. -/
theorem foldl_range {n M : ℕ} (hn : n = M) (g : Fin n → EReal) (f : ℕ → EReal) (h : ∀ a, g a = f a.val) :
    (List.finRange n).foldl (fun r a => r + g a) 0 = ∑ w ∈ Finset.range M, f w := by
  subst hn
  rw [foldl_add, zero_add, Finset.sum_range, ← List.sum_ofFn, List.ofFn_eq_map]
  exact congrArg List.sum (List.map_congr_left fun a _ => h a)

theorem numel_col (N : ℕ) : (⟨3, ![1, N, 1]⟩ : Shape).numel = N := by
  show ∏ a : Fin 3, (![1, N, 1] : Fin 3 → ℕ) a = N
  rw [Fin.prod_univ_three]
  show 1 * N * 1 = N
  omega

/-- Position `n` of a column is its index `(0, n, 0)`. -/
theorem symm_col (N : ℕ) (n : Fin (⟨3, ![1, N, 1]⟩ : Shape).numel) :
    (⟨3, ![1, N, 1]⟩ : Shape).rowMajor.symm n = ix3 (0 : Fin 1) (n.cast (numel_col N)) (0 : Fin 1) :=
  ((⟨3, ![1, N, 1]⟩ : Shape).rowMajor.symm_apply_eq).2 (Fin.ext (by
    rw [Shape.rowMajor_val_three]
    show n.val = (0 * N + n.val) * 1 + 0
    omega))

/-- The host's running sum down the middle axis of an array. -/
theorem cumsum3 {A N M K : ℕ} (hN : M + 1 = N) (x : (⟨3, ![A, N, K]⟩ : Shape).Idx → EReal) (f : ℕ → EReal) (a : Fin A) (k : Fin K)
    (hx : ∀ i : Fin N, x (ix3 a i k) = f i.val) (z : EReal) (hz : z = 0)
    (h : (⟨3, ![A, N, K]⟩ : Shape).ReduceWindows (![1, N, 1] : Fin 3 → ℕ) ![1, 1, 1] ![0, M, 0] ![0, 0, 0] (⟨3, ![A, N, K]⟩ : Shape)) (j : Fin N) :
    Ideal.hostReduceWindowAdd ![1, N, 1] ![1, 1, 1] ![0, M, 0] ![0, 0, 0] h x z (ix3 a j k) = run f j.val := by
  subst hN hz
  have hj := j.isLt
  unfold Ideal.hostReduceWindowAdd Host.reduceWindow
  refine (foldl_range (numel_col (M + 1)) _ (fun w => if M ≤ j.val + w then f (j.val + w - M) else 0) fun n => ?_).trans
    (sum_window f M j.val (by omega))
  have hn : n.val < M + 1 := (n.cast (numel_col _)).isLt
  have hw0 : ((⟨3, ![1, M + 1, 1]⟩ : Shape).rowMajor.symm n 0).val = 0 := by rw [symm_col]; rfl
  have hw1 : ((⟨3, ![1, M + 1, 1]⟩ : Shape).rowMajor.symm n 1).val = n.val := by rw [symm_col]; rfl
  have hw2 : ((⟨3, ![1, M + 1, 1]⟩ : Shape).rowMajor.symm n 2).val = 0 := by rw [symm_col]; rfl
  dsimp only
  split
  · next hin =>
    have h1 := hin 1
    change M ≤ j.val * 1 + ((⟨3, ![1, M + 1, 1]⟩ : Shape).rowMajor.symm n 1).val
      ∧ j.val * 1 + ((⟨3, ![1, M + 1, 1]⟩ : Shape).rowMajor.symm n 1).val - M < M + 1 at h1
    rw [hw1] at h1
    rw [if_pos (by omega)]
    refine (congrArg x (funext fun b => Fin.ext ?_)).trans (hx ⟨j.val + n.val - M, by omega⟩)
    match b with
    | ⟨0, _⟩ =>
      show a.val * 1 + ((⟨3, ![1, M + 1, 1]⟩ : Shape).rowMajor.symm n 0).val - 0 = a.val
      rw [hw0]; omega
    | ⟨1, _⟩ =>
      show j.val * 1 + ((⟨3, ![1, M + 1, 1]⟩ : Shape).rowMajor.symm n 1).val - M = j.val + n.val - M
      rw [hw1]; omega
    | ⟨2, _⟩ =>
      show k.val * 1 + ((⟨3, ![1, M + 1, 1]⟩ : Shape).rowMajor.symm n 2).val - 0 = k.val
      rw [hw2]; omega
  · next hin =>
    rw [if_neg fun hle => hin fun b => by
      match b with
      | ⟨0, _⟩ =>
        show 0 ≤ a.val * 1 + ((⟨3, ![1, M + 1, 1]⟩ : Shape).rowMajor.symm n 0).val
          ∧ a.val * 1 + ((⟨3, ![1, M + 1, 1]⟩ : Shape).rowMajor.symm n 0).val - 0 < A
        rw [hw0]; have := a.isLt; omega
      | ⟨1, _⟩ =>
        show M ≤ j.val * 1 + ((⟨3, ![1, M + 1, 1]⟩ : Shape).rowMajor.symm n 1).val
          ∧ j.val * 1 + ((⟨3, ![1, M + 1, 1]⟩ : Shape).rowMajor.symm n 1).val - M < M + 1
        rw [hw1]; omega
      | ⟨2, _⟩ =>
        show 0 ≤ k.val * 1 + ((⟨3, ![1, M + 1, 1]⟩ : Shape).rowMajor.symm n 2).val
          ∧ k.val * 1 + ((⟨3, ![1, M + 1, 1]⟩ : Shape).rowMajor.symm n 2).val - 0 < K
        rw [hw2]; have := k.isLt; omega]

/-- The same of the host's operation on arrays. -/
theorem hostCumsum {A N M K : ℕ} (hN : M + 1 = N) (x : FVec Ideal (⟨3, ![A, N, K]⟩ : Shape) .f32) (f : ℕ → EReal) (a : Fin A) (k : Fin K)
    (hx : ∀ i : Fin N, x (ix3 a i k) = f i.val) (u : Shape) (v : FVec Ideal u .f32) (hu : 0 < u.numel) (hv : ∀ i, v i = 0)
    (h : (⟨3, ![A, N, K]⟩ : Shape).ReduceWindows (![1, N, 1] : Fin 3 → ℕ) ![1, 1, 1] ![0, M, 0] ![0, 0, 0] (⟨3, ![A, N, K]⟩ : Shape)) (j : Fin N) :
    Host.reduceWindowAdd (F := Ideal) ![1, N, 1] ![1, 1, 1] ![0, M, 0] ![0, 0, 0] x v h hu (ix3 a j k) = run f j.val :=
  cumsum3 hN x f a k hx _ (hv _) h j

/-! ## What the input projection computes -/

/-- A product written with the scale inside or out. -/
theorem sum_mul_right {ι : Type} [Fintype ι] (f : ι → EReal) (hf : ∀ i, Fin' (f i)) (c : EReal) (hc : Fin' c) :
    (∑ i, f i) * c = ∑ i, f i * c := by
  choose r hr using hf
  obtain ⟨d, rfl⟩ := hc
  obtain rfl : f = fun i => (r i : EReal) := funext hr
  simp only [← EReal.coe_mul]
  rw [coe_sum, coe_sum, ← EReal.coe_mul, Finset.sum_mul]

/-- The projection of one token, by its position in its sequence. -/
def hid (X : (⟨3, ![2, 8192, 1024]⟩ : Shape).Idx → EReal) (W : (⟨2, ![1024, 2056]⟩ : Shape).Idx → EReal) (b : Fin 2) (c : Fin 2056) (t : ℕ) : EReal :=
  if h : t < 8192 then ∑ d : Fin 1024, X (ix3 b ⟨t, h⟩ d) * W (ix2 d c) else 0

/-- The pooled columns, the logarithms of the forget gates, -/
def uu (X : (⟨3, ![2, 8192, 1024]⟩ : Shape).Idx → EReal) (W : (⟨2, ![1024, 2056]⟩ : Shape).Idx → EReal) (b : Fin 2) (c : Fin 512) : ℕ → EReal :=
  hid X W b ⟨c.val, by omega⟩
def lf (X : (⟨3, ![2, 8192, 1024]⟩ : Shape).Idx → EReal) (W : (⟨2, ![1024, 2056]⟩ : Shape).Idx → EReal) (B : (⟨1, ![8]⟩ : Shape).Idx → EReal)
    (b : Fin 2) (h : Fin 8) (t : ℕ) : EReal :=
  lsig (hid X W b ⟨2048 + h.val, by omega⟩ t + B (ix1 h))

/-- and their running sums. -/
def cum (X : (⟨3, ![2, 8192, 1024]⟩ : Shape).Idx → EReal) (W : (⟨2, ![1024, 2056]⟩ : Shape).Idx → EReal) (B : (⟨1, ![8]⟩ : Shape).Idx → EReal)
    (b : Fin 2) (h : Fin 8) (t : ℕ) : EReal :=
  run (lf X W B b h) t

theorem hid_fin {X W} (hX : ∀ j, Fin' (X j)) (hW : ∀ j, Fin' (W j)) (b : Fin 2) (c : Fin 2056) (t : ℕ) : Fin' (hid X W b c t) := by
  unfold hid
  split
  · exact Fin'.sum _ _ fun d => (hX _).mul (hW _)
  · exact ⟨0, rfl⟩

theorem lf_fin {X W B} (hX : ∀ j, Fin' (X j)) (hW : ∀ j, Fin' (W j)) (hB : ∀ j, Fin' (B j)) (b : Fin 2) (h : Fin 8) (t : ℕ) : Fin' (lf X W B b h t) :=
  lsig_fin _ ((hid_fin hX hW _ _ _).add (hB _))

theorem cum_fin {X W B} (hX : ∀ j, Fin' (X j)) (hW : ∀ j, Fin' (W j)) (hB : ∀ j, Fin' (B j)) (b : Fin 2) (h : Fin 8) (t : ℕ) : Fin' (cum X W B b h t) :=
  run_fin _ (lf_fin hX hW hB b h) t

/-- The window of each of the four pools, and the sum over it. -/
def wsum (g : Fin 4) : (ℕ → EReal) → ℕ → EReal := ![s2, s4, s8, s16] g
def wlen (g : Fin 4) : EReal := ![Ideal.ofBits .f32 0x40000000, Ideal.ofBits .f32 0x40800000, Ideal.ofBits .f32 0x41000000, Ideal.ofBits .f32 0x41800000] g

/-- The deviation of a token's window mean from the token -/
def dev (X : (⟨3, ![2, 8192, 1024]⟩ : Shape).Idx → EReal) (W : (⟨2, ![1024, 2056]⟩ : Shape).Idx → EReal) (b : Fin 2) (g : Fin 4) (k : Fin 128) (t : ℕ) : EReal :=
  Ideal.div (wsum g (halo (uu X W b ⟨128 * g.val + k.val, by omega⟩)) (t + 32)) (min (((t + 1 : ℕ) : ℝ) : EReal) (wlen g)) - uu X W b ⟨128 * g.val + k.val, by omega⟩ t

/-- and the pool's output. -/
def pool (X : (⟨3, ![2, 8192, 1024]⟩ : Shape).Idx → EReal) (W : (⟨2, ![1024, 2056]⟩ : Shape).Idx → EReal) (P : (⟨3, ![4, 128, 128]⟩ : Shape).Idx → EReal)
    (S : (⟨1, ![512]⟩ : Shape).Idx → EReal) (b : Fin 2) (g : Fin 4) (c : Fin 128) (t : ℕ) : EReal :=
  (∑ k : Fin 128, dev X W b g k t * P (ix3 g k c)) * S (ix1 ⟨128 * g.val + c.val, by omega⟩)

/-- The lanes of the packed queries: 128 lanes of two heads, their six gate lanes each, zeros. -/
def qpack (X : (⟨3, ![2, 8192, 1024]⟩ : Shape).Idx → EReal) (W : (⟨2, ![1024, 2056]⟩ : Shape).Idx → EReal) (B : (⟨1, ![8]⟩ : Shape).Idx → EReal)
    (b : Fin 2) (c : Fin 1024) (t : ℕ) : EReal :=
  if h : c.val % 256 < 128 then hid X W b ⟨512 + (c.val / 256 * 128 + c.val % 256), by omega⟩ t * Ideal.ofBits .f32 0x3E000000#32
  else if h : c.val % 256 - 128 < 12 then
    if (c.val % 256 - 128) % 6 = 0 then cum X W B b ⟨c.val / 256 * 2 + (c.val % 256 - 128) / 6, by omega⟩ t else if (c.val % 256 - 128) % 6 < 3 then 0 else 1
  else 0

/-- The lanes of the packed keys. -/
def kpack (X : (⟨3, ![2, 8192, 1024]⟩ : Shape).Idx → EReal) (W : (⟨2, ![1024, 2056]⟩ : Shape).Idx → EReal) (B : (⟨1, ![8]⟩ : Shape).Idx → EReal)
    (b : Fin 2) (c : Fin 1024) (t : ℕ) : EReal :=
  if h : c.val % 256 < 128 then hid X W b ⟨1024 + (c.val / 256 * 128 + c.val % 256), by omega⟩ t
  else if h : c.val % 256 - 128 < 12 then
    if (c.val % 256 - 128) % 6 < 3 then 1 else if (c.val % 256 - 128) % 6 = 3 then -cum X W B b ⟨c.val / 256 * 2 + (c.val % 256 - 128) / 6, by omega⟩ t else 0
  else 0

/-- The rows of a head's transposed values: 64 rows, a row of ones, zeros. -/
def vpack (X : (⟨3, ![2, 8192, 1024]⟩ : Shape).Idx → EReal) (W : (⟨2, ![1024, 2056]⟩ : Shape).Idx → EReal) (b : Fin 2) (h : Fin 8) (r : Fin 80) (t : ℕ) : EReal :=
  if hr : r.val < 64 then hid X W b ⟨1536 + (h.val * 64 + r.val), by omega⟩ t else if r.val - 64 < 1 then 1 else 0

end Cert.InMath

end
-- ==== Proof.InPay.lean ====
module

public import proofs.«01_k».proof.Proof.Gen.InKernelIdeal.Skeleton
public import proofs.«01_k».proof.Proof.InMath
public import Idealize.ShloMosaic.Lib.Pointwise
public import Idealize.ShloMosaic.Lib.WordCmp
public import Idealize.ShloMosaic.Lib.Pipeline.ValueKit

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

/-! ## Comparisons of lane and row numbers -/

/-- A choice by a comparison of two small words is a choice by the comparison of their numbers. -/
theorem sel_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [Scalar.select]
  exact if_congr (WordCmp.cmpi_slt_ofNat_eq_one_iff ha hb) rfl rfl

theorem sel_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [Scalar.select]
  exact if_congr (WordCmp.cmpi_sle_ofNat_eq_one_iff ha hb) rfl rfl

theorem sel_eq {α : Type} (a b : ℕ) (ha : a < 2 ^ 31) (hb : b < 2 ^ 31) (x y : α) :
    Scalar.select (IntOp.cmpi .eq (BitVec.ofNat 32 a) (BitVec.ofNat 32 b)) x y = if a = b then x else y := by
  rw [Scalar.select]
  refine if_congr ?_ rfl rfl
  have hd : IntOp.cmpi .eq (BitVec.ofNat 32 a) (BitVec.ofNat 32 b) = 1 ↔ BitVec.ofNat 32 a = BitVec.ofNat 32 b := by
    show (BitVec.ofBool (decide (BitVec.ofNat 32 a = BitVec.ofNat 32 b))) = 1#1 ↔ _
    by_cases h : BitVec.ofNat 32 a = BitVec.ofNat 32 b
    · simp only [h, decide_true, iff_true]; rfl
    · simp only [h, decide_false, iff_false]; decide
  rw [hd]
  constructor
  · intro h
    have e := congrArg BitVec.toNat h
    rw [BitVec.toNat_ofNat, BitVec.toNat_ofNat, Nat.mod_eq_of_lt (by omega), Nat.mod_eq_of_lt (by omega)] at e
    exact e
  · rintro rfl; rfl

/-- The patterns of zero and one. -/
theorem bits_zero : Ideal.ofBits FTy.f32 0x00000000#32 = (0 : EReal) := by simp [Ideal.ofBits, Ideal.ieee]
theorem bits_one : Ideal.ofBits FTy.f32 0x3F800000#32 = (1 : EReal) := by
  simp [Ideal.ofBits, Ideal.ieee]
  rw [← EReal.coe_mul]
  norm_num

/-! ## The products -/

section Prod
variable (x : Vec Ideal S1x512x1024 .f32) (v8 : FVec Ideal S512x1024 .bf16) (w : Vec Ideal S1024x512 .bf16) (wv : Vec Ideal S512x1024 .bf16)

theorem pay6_at (r : Fin 512) (d : Fin 1024) : k0_pay6 x (ix2 r d) = x (ix3 0 r d) := by
  pointwise [k0_pay6]

theorem pay16_at (r m : Fin 512) : k0_pay16 v8 w (ix2 r m) = ∑ d : Fin 1024, v8 (ix2 r d) * w (ix2 d m) := by
  pointwise [k0_pay16]

theorem pay17_at (r m : Fin 512) : k0_pay17 v8 w (ix2 r m) = ∑ d : Fin 1024, v8 (ix2 r d) * w (ix2 d m) := by
  pointwise [k0_pay17]

theorem pay35_at (m r : Fin 512) : k0_pay35 v8 wv (ix2 m r) = ∑ d : Fin 1024, wv (ix2 m d) * v8 (ix2 r d) := by
  pointwise [k0_pay35]

theorem pay55_at (r m : Fin 512) : k0_pay55 v8 w (ix2 r m) = ∑ d : Fin 1024, v8 (ix2 r d) * w (ix2 d m) := by
  pointwise [k0_pay55]

end Prod

/-! ## The gates -/

section Gate
variable (x : Vec Ideal S1x512x1024 .f32) (w : Vec Ideal S1024x128 .bf16) (b : Vec Ideal S1x128 .f32)

/-- The logarithms of the gates, in 24 lanes. -/
theorem pay7_at (r : Fin 512) (l : Fin 128) : k0_pay7 x w b (ix2 r l)
    = if l.val < 24 then lsig ((∑ d : Fin 1024, x (ix3 0 r d) * w (ix2 d l)) + b (ix2 0 l)) else 0 := by
  pointwise [k0_pay7, pay6_at]
  refine (sel_slt l.val 24 (by omega) (by norm_num) _ _).trans ?_
  rfl

theorem pay9_at (j : S512x128.Idx) : k0_pay9 x w b j = k0_pay7 x w b j := rfl
theorem pay10_at (j : S512x128.Idx) : k0_pay10 x w b j = k0_pay7 x w b j := rfl

/-- The triangle of ones. -/
theorem pay8_at (r j : Fin 512) : (k0_pay8 (F := Ideal)) (ix2 r j) = if j.val ≤ r.val then (1 : EReal) else 0 := by
  pointwise [k0_pay8]
  refine (sel_sle j.val r.val (by omega) (by omega) _ _).trans ?_
  simp only [bits_zero, bits_one]

variable (f : FVec Ideal S512x128 .f32) (v36 : FVec Ideal S512x128 .bf16) (v37 : FVec Ideal S512x128 .f32) (car : Vec Ideal S1x128 .f32)

/-- A lane that is taken apart into three summands: the first is all of it, and the others are zero. -/
theorem pay11_at (hf : ∀ j, Fin' (f j)) (h36 : ∀ j, v36 j = f j) (h37 : ∀ j, v37 j = f j) (r : Fin 512) (l : Fin 128) :
    k0_pay11 f k0_pay8 v36 v37 car (ix2 r l) = (∑ j : Fin 512, if j.val ≤ r.val then f (ix2 j l) else 0) + car (ix2 0 l) := by
  have z : ∀ j, f j - f j = 0 := fun j => Cert.InMath.Fin'.sub_self (hf j)
  pointwise [k0_pay11, pay8_at]
  simp only [h36, h37, z, sub_zero, mul_zero, Finset.sum_const_zero, add_zero, ite_mul, one_mul, zero_mul]

theorem pay12_at (v35 : FVec Ideal S512x512 .bf16) (a : Fin 8) (l : Fin 128) :
    k0_pay12 f v35 v36 v37 car (ix2 a l) = k0_pay11 f v35 v36 v37 car (ix2 ⟨504 + a.val, by omega⟩ l) := by
  pointwise [k0_pay12]

/-- The gate's 128 lanes: the running sum, two remainders that vanish, a one, zeros. -/
theorem pay13_at (v35 : FVec Ideal S512x512 .bf16) (r : Fin 512) (l : Fin 128) (hc : l.val < 24 → Fin' (k0_pay11 f v35 v36 v37 car (ix2 r l))) :
    k0_pay13 (iota .tc S512x128 32 [1] iota_S512x128_d1_w32) f v35 v36 v37 car (ix2 r l)
    = if l.val < 8 then k0_pay11 f v35 v36 v37 car (ix2 r l) else if l.val < 24 then 0 else if l.val = 24 then 1 else 0 := by
  pointwise [k0_pay13]
  refine (sel_slt l.val 8 (by omega) (by norm_num) _ _).trans ?_
  refine if_congr Iff.rfl rfl ?_
  refine (sel_slt l.val 16 (by omega) (by norm_num) _ _).trans ?_
  by_cases h24 : l.val < 24
  · have z := Cert.InMath.Fin'.sub_self (hc h24)
    rw [if_pos h24]
    refine (if_congr Iff.rfl z ((sel_slt l.val 24 (by omega) (by norm_num) _ _).trans ((if_pos h24).trans ?_))).trans (ite_self _)
    refine (congrArg₂ (· - ·) z z).trans (sub_zero _)
  · rw [if_neg h24, if_neg (by omega)]
    refine (sel_slt l.val 24 (by omega) (by norm_num) _ _).trans ((if_neg h24).trans ?_)
    refine (sel_eq l.val 24 (by omega) (by norm_num) _ _).trans ?_
    simp only [bits_zero, bits_one]

variable (g : FVec Ideal S512x128 .bf16) (e : Vec Ideal S128x512 .bf16)

theorem pay14_at (v9 : IVec S512x128 32) (v35 : FVec Ideal S512x512 .bf16) (r m : Fin 512) : k0_pay14 v9 f v35 v36 v37 car e (ix2 r m)
    = ∑ l : Fin 128, k0_pay13 v9 f v35 v36 v37 car (ix2 r l) * e (ix2 l m) := by
  pointwise [k0_pay14]

theorem pay15_at (r m : Fin 512) : k0_pay15 g e (ix2 r m) = ∑ l : Fin 128, g (ix2 r l) * e (ix2 l m) := by
  pointwise [k0_pay15]

end Gate

/-! ## The stored pieces of the queries and keys -/

section Pieces
variable (v8 : FVec Ideal S512x1024 .bf16) (w : Vec Ideal S1024x512 .bf16) (g : FVec Ideal S512x128 .bf16) (e : Vec Ideal S128x512 .bf16)
  (q : FVec Ideal S512x512 .bf16) (s : FVec Ideal S512x128 .bf16) (z : Fin 1) (r : Fin 512) (l : Fin 128)

theorem pay18_at : k0_pay18 v8 w (ix3 z r l) = k0_pay16 v8 w (ix2 r ⟨l.val, by omega⟩) := by pointwise [k0_pay18]
theorem pay19_at : k0_pay19 q (ix3 z r l) = q (ix2 r ⟨l.val, by omega⟩) := by pointwise [k0_pay19]
theorem pay20_at : k0_pay20 v8 w (ix3 z r l) = k0_pay17 v8 w (ix2 r ⟨l.val, by omega⟩) := by pointwise [k0_pay20]
theorem pay21_at : k0_pay21 g e (ix3 z r l) = k0_pay15 g e (ix2 r ⟨l.val, by omega⟩) := by pointwise [k0_pay21]
theorem pay22_at : k0_pay22 v8 w (ix3 z r l) = k0_pay16 v8 w (ix2 r ⟨128 + l.val, by omega⟩) := by pointwise [k0_pay22]
theorem pay23_at : k0_pay23 q (ix3 z r l) = q (ix2 r ⟨128 + l.val, by omega⟩) := by pointwise [k0_pay23]
theorem pay24_at : k0_pay24 q (ix3 z r l) = q (ix2 r ⟨128 + l.val, by omega⟩) := by pointwise [k0_pay24]
theorem pay25_at : k0_pay25 q (ix3 z r l) = q (ix2 r ⟨128 + l.val, by omega⟩) := by pointwise [k0_pay25]
theorem pay26_at : k0_pay26 q (ix3 z r l) = q (ix2 r ⟨256 + l.val, by omega⟩) := by pointwise [k0_pay26]
theorem pay27_at : k0_pay27 q (ix3 z r l) = q (ix2 r ⟨256 + l.val, by omega⟩) := by pointwise [k0_pay27]
theorem pay28_at : k0_pay28 q (ix3 z r l) = q (ix2 r ⟨256 + l.val, by omega⟩) := by pointwise [k0_pay28]
theorem pay29_at : k0_pay29 q (ix3 z r l) = q (ix2 r ⟨256 + l.val, by omega⟩) := by pointwise [k0_pay29]
theorem pay31_at : k0_pay31 (k0_pay30 q) (ix3 z r l) = q (ix2 r ⟨384 + l.val, by omega⟩) := by pointwise [k0_pay31, k0_pay30]
theorem pay32_at : k0_pay32 q (ix3 z r l) = q (ix2 r ⟨384 + l.val, by omega⟩) := by pointwise [k0_pay32]
theorem pay33_at : k0_pay33 q (ix3 z r l) = q (ix2 r ⟨384 + l.val, by omega⟩) := by pointwise [k0_pay33]
theorem pay34_at : k0_pay34 q (ix3 z r l) = q (ix2 r ⟨384 + l.val, by omega⟩) := by pointwise [k0_pay34]

end Pieces

/-! ## The stored pieces of the values -/

section Values
variable (v8 : FVec Ideal S512x1024 .bf16) (wv : Vec Ideal S512x1024 .bf16) (v : FVec Ideal S512x512 .f32) (o : FVec Ideal S16x512 .f32)
  (z y n : Fin 1) (r : Fin 64) (a : Fin 16) (k : Fin 512)

theorem pay36_at : (k0_pay36 (F := Ideal)) (ix2 a k) = if a.val = 0 then (1 : EReal) else 0 := by
  pointwise [k0_pay36]
  refine (sel_eq a.val 0 (by omega) (by norm_num) _ _).trans ?_
  simp only [bits_zero, bits_one]

theorem pay37_at : k0_pay37 v8 wv (ix5 z y n r k) = k0_pay35 v8 wv (ix2 ⟨r.val, by omega⟩ k) := by pointwise [k0_pay37]
theorem pay39_at : (k0_pay39 (k0_pay38 (F := Ideal))) (ix5 z y n a k) = (k0_pay36 (F := Ideal)) (ix2 a k) := by pointwise [k0_pay39, k0_pay38]
theorem pay40_at : k0_pay40 v (ix5 z y n r k) = v (ix2 ⟨64 + r.val, by omega⟩ k) := by pointwise [k0_pay40]
theorem pay41_at : k0_pay41 o (ix5 z y n a k) = o (ix2 a k) := by pointwise [k0_pay41]
theorem pay42_at : k0_pay42 v (ix5 z y n r k) = v (ix2 ⟨128 + r.val, by omega⟩ k) := by pointwise [k0_pay42]
theorem pay43_at : k0_pay43 o (ix5 z y n a k) = o (ix2 a k) := by pointwise [k0_pay43]
theorem pay44_at : k0_pay44 v (ix5 z y n r k) = v (ix2 ⟨192 + r.val, by omega⟩ k) := by pointwise [k0_pay44]
theorem pay46_at : k0_pay46 (k0_pay45 o) (ix5 z y n a k) = o (ix2 a k) := by pointwise [k0_pay46, k0_pay45]
theorem pay47_at : k0_pay47 v (ix5 z y n r k) = v (ix2 ⟨256 + r.val, by omega⟩ k) := by pointwise [k0_pay47]
theorem pay48_at : k0_pay48 o (ix5 z y n a k) = o (ix2 a k) := by pointwise [k0_pay48]
theorem pay49_at : k0_pay49 v (ix5 z y n r k) = v (ix2 ⟨320 + r.val, by omega⟩ k) := by pointwise [k0_pay49]
theorem pay50_at : k0_pay50 o (ix5 z y n a k) = o (ix2 a k) := by pointwise [k0_pay50]
theorem pay51_at : k0_pay51 v (ix5 z y n r k) = v (ix2 ⟨384 + r.val, by omega⟩ k) := by pointwise [k0_pay51]
theorem pay52_at : k0_pay52 o (ix5 z y n a k) = o (ix2 a k) := by pointwise [k0_pay52]
theorem pay53_at : k0_pay53 v (ix5 z y n r k) = v (ix2 ⟨448 + r.val, by omega⟩ k) := by pointwise [k0_pay53]
theorem pay54_at : k0_pay54 o (ix5 z y n a k) = o (ix2 a k) := by pointwise [k0_pay54]

end Values

/-! ## The pool -/

section Pool
variable (a b : Vec Ideal S536x512 .f32) (a4 b4 : Vec Ideal S528x384 .f32) (a8 b8 : Vec Ideal S520x256 .f32) (a16 b16 : Vec Ideal S512x128 .f32)

theorem pay56_at (r : Fin 536) (k : Fin 512) : k0_pay56 a b (ix2 r k) = a (ix2 r k) + b (ix2 r k) := by pointwise [k0_pay56]
theorem pay57_at (r : Fin 536) (k : Fin 384) : k0_pay57 a b (ix2 r k) = a (ix2 r ⟨128 + k.val, by omega⟩) + b (ix2 r ⟨128 + k.val, by omega⟩) := by pointwise [k0_pay57, pay56_at]
theorem pay58_at (r : Fin 528) (k : Fin 384) : k0_pay58 a4 b4 (ix2 r k) = a4 (ix2 r k) + b4 (ix2 r k) := by pointwise [k0_pay58]
theorem pay59_at (r : Fin 528) (k : Fin 256) : k0_pay59 a4 b4 (ix2 r k) = a4 (ix2 r ⟨128 + k.val, by omega⟩) + b4 (ix2 r ⟨128 + k.val, by omega⟩) := by pointwise [k0_pay59, pay58_at]
theorem pay60_at (r : Fin 520) (k : Fin 256) : k0_pay60 a8 b8 (ix2 r k) = a8 (ix2 r k) + b8 (ix2 r k) := by pointwise [k0_pay60]
theorem pay61_at (r : Fin 520) (k : Fin 128) : k0_pay61 a8 b8 (ix2 r k) = a8 (ix2 r ⟨128 + k.val, by omega⟩) + b8 (ix2 r ⟨128 + k.val, by omega⟩) := by pointwise [k0_pay61, pay60_at]
theorem pay62_at (r : Fin 512) (k : Fin 128) : k0_pay62 a16 b16 (ix2 r k) = a16 (ix2 r k) + b16 (ix2 r k) := by pointwise [k0_pay62]
theorem pay63_at (r : Fin 512) (k : Fin 128) : k0_pay63 a4 b4 (ix2 r k) = a4 (ix2 ⟨16 + r.val, by omega⟩ ⟨k.val, by omega⟩) + b4 (ix2 ⟨16 + r.val, by omega⟩ ⟨k.val, by omega⟩) := by pointwise [k0_pay63, pay58_at]
theorem pay64_at (r : Fin 512) (k : Fin 128) : k0_pay64 a8 b8 (ix2 r k) = a8 (ix2 ⟨8 + r.val, by omega⟩ ⟨k.val, by omega⟩) + b8 (ix2 ⟨8 + r.val, by omega⟩ ⟨k.val, by omega⟩) := by pointwise [k0_pay64, pay60_at]

/-- The position of a row, from one. -/
theorem pay65_at (i : Fin 16) (r : Fin 512) (z : Fin 1) : (k0_pay65 (F := Ideal) (BitVec.ofNat 32 i.val)) (ix2 r z) = (((512 * i.val + r.val + 1 : ℕ) : ℝ) : EReal) := by
  pointwise [k0_pay65]
  have h : IntOp.addi (IntOp.addi (IntOp.muli (BitVec.ofNat 32 i.val) 512#32) (BitVec.ofNat 32 r.val)) 1#32 = BitVec.ofNat 32 (512 * i.val + r.val + 1) := by
    show BitVec.ofNat 32 i.val * 512#32 + BitVec.ofNat 32 r.val + 1#32 = _
    rw [BitVec.ofNat_add, BitVec.ofNat_add, BitVec.ofNat_mul, BitVec.mul_comm]
  refine (congrArg (FloatOps.sitofp (F := Ideal) FTy.f32) h).trans ?_
  show (((BitVec.ofNat 32 (512 * i.val + r.val + 1)).toInt : ℝ) : EReal) = _
  have e : (BitVec.ofNat 32 (512 * i.val + r.val + 1)).toInt = ((512 * i.val + r.val + 1 : ℕ) : ℤ) := by
    have hn : (BitVec.ofNat 32 (512 * i.val + r.val + 1)).toNat = 512 * i.val + r.val + 1 := by
      rw [BitVec.toNat_ofNat]; exact Nat.mod_eq_of_lt (by omega)
    rw [BitVec.toInt_eq_toNat_of_lt (by rw [hn]; omega), hn]
  rw [e]; norm_cast

variable (w : BitVec 32) (s2' : FVec Ideal S536x512 .f32) (u : Vec Ideal S512x128 .f32) (p : Vec Ideal S1x128x128 .bf16) (sc : Vec Ideal S1x128 .f32)
  (d : FVec Ideal S512x128 .bf16) (s : FVec Ideal S512x128 .f32) (pos : FVec Ideal S512x1 .f32) (z : Fin 1) (r : Fin 512) (k : Fin 128)

theorem pay66_at : k0_pay66 w s2' u (ix2 r k)
    = Ideal.div (s2' (ix2 ⟨24 + r.val, by omega⟩ ⟨k.val, by omega⟩)) (min ((k0_pay65 (F := Ideal) w) (ix2 r 0)) (Ideal.ofBits .f32 0x40000000)) - u (ix2 r k) := by
  pointwise [k0_pay66]
  rfl

theorem pay68_at : k0_pay68 d (k0_pay67 p) sc (ix3 z r k) = (∑ j : Fin 128, d (ix2 r j) * p (ix3 0 j k)) * sc (ix2 0 k) := by
  pointwise [k0_pay68, k0_pay67]

theorem pay69_at : k0_pay69 s pos u p sc (ix3 z r k)
    = (∑ j : Fin 128, (Ideal.div (s (ix2 r j)) (min (pos (ix2 r 0)) (Ideal.ofBits .f32 0x40800000)) - u (ix2 r j)) * p (ix3 0 j k)) * sc (ix2 0 k) := by
  pointwise [k0_pay69]
  rfl

theorem pay70_at : k0_pay70 s pos u (ix2 r k)
    = Ideal.div (s (ix2 r k)) (min (pos (ix2 r 0)) (Ideal.ofBits .f32 0x41000000)) - u (ix2 r k) := by
  pointwise [k0_pay70]
  rfl

theorem pay1_at : k0_pay1 d p sc (ix3 z r k) = (∑ j : Fin 128, d (ix2 r j) * p (ix3 0 j k)) * sc (ix2 0 k) := by
  pointwise [k0_pay1]

theorem pay2_at : k0_pay2 s pos u p sc (ix3 z r k)
    = (∑ j : Fin 128, (Ideal.div (s (ix2 r j)) (min (pos (ix2 r 0)) (Ideal.ofBits .f32 0x41800000)) - u (ix2 r j)) * p (ix3 0 j k)) * sc (ix2 0 k) := by
  pointwise [k0_pay2]
  rfl

theorem pay3_at (r : Fin 32) (k : Fin 512) : (k0_pay3 (F := Ideal)) (ix2 r k) = 0 := by
  pointwise [k0_pay3]
theorem pay4_at (r : Fin 8) (k : Fin 128) : (k0_pay4 (F := Ideal)) (ix2 r k) = 0 := by
  pointwise [k0_pay4]
theorem pay5_at (v : Vec Ideal S32x512 .f32) (r : Fin 32) (k : Fin 512) : k0_pay5 v (ix2 r k) = v (ix2 r k) := by
  pointwise [k0_pay5]

end Pool

end Cert.In

end
-- ==== Proof.InTile.lean ====
module

public import proofs.«01_k».proof.Proof.InPay

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

/-- Where a lane of the gate goes among the queries' lanes, -/
def eqv (l : Fin 128) (m : Fin 512) : EReal :=
  if m.val % 128 < 12 then
    if m.val % 128 % 6 < 3 then if l.val = 8 * (m.val % 128 % 6) + (2 * (m.val / 128) + m.val % 128 / 6) then 1 else 0
    else if l.val = 24 then 1 else 0
  else 0

/-- and among the keys' lanes. -/
def ekv (l : Fin 128) (m : Fin 512) : EReal :=
  if m.val % 128 < 12 then
    if m.val % 128 % 6 < 3 then if l.val = 24 then 1 else 0
    else if l.val = 8 * (m.val % 128 % 6 - 3) + (2 * (m.val / 128) + m.val % 128 / 6) then -1 else 0
  else 0

/-- What a grid point reads: 512 tokens of a sequence, and the weights. -/
structure Tile (X : (⟨3, ![2, 8192, 1024]⟩ : Shape).Idx → EReal) (W : (⟨2, ![1024, 2056]⟩ : Shape).Idx → EReal) (B : (⟨1, ![8]⟩ : Shape).Idx → EReal)
    (P : (⟨3, ![4, 128, 128]⟩ : Shape).Idx → EReal) (S : (⟨1, ![512]⟩ : Shape).Idx → EReal) (b : Fin 2) (i : Fin 16)
    (x0 : Vec Ideal S1x512x1024 .f32) (x1 x2 x3 : Vec Ideal S1024x512 .bf16) (x4 : Vec Ideal S512x1024 .bf16) (x5 : Vec Ideal S1024x128 .bf16)
    (x6 : Vec Ideal S1x128 .f32) (x7 : Vec Ideal S4x128x128 .bf16) (x8 : Vec Ideal S1x512 .f32) (x9 x10 : Vec Ideal S128x512 .bf16) : Prop where
  h0 : ∀ (r : Fin 512) (d : Fin 1024), x0 (ix3 0 r d) = X (ix3 b ⟨512 * i.val + r.val, by omega⟩ d)
  h1 : ∀ (d : Fin 1024) (c : Fin 512), x1 (ix2 d c) = W (ix2 d ⟨c.val, by omega⟩)
  h2 : ∀ (d : Fin 1024) (c : Fin 512), x2 (ix2 d c) = W (ix2 d ⟨512 + c.val, by omega⟩) * Ideal.ofBits .f32 0x3E000000#32
  h3 : ∀ (d : Fin 1024) (c : Fin 512), x3 (ix2 d c) = W (ix2 d ⟨1024 + c.val, by omega⟩)
  h4 : ∀ (c : Fin 512) (d : Fin 1024), x4 (ix2 c d) = W (ix2 d ⟨1536 + c.val, by omega⟩)
  h5 : ∀ (d : Fin 1024) (l : Fin 128), l.val < 24 → x5 (ix2 d l) = W (ix2 d ⟨2048 + l.val % 8, by omega⟩)
  h6 : ∀ l : Fin 128, l.val < 24 → x6 (ix2 0 l) = B (ix1 ⟨l.val % 8, by omega⟩)
  h7 : ∀ (g : Fin 4) (k c : Fin 128), x7 (ix3 g k c) = P (ix3 g k c)
  h8 : ∀ c : Fin 512, x8 (ix2 0 c) = S (ix1 c)
  h9 : ∀ (l : Fin 128) (m : Fin 512), x9 (ix2 l m) = eqv l m
  h10 : ∀ (l : Fin 128) (m : Fin 512), x10 (ix2 l m) = ekv l m

/-- The queries' scale is a number. -/
theorem scale_fin : Fin' (Ideal.ofBits .f32 0x3E000000#32) := by
  simp [Ideal.ofBits, Ideal.ieee]
  exact Fin'.mul ⟨_, rfl⟩ ⟨_, rfl⟩

/-- A running sum over a tile's rows, after the sum over the tiles before. -/
theorem tile_run (f : ℕ → EReal) (i r : ℕ) (hr : r < 512) :
    (∑ j : Fin 512, if j.val ≤ r then f (512 * i + j.val) else 0) + ∑ s ∈ Finset.range (512 * i), f s = run f (512 * i + r) := by
  rw [run, add_assoc, Finset.sum_range_add, add_comm]
  congr 1
  rw [Fin.sum_univ_eq_sum_range (fun j => if j ≤ r then f (512 * i + j) else 0) 512, ← Finset.sum_filter]
  refine Finset.sum_congr ?_ fun _ _ => rfl
  ext j
  simp only [Finset.mem_filter, Finset.mem_range]
  omega

section Tiles
variable {X : (⟨3, ![2, 8192, 1024]⟩ : Shape).Idx → EReal} {W : (⟨2, ![1024, 2056]⟩ : Shape).Idx → EReal} {B : (⟨1, ![8]⟩ : Shape).Idx → EReal}
    {P : (⟨3, ![4, 128, 128]⟩ : Shape).Idx → EReal} {S : (⟨1, ![512]⟩ : Shape).Idx → EReal} {b : Fin 2} {i : Fin 16}
    {x0 : Vec Ideal S1x512x1024 .f32} {x1 x2 x3 : Vec Ideal S1024x512 .bf16} {x4 : Vec Ideal S512x1024 .bf16} {x5 : Vec Ideal S1024x128 .bf16}
    {x6 : Vec Ideal S1x128 .f32} {x7 : Vec Ideal S4x128x128 .bf16} {x8 : Vec Ideal S1x512 .f32} {x9 x10 : Vec Ideal S128x512 .bf16}
    (T : Tile X W B P S b i x0 x1 x2 x3 x4 x5 x6 x7 x8 x9 x10)
    (hX : ∀ j, Fin' (X j)) (hW : ∀ j, Fin' (W j)) (hB : ∀ j, Fin' (B j))

include T

theorem Tile.hid_eq (c : Fin 2056) (r : Fin 512) : hid X W b c (512 * i.val + r.val) = ∑ d : Fin 1024, x0 (ix3 0 r d) * W (ix2 d c) := by
  rw [hid, dif_pos (by omega)]
  exact Finset.sum_congr rfl fun d _ => by rw [T.h0]

/-- The pooled columns, -/
theorem Tile.u (r c : Fin 512) : k0_pay55 (k0_pay6 x0) x1 (ix2 r c) = uu X W b c (512 * i.val + r.val) := by
  rw [pay55_at, uu, T.hid_eq]
  exact Finset.sum_congr rfl fun d _ => by rw [pay6_at, T.h1]

/-- the keys, -/
theorem Tile.k (r m : Fin 512) : k0_pay17 (k0_pay6 x0) x3 (ix2 r m) = kpack X W B b ⟨m.val / 128 * 256 + m.val % 128, by omega⟩ (512 * i.val + r.val) := by
  have hm := m.isLt
  rw [pay17_at, kpack, dif_pos (by show (m.val / 128 * 256 + m.val % 128) % 256 < 128; omega), T.hid_eq]
  refine Finset.sum_congr rfl fun d _ => ?_
  rw [pay6_at, T.h3]
  congr 3
  refine Fin.ext ?_
  show 1024 + m.val = 1024 + ((m.val / 128 * 256 + m.val % 128) / 256 * 128 + (m.val / 128 * 256 + m.val % 128) % 256)
  omega

/-- the values, -/
theorem Tile.v (m r : Fin 512) : k0_pay35 (k0_pay6 x0) x4 (ix2 m r) = hid X W b ⟨1536 + m.val, by omega⟩ (512 * i.val + r.val) := by
  rw [pay35_at, T.hid_eq]
  exact Finset.sum_congr rfl fun d _ => by rw [pay6_at, T.h4, mul_comm]

/-- and the scaled queries. -/
theorem Tile.q (hX : ∀ j, Fin' (X j)) (hW : ∀ j, Fin' (W j)) (r m : Fin 512) :
    k0_pay16 (k0_pay6 x0) x2 (ix2 r m) = qpack X W B b ⟨m.val / 128 * 256 + m.val % 128, by omega⟩ (512 * i.val + r.val) := by
  have hm := m.isLt
  rw [pay16_at, qpack, dif_pos (by show (m.val / 128 * 256 + m.val % 128) % 256 < 128; omega), hid, dif_pos (by omega)]
  refine Eq.trans ?_ (sum_mul_right _ (fun d => (hX _).mul (hW _)) _ scale_fin).symm
  refine Finset.sum_congr rfl fun d _ => ?_
  rw [pay6_at, T.h2, T.h0, mul_assoc]
  congr 4
  refine Fin.ext ?_
  show 512 + m.val = 512 + ((m.val / 128 * 256 + m.val % 128) / 256 * 128 + (m.val / 128 * 256 + m.val % 128) % 256)
  omega

/-- The logarithms of the gates. -/
theorem Tile.lf (r : Fin 512) (l : Fin 128) (hl : l.val < 24) :
    k0_pay7 x0 x5 x6 (ix2 r l) = lf X W B b ⟨l.val % 8, by omega⟩ (512 * i.val + r.val) := by
  rw [pay7_at, if_pos hl, Cert.InMath.lf, T.hid_eq, T.h6 l hl]
  congr 2
  exact Finset.sum_congr rfl fun d _ => by rw [T.h5 d l hl]

include hX hW hB in
theorem Tile.lf_fin (j : S512x128.Idx) : Fin' (k0_pay7 x0 x5 x6 j) := by
  obtain ⟨r, l, rfl⟩ : ∃ r l, j = ix2 r l := ⟨j 0, j 1, by funext a; fin_cases a <;> rfl⟩
  by_cases hl : l.val < 24
  · rw [T.lf r l hl]; exact Cert.InMath.lf_fin hX hW hB _ _ _
  · rw [pay7_at, if_neg hl]; exact ⟨0, rfl⟩

variable {car : Vec Ideal S1x128 .f32}
  (hcar : ∀ l : Fin 128, (hl : l.val < 24) → car (ix2 0 l) = ∑ s ∈ Finset.range (512 * i.val), Cert.InMath.lf X W B b ⟨l.val % 8, by omega⟩ s)

include hX hW hB hcar in
/-- The running sums of the gates' logarithms. -/
theorem Tile.cum (r : Fin 512) (l : Fin 128) (hl : l.val < 24) :
    k0_pay11 (k0_pay7 x0 x5 x6) k0_pay8 (k0_pay9 x0 x5 x6) (k0_pay10 x0 x5 x6) car (ix2 r l)
      = cum X W B b ⟨l.val % 8, by omega⟩ (512 * i.val + r.val) := by
  rw [pay11_at _ (k0_pay9 x0 x5 x6) (k0_pay10 x0 x5 x6) _ (T.lf_fin hX hW hB) (fun _ => rfl) (fun _ => rfl), hcar l hl, Cert.InMath.cum, ← tile_run _ _ _ r.isLt]
  congr 1
  refine Finset.sum_congr rfl fun j _ => ?_
  rw [T.lf j l hl]

include hX hW hB hcar in
/-- What the tile leaves for the next. -/
theorem Tile.carry (l : Fin 128) (hl : l.val < 24) :
    k0_pay12 (k0_pay7 x0 x5 x6) k0_pay8 (k0_pay9 x0 x5 x6) (k0_pay10 x0 x5 x6) car (ix2 7 l)
      = ∑ s ∈ Finset.range (512 * (i.val + 1)), Cert.InMath.lf X W B b ⟨l.val % 8, by omega⟩ s := by
  rw [pay12_at, T.cum hX hW hB hcar _ l hl, Cert.InMath.cum, run]
  rfl

include hX hW hB hcar in
/-- The gate's lanes. -/
theorem Tile.gate (r : Fin 512) (l : Fin 128) :
    k0_pay13 (iota .tc S512x128 32 [1] iota_S512x128_d1_w32) (k0_pay7 x0 x5 x6) k0_pay8 (k0_pay9 x0 x5 x6) (k0_pay10 x0 x5 x6) car (ix2 r l)
      = if l.val < 8 then Cert.InMath.cum X W B b ⟨l.val % 8, by omega⟩ (512 * i.val + r.val) else if l.val < 24 then 0 else if l.val = 24 then 1 else 0 := by
  rw [pay13_at]
  · by_cases h : l.val < 8
    · rw [if_pos h, if_pos h, T.cum hX hW hB hcar r l (by omega)]
    · rw [if_neg h, if_neg h]
  · intro hl
    rw [T.cum hX hW hB hcar r l hl]
    exact cum_fin hX hW hB _ _ _

include hX hW hB hcar in
/-- The gate's lanes among the queries -/
theorem Tile.gq (r m : Fin 512) :
    k0_pay14 (iota .tc S512x128 32 [1] iota_S512x128_d1_w32) (k0_pay7 x0 x5 x6) k0_pay8 (k0_pay9 x0 x5 x6) (k0_pay10 x0 x5 x6) car x9 (ix2 r m)
      = qpack X W B b ⟨m.val / 128 * 256 + 128 + m.val % 128, by omega⟩ (512 * i.val + r.val) := by
  have hm := m.isLt
  have e : (m.val / 128 * 256 + 128 + m.val % 128) % 256 = 128 + m.val % 128 := by omega
  have e' : (m.val / 128 * 256 + 128 + m.val % 128) / 256 = m.val / 128 := by omega
  have e'' : 128 + m.val % 128 - 128 = m.val % 128 := by omega
  have b4 : m.val / 128 < 4 := by omega
  rw [pay14_at]
  unfold qpack
  simp only [e, e', e'', T.h9, T.gate hX hW hB hcar, show ¬(128 + m.val % 128 < 128) by omega, dite_false]
  unfold eqv
  by_cases h12 : m.val % 128 < 12
  · have b2 : m.val % 128 / 6 < 2 := by omega
    have b8 : 2 * (m.val / 128) + m.val % 128 / 6 < 8 := by omega
    simp only [h12, if_true, dite_true]
    by_cases h3 : m.val % 128 % 6 < 3
    · simp only [h3, if_true]
      rw [Finset.sum_eq_single (⟨8 * (m.val % 128 % 6) + (2 * (m.val / 128) + m.val % 128 / 6), by omega⟩ : Fin 128)]
      · rw [if_pos rfl, mul_one]
        by_cases h0 : m.val % 128 % 6 = 0
        · rw [if_pos h0, if_pos (by show 8 * (m.val % 128 % 6) + (2 * (m.val / 128) + m.val % 128 / 6) < 8; omega)]
          congr 1
          refine Fin.ext ?_
          show (8 * (m.val % 128 % 6) + (2 * (m.val / 128) + m.val % 128 / 6)) % 8 = m.val / 128 * 2 + m.val % 128 / 6
          omega
        · rw [if_neg h0, if_neg (by show ¬(8 * (m.val % 128 % 6) + (2 * (m.val / 128) + m.val % 128 / 6) < 8); omega),
            if_pos (by show 8 * (m.val % 128 % 6) + (2 * (m.val / 128) + m.val % 128 / 6) < 24; omega)]
      · intro l _ hl
        rw [if_neg fun h => hl (Fin.ext h), mul_zero]
      · exact fun h => absurd (Finset.mem_univ _) h
    · simp only [h3, if_false]
      rw [if_neg (by omega), Finset.sum_eq_single (⟨24, by omega⟩ : Fin 128)]
      · simp
      · intro l _ hl
        rw [if_neg fun h => hl (Fin.ext h), mul_zero]
      · exact fun h => absurd (Finset.mem_univ _) h
  · simp only [h12, if_false, dite_false, mul_zero, Finset.sum_const_zero]

include hX hW hB hcar in
/-- and among the keys. -/
theorem Tile.gk (r m : Fin 512) :
    k0_pay15 (k0_pay13 (iota .tc S512x128 32 [1] iota_S512x128_d1_w32) (k0_pay7 x0 x5 x6) k0_pay8 (k0_pay9 x0 x5 x6) (k0_pay10 x0 x5 x6) car) x10 (ix2 r m)
      = kpack X W B b ⟨m.val / 128 * 256 + 128 + m.val % 128, by omega⟩ (512 * i.val + r.val) := by
  have hm := m.isLt
  have e : (m.val / 128 * 256 + 128 + m.val % 128) % 256 = 128 + m.val % 128 := by omega
  have e' : (m.val / 128 * 256 + 128 + m.val % 128) / 256 = m.val / 128 := by omega
  have e'' : 128 + m.val % 128 - 128 = m.val % 128 := by omega
  have b4 : m.val / 128 < 4 := by omega
  rw [pay15_at]
  unfold kpack
  simp only [e, e', e'', T.h10, T.gate hX hW hB hcar, show ¬(128 + m.val % 128 < 128) by omega, dite_false]
  unfold ekv
  by_cases h12 : m.val % 128 < 12
  · have b2 : m.val % 128 / 6 < 2 := by omega
    have b8 : 2 * (m.val / 128) + m.val % 128 / 6 < 8 := by omega
    simp only [h12, if_true, dite_true]
    by_cases h3 : m.val % 128 % 6 < 3
    · simp only [h3, if_true]
      rw [Finset.sum_eq_single (⟨24, by omega⟩ : Fin 128)]
      · simp
      · intro l _ hl
        rw [if_neg fun h => hl (Fin.ext h), mul_zero]
      · exact fun h => absurd (Finset.mem_univ _) h
    · simp only [h3, if_false]
      rw [Finset.sum_eq_single (⟨8 * (m.val % 128 % 6 - 3) + (2 * (m.val / 128) + m.val % 128 / 6), by omega⟩ : Fin 128)]
      · rw [if_pos rfl, mul_neg, mul_one]
        by_cases h0 : m.val % 128 % 6 = 3
        · rw [if_pos h0, if_pos (by show 8 * (m.val % 128 % 6 - 3) + (2 * (m.val / 128) + m.val % 128 / 6) < 8; omega)]
          congr 2
          refine Fin.ext ?_
          show (8 * (m.val % 128 % 6 - 3) + (2 * (m.val / 128) + m.val % 128 / 6)) % 8 = m.val / 128 * 2 + m.val % 128 / 6
          omega
        · rw [if_neg h0, if_neg (by show ¬(8 * (m.val % 128 % 6 - 3) + (2 * (m.val / 128) + m.val % 128 / 6) < 8); omega),
            if_pos (by show 8 * (m.val % 128 % 6 - 3) + (2 * (m.val / 128) + m.val % 128 / 6) < 24; omega), neg_zero]
      · intro l _ hl
        rw [if_neg fun h => hl (Fin.ext h), mul_zero]
      · exact fun h => absurd (Finset.mem_univ _) h
  · simp only [h12, if_false, dite_false, mul_zero, Finset.sum_const_zero]

end Tiles

end Cert.In

end
-- ==== Proof.InHost.lean ====
module

public import proofs.«01_k».proof.Proof.InTile
public import proofs.«01_k».proof.Proof.InPay
public import proofs.«01_k».proof.Proof.Gen.InKernelIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

variable (m : (ℓ : Loc nD τ sig) → Buf (Elt Ideal) ℓ)

abbrev aW (c : Dev nD) : Vec Ideal S1024x2056 .f32 := m ((c : Thread nD τ).loc main_arg1)

/-- The zero that fills up is zero, -/
theorem fill_zero : (FloatOps.sitofp (F := Ideal) FTy.bf16 0#32 : EReal) = 0 := by
  show (((0#32 : BitVec 32).toInt : ℝ) : EReal) = 0
  simp

theorem neg_one : Ideal.ofBits FTy.f32 3212836864#32 = (-1 : EReal) := by
  simp [Ideal.ofBits, Ideal.ieee]
  rw [← EReal.coe_mul]
  norm_num

/-- and the lane of a gate is computed exactly. -/
theorem word_lane : ∀ (g : Fin 6) (p : Fin 4) (a : Fin 2), IntOp.addi (IntOp.muli (8#32) (BitVec.ofNat 32 g.val)) (IntOp.addi (IntOp.muli (2#32) (BitVec.ofNat 32 p.val)) (BitVec.ofNat 32 a.val))
    = BitVec.ofNat 32 (8 * g.val + (2 * p.val + a.val)) := by decide

theorem word_lane' : ∀ (g : Fin 6) (p : Fin 4) (a : Fin 2), 3 ≤ g.val → IntOp.addi (IntOp.muli (8#32) (IntOp.subi (BitVec.ofNat 32 g.val) 3#32)) (IntOp.addi (IntOp.muli (2#32) (BitVec.ofNat 32 p.val)) (BitVec.ofNat 32 a.val))
    = BitVec.ofNat 32 (8 * (g.val - 3) + (2 * p.val + a.val)) := by decide

/-- The pool's weights, -/
theorem v1 (c : Dev nD) (d : Fin 1024) (k : Fin 512) : (V m c main_v37 : Vec Ideal S1024x512 .bf16) (ix2 d k) = aW m c (ix2 d ⟨k.val, by omega⟩) := by
  unfold V aW; after_reads_at

/-- the queries' weights with their scale, -/
theorem v2 (c : Dev nD) (d : Fin 1024) (k : Fin 512) : (V m c main_v41 : Vec Ideal S1024x512 .bf16) (ix2 d k) = aW m c (ix2 d ⟨512 + k.val, by omega⟩) * Ideal.ofBits .f32 0x3E000000#32 := by
  unfold V aW; after_reads_at

/-- the keys' weights, -/
theorem v3 (c : Dev nD) (d : Fin 1024) (k : Fin 512) : (V m c main_v43 : Vec Ideal S1024x512 .bf16) (ix2 d k) = aW m c (ix2 d ⟨1024 + k.val, by omega⟩) := by
  unfold V aW; after_reads_at

/-- the values' weights, transposed, -/
theorem v4 (c : Dev nD) (d : Fin 1024) (k : Fin 512) : (V m c main_v46 : Vec Ideal S512x1024 .bf16) (ix2 k d) = aW m c (ix2 d ⟨1536 + k.val, by omega⟩) := by
  unfold V aW; after_reads_at

/-- the gates' weights three times, -/
theorem v5 (c : Dev nD) (d : Fin 1024) (l : Fin 128) (hl : l.val < 24) : (V m c main_v52 : Vec Ideal S1024x128 .bf16) (ix2 d l) = aW m c (ix2 d ⟨2048 + l.val % 8, by omega⟩) := by
  unfold V aW; after_reads_at
  rw [dif_pos hl]

/-- the gates' bias three times, -/
theorem v6 (c : Dev nD) (l : Fin 128) (hl : l.val < 24) : (V m c main_v57 : Vec Ideal S1x128 .f32) (ix2 0 l) = (m ((c : Thread nD τ).loc main_arg2) : Vec Ideal S8 .f32) (ix1 ⟨l.val % 8, by omega⟩) := by
  unfold V; after_reads_at
  rw [dif_pos hl]

/-- the mixers' weights, -/
theorem v7 (c : Dev nD) (g : Fin 4) (k d : Fin 128) : (V m c main_v58 : Vec Ideal S4x128x128 .bf16) (ix3 g k d) = (m ((c : Thread nD τ).loc main_arg3) : Vec Ideal S4x128x128 .f32) (ix3 g k d) := by
  unfold V; after_reads_at

/-- the mixers' scale, -/
theorem v8 (c : Dev nD) (k : Fin 512) : (V m c main_v59 : Vec Ideal S1x512 .f32) (ix2 0 k) = (m ((c : Thread nD τ).loc main_arg4) : Vec Ideal S512 .f32) (ix1 k) := by
  unfold V; after_reads_at

/-- the gates' places among the queries' lanes, -/
theorem v9 (c : Dev nD) (l : Fin 128) (k : Fin 512) : (V m c main_v31 : Vec Ideal S128x512 .bf16) (ix2 l k) = eqv l k := by
  unfold V eqv; after_reads_at
  have hl := l.isLt
  have hk := k.isLt
  by_cases hc : k.val % 128 < 12
  · rw [dif_pos ⟨by omega, hc⟩, if_pos hc, sel_slt _ 3 (by omega) (by norm_num)]
    have hg : k.val % 128 % 6 < 6 := by omega
    have hp : k.val / 128 < 4 := by omega
    have ha : k.val % 128 / 6 < 2 := by omega
    have e := word_lane ⟨_, hg⟩ ⟨_, hp⟩ ⟨_, ha⟩
    dsimp only at e
    rw [e, sel_eq _ _ (by omega) (by omega), sel_eq _ 24 (by omega) (by norm_num)]
  · rw [dif_neg (fun h => hc h.2), if_neg hc]
    exact fill_zero

/-- and among the keys' lanes. -/
theorem v10 (c : Dev nD) (l : Fin 128) (k : Fin 512) : (V m c main_v35 : Vec Ideal S128x512 .bf16) (ix2 l k) = ekv l k := by
  unfold V ekv; after_reads_at
  have hl := l.isLt
  have hk := k.isLt
  by_cases hc : k.val % 128 < 12
  · rw [dif_pos ⟨by omega, hc⟩, if_pos hc, sel_slt _ 3 (by omega) (by norm_num)]
    have hg : k.val % 128 % 6 < 6 := by omega
    have hp : k.val / 128 < 4 := by omega
    have ha : k.val % 128 / 6 < 2 := by omega
    by_cases h3 : k.val % 128 % 6 < 3
    · rw [if_pos h3, if_pos h3, sel_eq _ 24 (by omega) (by norm_num)]
    · have e := word_lane' ⟨_, hg⟩ ⟨_, hp⟩ ⟨_, ha⟩ (Nat.le_of_not_lt h3)
      dsimp only at e
      rw [if_neg h3, if_neg h3, e, sel_eq _ _ (by omega) (by omega), neg_one]
  · rw [dif_neg (fun h => hc h.2), if_neg hc]
    exact fill_zero

/-! ## What the grid's points read -/

/-- The windows' blocks. -/
theorem idx : ∀ t : Fin cfg0.N, (win0_0.index t = ![t.val / 16, t.val % 16, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0, 0] ∧ win0_8.index t = ![0, 0]
    ∧ win0_9.index t = ![0, 0] ∧ win0_10.index t = ![0, 0] ∧ win0_11.index t = ![t.val / 16, t.val % 16, 0] ∧ win0_12.index t = ![t.val / 16, t.val % 16, 0]
    ∧ win0_13.index t = ![t.val / 16, t.val % 16, 0] ∧ win0_14.index t = ![t.val / 16, 0, t.val % 16, 0, 0]) :=
  (by decide +kernel : ∀ t : Fin grid0.N, _)

/-- A tile of the layer's input, -/
theorem i0 (c : Dev nD) (t : Fin cfg0.N) (b : Fin 2) (hb : b.val = t.val / 16) (i : Fin 16) (hi : i.val = t.val % 16) (r : Fin 512) (d : Fin 1024) :
    (iblk m c 0 t : Vec Ideal S1x512x1024 .f32) (ix3 0 r d) = (m ((c : Thread nD τ).loc main_arg0) : Vec Ideal S2x8192x1024 .f32) (ix3 b ⟨512 * i.val + r.val, by omega⟩ d) := by
  refine Eq.trans ?_ (congrFun (V_main_arg0 m c) _)
  unfold iblk
  refine congrArg (V m c main_arg0 : Vec Ideal S2x8192x1024 .f32) ?_
  blk_ext [idx t]

/-- the whole of operand 1, -/
theorem i1 (c : Dev nD) (t : Fin cfg0.N) (d : Fin 1024) (k : Fin 512) : (iblk m c 1 t : Vec Ideal S1024x512 .bf16) (ix2 d k) = (V m c main_v37 : Vec Ideal S1024x512 .bf16) (ix2 d k) := by
  unfold iblk
  refine congrArg (V m c main_v37 : Vec Ideal S1024x512 .bf16) ?_
  blk_ext [idx t]

/-- the whole of operand 2, -/
theorem i2 (c : Dev nD) (t : Fin cfg0.N) (d : Fin 1024) (k : Fin 512) : (iblk m c 2 t : Vec Ideal S1024x512 .bf16) (ix2 d k) = (V m c main_v41 : Vec Ideal S1024x512 .bf16) (ix2 d k) := by
  unfold iblk
  refine congrArg (V m c main_v41 : Vec Ideal S1024x512 .bf16) ?_
  blk_ext [idx t]

/-- the whole of operand 3, -/
theorem i3 (c : Dev nD) (t : Fin cfg0.N) (d : Fin 1024) (k : Fin 512) : (iblk m c 3 t : Vec Ideal S1024x512 .bf16) (ix2 d k) = (V m c main_v43 : Vec Ideal S1024x512 .bf16) (ix2 d k) := by
  unfold iblk
  refine congrArg (V m c main_v43 : Vec Ideal S1024x512 .bf16) ?_
  blk_ext [idx t]

/-- the whole of operand 4, -/
theorem i4 (c : Dev nD) (t : Fin cfg0.N) (d : Fin 512) (k : Fin 1024) : (iblk m c 4 t : Vec Ideal S512x1024 .bf16) (ix2 d k) = (V m c main_v46 : Vec Ideal S512x1024 .bf16) (ix2 d k) := by
  unfold iblk
  refine congrArg (V m c main_v46 : Vec Ideal S512x1024 .bf16) ?_
  blk_ext [idx t]

/-- the whole of operand 5, -/
theorem i5 (c : Dev nD) (t : Fin cfg0.N) (d : Fin 1024) (k : Fin 128) : (iblk m c 5 t : Vec Ideal S1024x128 .bf16) (ix2 d k) = (V m c main_v52 : Vec Ideal S1024x128 .bf16) (ix2 d k) := by
  unfold iblk
  refine congrArg (V m c main_v52 : Vec Ideal S1024x128 .bf16) ?_
  blk_ext [idx t]

/-- the whole of operand 6, -/
theorem i6 (c : Dev nD) (t : Fin cfg0.N) (d : Fin 1) (k : Fin 128) : (iblk m c 6 t : Vec Ideal S1x128 .f32) (ix2 d k) = (V m c main_v57 : Vec Ideal S1x128 .f32) (ix2 d k) := by
  unfold iblk
  refine congrArg (V m c main_v57 : Vec Ideal S1x128 .f32) ?_
  blk_ext [idx t]

/-- the whole of operand 7, -/
theorem i7 (c : Dev nD) (t : Fin cfg0.N) (g : Fin 4) (k d : Fin 128) : (iblk m c 7 t : Vec Ideal S4x128x128 .bf16) (ix3 g k d) = (V m c main_v58 : Vec Ideal S4x128x128 .bf16) (ix3 g k d) := by
  unfold iblk
  refine congrArg (V m c main_v58 : Vec Ideal S4x128x128 .bf16) ?_
  blk_ext [idx t]

/-- the whole of operand 8, -/
theorem i8 (c : Dev nD) (t : Fin cfg0.N) (d : Fin 1) (k : Fin 512) : (iblk m c 8 t : Vec Ideal S1x512 .f32) (ix2 d k) = (V m c main_v59 : Vec Ideal S1x512 .f32) (ix2 d k) := by
  unfold iblk
  refine congrArg (V m c main_v59 : Vec Ideal S1x512 .f32) ?_
  blk_ext [idx t]

/-- the whole of operand 9, -/
theorem i9 (c : Dev nD) (t : Fin cfg0.N) (d : Fin 128) (k : Fin 512) : (iblk m c 9 t : Vec Ideal S128x512 .bf16) (ix2 d k) = (V m c main_v31 : Vec Ideal S128x512 .bf16) (ix2 d k) := by
  unfold iblk
  refine congrArg (V m c main_v31 : Vec Ideal S128x512 .bf16) ?_
  blk_ext [idx t]

/-- the whole of operand 10, -/
theorem i10 (c : Dev nD) (t : Fin cfg0.N) (d : Fin 128) (k : Fin 512) : (iblk m c 10 t : Vec Ideal S128x512 .bf16) (ix2 d k) = (V m c main_v35 : Vec Ideal S128x512 .bf16) (ix2 d k) := by
  unfold iblk
  refine congrArg (V m c main_v35 : Vec Ideal S128x512 .bf16) ?_
  blk_ext [idx t]

/-- so a point reads a tile of the input and the weights. -/
theorem tile (c : Dev nD) (t : Fin cfg0.N) (b : Fin 2) (hb : b.val = t.val / 16) (i : Fin 16) (hi : i.val = t.val % 16) :
    Tile (m ((c : Thread nD τ).loc main_arg0)) (m ((c : Thread nD τ).loc main_arg1)) (m ((c : Thread nD τ).loc main_arg2)) (m ((c : Thread nD τ).loc main_arg3)) (m ((c : Thread nD τ).loc main_arg4)) b i
      (iblk m c 0 t) (iblk m c 1 t) (iblk m c 2 t) (iblk m c 3 t) (iblk m c 4 t) (iblk m c 5 t) (iblk m c 6 t) (iblk m c 7 t) (iblk m c 8 t) (iblk m c 9 t) (iblk m c 10 t) where
  h0 := i0 m c t b hb i hi
  h1 d k := (i1 m c t d k).trans (v1 m c d k)
  h2 d k := (i2 m c t d k).trans (v2 m c d k)
  h3 d k := (i3 m c t d k).trans (v3 m c d k)
  h4 k d := (i4 m c t k d).trans (v4 m c d k)
  h5 d l hl := (i5 m c t d l).trans (v5 m c d l hl)
  h6 l hl := (i6 m c t 0 l).trans (v6 m c l hl)
  h7 g k d := (i7 m c t g k d).trans (v7 m c g k d)
  h8 k := (i8 m c t 0 k).trans (v8 m c k)
  h9 l k := (i9 m c t l k).trans (v9 m c l k)
  h10 l k := (i10 m c t l k).trans (v10 m c l k)

end Cert.In

end
-- ==== Proof.InPool.lean ====
module

public import proofs.«01_k».proof.Proof.InTile
public import proofs.«01_k».proof.Proof.AttnStep

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

/-! ## Loads -/

section Load
variable {sig' : RefSig} {κ' : Kind} {sp : Space} {s : Shape} {el : EltTy}

/-- A load of a whole operand is the operand. -/
theorem load_whole {M : Memref sig' κ' sp s el} (h : M.IsWhole) (x : s.Idx → Elt Ideal el) {off : Fin s.rank → ℕ} (inb : ∀ a, off a + s.size a ≤ s.size a) :
    M.view.readAt (Elt Ideal) (Rect.unit off s.size inb).toLoadRect (h.unread x) = x :=
  funext fun j => (Cert.Attn.readAt_at _ _ inb j j rfl fun a => by have := inb a; omega).trans (congrFun (Memref.IsWhole.read_unread h x) j)

/-- A load of what was stored before reads the stores at the offset index. -/
theorem readCov_at (v : View sig' κ' sp s el) (L : List (View.Piece (Elt Ideal) s el)) {off size : Fin s.rank → ℕ}
    (inb : ∀ a, off a + size a ≤ s.size a) (x : (Rect.unit off size inb).shape.Idx) (y : s.Idx) (h : ∀ a, (y a).val = off a + (x a).val) :
    v.readCov L (Rect.unit off size inb).toLoadRect x = v.read (Elt Ideal) (v.writes (Elt Ideal) v.junk L) y :=
  Cert.Attn.readAt_at v _ inb x y rfl h

end Load

/-! ## The sums over trailing windows -/

section Windows
variable (e : Fin 512 → ℕ → EReal) (n : ℕ) (v17 : View sig .tc .vmem S544x512 .f32) (v18 : View sig .tc .vmem S544x384 .f32)
  (v19 : View sig .tc .vmem S544x256 .f32) (v20 : View sig .tc .vmem S544x128 .f32)
  (L0 : List (View.Piece (Elt Ideal) S544x512 .f32)) (L1 : List (View.Piece (Elt Ideal) S544x384 .f32))
  (L2 : List (View.Piece (Elt Ideal) S544x256 .f32)) (L3 : List (View.Piece (Elt Ideal) S544x128 .f32))

/-- The first scratch holds the rows from `n` on, the next three the sums over 2, 4 and 8 rows. -/
def H0 : Prop := ∀ (r : Fin 544) (c : Fin 512), v17.read (Elt Ideal) (v17.writes (Elt Ideal) v17.junk L0) (ix2 r c) = e c (n + r.val)
def H1 : Prop := ∀ (r : Fin 544) (c : Fin 384), 8 ≤ r.val → v18.read (Elt Ideal) (v18.writes (Elt Ideal) v18.junk L1) (ix2 r c) = s2 (e ⟨128 + c.val, by omega⟩) (n + r.val)
def H2 : Prop := ∀ (r : Fin 544) (c : Fin 256), 16 ≤ r.val → v19.read (Elt Ideal) (v19.writes (Elt Ideal) v19.junk L2) (ix2 r c) = s4 (e ⟨256 + c.val, by omega⟩) (n + r.val)
def H3 : Prop := ∀ (r : Fin 544) (c : Fin 128), 24 ≤ r.val → v20.read (Elt Ideal) (v20.writes (Elt Ideal) v20.junk L3) (ix2 r c) = s8 (e ⟨384 + c.val, by omega⟩) (n + r.val)

variable {e n v17 v18 v19 v20 L0 L1 L2 L3}

/-- A load from the first scratch, -/
theorem H0.load (h : H0 e n v17 L0) {o p N K : ℕ} (inb : ∀ a, (![o, p] : Fin 2 → ℕ) a + (![N, K] : Fin 2 → ℕ) a ≤ S544x512.size a) (r : Fin N) (c : Fin K)
    (ho : o + r.val < 544) (hp : p + c.val < 512) :
    v17.readCov L0 (Rect.unit (s := S544x512) ![o, p] ![N, K] inb).toLoadRect (ix2 r c) = e ⟨p + c.val, hp⟩ (n + (o + r.val)) :=
  (readCov_at v17 L0 inb (ix2 r c) (ix2 (⟨o + r.val, ho⟩ : Fin 544) (⟨p + c.val, hp⟩ : Fin 512)) fun a => by fin_cases a <;> rfl).trans (h _ _)

/-- and from the others. -/
theorem H1.load (h : H1 e n v18 L1) {o : ℕ} (inb : ∀ a, (![o, 0] : Fin 2 → ℕ) a + S528x384.size a ≤ S544x384.size a) (r : Fin 528) (c : Fin 384)
    (ho : o + r.val < 544) (h8 : 8 ≤ o) :
    v18.readCov L1 (Rect.unit (s := S544x384) ![o, 0] S528x384.size inb).toLoadRect (ix2 r c) = s2 (e ⟨128 + c.val, by omega⟩) (n + (o + r.val)) :=
  (readCov_at v18 L1 inb (ix2 r c) (ix2 (⟨o + r.val, ho⟩ : Fin 544) c) fun a => by fin_cases a <;> simp [ix2]).trans (h _ _ (by show 8 ≤ o + r.val; omega))

theorem H2.load (h : H2 e n v19 L2) {o : ℕ} (inb : ∀ a, (![o, 0] : Fin 2 → ℕ) a + S520x256.size a ≤ S544x256.size a) (r : Fin 520) (c : Fin 256)
    (ho : o + r.val < 544) (h8 : 16 ≤ o) :
    v19.readCov L2 (Rect.unit (s := S544x256) ![o, 0] S520x256.size inb).toLoadRect (ix2 r c) = s4 (e ⟨256 + c.val, by omega⟩) (n + (o + r.val)) :=
  (readCov_at v19 L2 inb (ix2 r c) (ix2 (⟨o + r.val, ho⟩ : Fin 544) c) fun a => by fin_cases a <;> simp [ix2]).trans (h _ _ (by show 16 ≤ o + r.val; omega))

theorem H3.load (h : H3 e n v20 L3) {o : ℕ} (inb : ∀ a, (![o, 0] : Fin 2 → ℕ) a + S512x128.size a ≤ S544x128.size a) (r : Fin 512) (c : Fin 128)
    (ho : o + r.val < 544) (h8 : 24 ≤ o) :
    v20.readCov L3 (Rect.unit (s := S544x128) ![o, 0] S512x128.size inb).toLoadRect (ix2 r c) = s8 (e ⟨384 + c.val, by omega⟩) (n + (o + r.val)) :=
  (readCov_at v20 L3 inb (ix2 r c) (ix2 (⟨o + r.val, ho⟩ : Fin 544) c) fun a => by fin_cases a <;> simp [ix2]).trans (h _ _ (by show 24 ≤ o + r.val; omega))

variable {a b : Vec Ideal S536x512 .f32} {a4 b4 : Vec Ideal S528x384 .f32} {a8 b8 : Vec Ideal S520x256 .f32} {a16 b16 : Vec Ideal S512x128 .f32}

/-- The sums over two rows, stored; -/
theorem H1.mk (ha : ∀ r c, a (ix2 r c) = e c (n + (8 + r.val))) (hb : ∀ r c, b (ix2 r c) = e c (n + (7 + r.val))) (v18 : View sig .tc .vmem S544x384 .f32) :
    H1 e n v18 [⟨Rect.unit ![8, 0] S536x384.size inb_S544x384_S536x384_8_0, k0_pay57 a b⟩] := by
  intro r c h
  refine (View.read_writes_cons_unit_of_mem _ _ _ _ _ _ (ix2 (⟨r.val - 8, by omega⟩ : Fin 536) c) rfl fun x => ?_).trans ?_
  · fin_cases x <;> simp [ix2]; omega
  · rw [pay57_at, ha, hb, s2]
    exact congrArg₂ (· + ·) (congrArg _ (by show n + (8 + (r.val - 8)) = _; omega)) (congrArg _ (by show n + (7 + (r.val - 8)) = _; omega))

/-- over four rows; -/
theorem H2.mk (ha : ∀ r (c : Fin 384), a4 (ix2 r c) = s2 (e ⟨128 + c.val, by omega⟩) (n + (16 + r.val)))
    (hb : ∀ r (c : Fin 384), b4 (ix2 r c) = s2 (e ⟨128 + c.val, by omega⟩) (n + (14 + r.val))) (v19 : View sig .tc .vmem S544x256 .f32) :
    H2 e n v19 [⟨Rect.unit ![16, 0] S528x256.size inb_S544x256_S528x256_16_0, k0_pay59 a4 b4⟩] := by
  intro r c h
  refine (View.read_writes_cons_unit_of_mem _ _ _ _ _ _ (ix2 (⟨r.val - 16, by omega⟩ : Fin 528) c) rfl fun x => ?_).trans ?_
  · fin_cases x <;> simp [ix2]; omega
  · rw [pay59_at, ha, hb, s4]
    have hc : (⟨128 + (128 + c.val), by omega⟩ : Fin 512) = ⟨256 + c.val, by omega⟩ := Fin.ext (by show 128 + (128 + c.val) = 256 + c.val; omega)
    exact congrArg₂ (· + ·) (congrArg₂ (fun x y => s2 (e x) y) hc (by show n + (16 + (r.val - 16)) = _; omega))
      (congrArg₂ (fun x y => s2 (e x) y) hc (by show n + (14 + (r.val - 16)) = _; omega))

/-- over eight rows. -/
theorem H3.mk (ha : ∀ r (c : Fin 256), a8 (ix2 r c) = s4 (e ⟨256 + c.val, by omega⟩) (n + (24 + r.val)))
    (hb : ∀ r (c : Fin 256), b8 (ix2 r c) = s4 (e ⟨256 + c.val, by omega⟩) (n + (20 + r.val))) (v20 : View sig .tc .vmem S544x128 .f32) :
    H3 e n v20 [⟨Rect.unit ![24, 0] S520x128.size inb_S544x128_S520x128_24_0, k0_pay61 a8 b8⟩] := by
  intro r c h
  refine (View.read_writes_cons_unit_of_mem _ _ _ _ _ _ (ix2 (⟨r.val - 24, by omega⟩ : Fin 520) c) rfl fun x => ?_).trans ?_
  · fin_cases x <;> simp [ix2]; omega
  · rw [pay61_at, ha, hb, s8]
    have hc : (⟨256 + (128 + c.val), by omega⟩ : Fin 512) = ⟨384 + c.val, by omega⟩ := Fin.ext (by show 256 + (128 + c.val) = 384 + c.val; omega)
    exact congrArg₂ (· + ·) (congrArg₂ (fun x y => s4 (e x) y) hc (by show n + (24 + (r.val - 24)) = _; omega))
      (congrArg₂ (fun x y => s4 (e x) y) hc (by show n + (20 + (r.val - 24)) = _; omega))

/-- The four sums of a tile's rows. -/
theorem sum2 (ha : ∀ r c, a (ix2 r c) = e c (n + (8 + r.val))) (hb : ∀ r c, b (ix2 r c) = e c (n + (7 + r.val))) (r : Fin 512) (k : Fin 128) :
    k0_pay56 a b (ix2 ⟨24 + r.val, by omega⟩ ⟨k.val, by omega⟩) = s2 (e ⟨128 * (0 : Fin 4).val + k.val, by show 128 * 0 + k.val < 512; omega⟩) (n + r.val + 32) := by
  rw [pay56_at, ha, hb, s2]
  have hc : (⟨k.val, by omega⟩ : Fin 512) = ⟨128 * (0 : Fin 4).val + k.val, by show 128 * 0 + k.val < 512; omega⟩ := Fin.ext (by show k.val = 128 * 0 + k.val; omega)
  exact congrArg₂ (· + ·) (congrArg₂ e hc (by show n + (8 + (24 + r.val)) = _; omega)) (congrArg₂ e hc (by show n + (7 + (24 + r.val)) = _; omega))

theorem sum4 (ha : ∀ r (c : Fin 384), a4 (ix2 r c) = s2 (e ⟨128 + c.val, by omega⟩) (n + (16 + r.val)))
    (hb : ∀ r (c : Fin 384), b4 (ix2 r c) = s2 (e ⟨128 + c.val, by omega⟩) (n + (14 + r.val))) (r : Fin 512) (k : Fin 128) :
    k0_pay63 a4 b4 (ix2 r k) = s4 (e ⟨128 * (1 : Fin 4).val + k.val, by show 128 * 1 + k.val < 512; omega⟩) (n + r.val + 32) := by
  rw [pay63_at, ha, hb, s4]
  exact congrArg₂ (· + ·) (congrArg (s2 _) (by show n + (16 + (16 + r.val)) = _; omega)) (congrArg (s2 _) (by show n + (14 + (16 + r.val)) = _; omega))

theorem sum8 (ha : ∀ r (c : Fin 256), a8 (ix2 r c) = s4 (e ⟨256 + c.val, by omega⟩) (n + (24 + r.val)))
    (hb : ∀ r (c : Fin 256), b8 (ix2 r c) = s4 (e ⟨256 + c.val, by omega⟩) (n + (20 + r.val))) (r : Fin 512) (k : Fin 128) :
    k0_pay64 a8 b8 (ix2 r k) = s8 (e ⟨128 * (2 : Fin 4).val + k.val, by show 128 * 2 + k.val < 512; omega⟩) (n + r.val + 32) := by
  rw [pay64_at, ha, hb, s8]
  exact congrArg₂ (· + ·) (congrArg (s4 _) (by show n + (24 + (8 + r.val)) = _; omega)) (congrArg (s4 _) (by show n + (20 + (8 + r.val)) = _; omega))

theorem sum16 (ha : ∀ r (c : Fin 128), a16 (ix2 r c) = s8 (e ⟨384 + c.val, by omega⟩) (n + (32 + r.val)))
    (hb : ∀ r (c : Fin 128), b16 (ix2 r c) = s8 (e ⟨384 + c.val, by omega⟩) (n + (24 + r.val))) (r : Fin 512) (k : Fin 128) :
    k0_pay62 a16 b16 (ix2 r k) = s16 (e ⟨128 * (3 : Fin 4).val + k.val, by show 128 * 3 + k.val < 512; omega⟩) (n + r.val + 32) := by
  rw [pay62_at, ha, hb, s16]
  exact congrArg₂ (· + ·) (congrArg (s8 _) (by show n + (32 + r.val) = _; omega)) (congrArg (s8 _) (by show n + (24 + r.val) = _; omega))

end Windows

/-! ## The pool's four pieces -/

section Pieces
variable {X : (⟨3, ![2, 8192, 1024]⟩ : Shape).Idx → EReal} {W : (⟨2, ![1024, 2056]⟩ : Shape).Idx → EReal}
    {P : (⟨3, ![4, 128, 128]⟩ : Shape).Idx → EReal} {S : (⟨1, ![512]⟩ : Shape).Idx → EReal} {b : Fin 2} {i : Fin 16}
    {s u : Vec Ideal S512x128 .f32} {t : Vec Ideal S536x512 .f32} {p : Vec Ideal S1x128x128 .bf16} {sc : Vec Ideal S1x128 .f32}

/-- What a piece of the pool reads: the sums over its windows, its columns, its weights and its scales. -/
structure Part (X : (⟨3, ![2, 8192, 1024]⟩ : Shape).Idx → EReal) (W : (⟨2, ![1024, 2056]⟩ : Shape).Idx → EReal)
    (P : (⟨3, ![4, 128, 128]⟩ : Shape).Idx → EReal) (S : (⟨1, ![512]⟩ : Shape).Idx → EReal) (b : Fin 2) (i : Fin 16) (g : Fin 4)
    (s u : Fin 512 → Fin 128 → EReal) (p : Fin 128 → Fin 128 → EReal) (sc : Fin 128 → EReal) : Prop where
  hs : ∀ r k, s r k = wsum g (halo (uu X W b ⟨128 * g.val + k.val, by omega⟩)) (512 * i.val + r.val + 32)
  hu : ∀ r k, u r k = uu X W b ⟨128 * g.val + k.val, by omega⟩ (512 * i.val + r.val)
  hp : ∀ j k, p j k = P (ix3 g j k)
  hsc : ∀ k, sc k = S (ix1 ⟨128 * g.val + k.val, by omega⟩)

theorem Part.eq {g : Fin 4} {s u : Fin 512 → Fin 128 → EReal} {p : Fin 128 → Fin 128 → EReal} {sc : Fin 128 → EReal}
    (h : Part X W P S b i g s u p sc) (r : Fin 512) (k : Fin 128) :
    (∑ j : Fin 128, (Ideal.div (s r j) (min (((512 * i.val + r.val + 1 : ℕ) : ℝ) : EReal) (wlen g)) - u r j) * p j k) * sc k
      = pool X W P S b g k (512 * i.val + r.val) := by
  unfold Cert.InMath.pool
  rw [h.hsc]
  refine congrArg (· * _) (Finset.sum_congr rfl fun j _ => ?_)
  rw [h.hs, h.hu, h.hp, dev]

theorem piece0 (h : Part X W P S b i 0 (fun r k => t (ix2 ⟨24 + r.val, by omega⟩ ⟨k.val, by omega⟩)) (fun r k => u (ix2 r k)) (fun j k => p (ix3 0 j k)) (fun k => sc (ix2 0 k)))
    (z : Fin 1) (r : Fin 512) (k : Fin 128) :
    k0_pay68 (k0_pay66 (BitVec.ofNat 32 i.val) t u) (k0_pay67 p) sc (ix3 z r k) = pool X W P S b 0 k (512 * i.val + r.val) := by
  rw [pay68_at, ← h.eq]
  refine congrArg (· * _) (Finset.sum_congr rfl fun j _ => ?_)
  rw [pay66_at, pay65_at]
  rfl

theorem piece1 (h : Part X W P S b i 1 (fun r k => s (ix2 r k)) (fun r k => u (ix2 r k)) (fun j k => p (ix3 0 j k)) (fun k => sc (ix2 0 k)))
    (z : Fin 1) (r : Fin 512) (k : Fin 128) :
    k0_pay69 s (k0_pay65 (BitVec.ofNat 32 i.val)) u p sc (ix3 z r k) = pool X W P S b 1 k (512 * i.val + r.val) := by
  rw [pay69_at, ← h.eq, pay65_at]
  rfl

theorem piece2 (h : Part X W P S b i 2 (fun r k => s (ix2 r k)) (fun r k => u (ix2 r k)) (fun j k => p (ix3 0 j k)) (fun k => sc (ix2 0 k)))
    (z : Fin 1) (r : Fin 512) (k : Fin 128) :
    k0_pay1 (k0_pay70 s (k0_pay65 (BitVec.ofNat 32 i.val)) u) p sc (ix3 z r k) = pool X W P S b 2 k (512 * i.val + r.val) := by
  rw [pay1_at, ← h.eq]
  refine congrArg (· * _) (Finset.sum_congr rfl fun j _ => ?_)
  rw [pay70_at, pay65_at]
  rfl

theorem piece3 (h : Part X W P S b i 3 (fun r k => s (ix2 r k)) (fun r k => u (ix2 r k)) (fun j k => p (ix3 0 j k)) (fun k => sc (ix2 0 k)))
    (z : Fin 1) (r : Fin 512) (k : Fin 128) :
    k0_pay2 s (k0_pay65 (BitVec.ofNat 32 i.val)) u p sc (ix3 z r k) = pool X W P S b 3 k (512 * i.val + r.val) := by
  rw [pay2_at, ← h.eq, pay65_at]
  rfl

end Pieces

end Cert.In

end
-- ==== Proof.InClose.lean ====
module

public import proofs.«01_k».proof.Proof.Gen.InKernelIdeal.Frame
public import proofs.«01_k».proof.Proof.InPool
public import Idealize.ShloMosaic.Lib.Pipeline.ValueKit

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

/-! ## Pieces of the output blocks -/

/-- A piece of 128 columns of a block, at its columns. -/
theorem close3 {N : ℕ} (pay : S1x512x128.Idx → EReal) (x : S1x512x128.Idx) (o : ℕ) (G : Fin N → ℕ → EReal) (n : ℕ) (rr : Fin 512) (cc : Fin N)
    (h : ∀ (z : Fin 1) (r : Fin 512) (l : Fin 128) (hc : o + l.val < N), pay (ix3 z r l) = G ⟨o + l.val, hc⟩ (n + r.val))
    (h1 : rr.val = (x 1).val) (h2 : cc.val = o + (x 2).val) : pay x = G cc (n + rr.val) := by
  obtain ⟨z, r, l, rfl⟩ : ∃ (z : Fin 1) (r : Fin 512) (l : Fin 128), x = ix3 z r l := ⟨x 0, x 1, x 2, by funext a; fin_cases a <;> rfl⟩
  change rr.val = r.val at h1
  change cc.val = o + l.val at h2
  rw [h z r l (by rw [← h2]; exact cc.isLt), h1]
  exact congrArg (fun c => G c _) (Fin.ext h2.symm)

/-- The column of the pool's output. -/
def poolcol (X : (⟨3, ![2, 8192, 1024]⟩ : Shape).Idx → EReal) (W : (⟨2, ![1024, 2056]⟩ : Shape).Idx → EReal) (P : (⟨3, ![4, 128, 128]⟩ : Shape).Idx → EReal)
    (S : (⟨1, ![512]⟩ : Shape).Idx → EReal) (b : Fin 2) (c : Fin 512) (t : ℕ) : EReal :=
  pool X W P S b ⟨c.val / 128, by omega⟩ ⟨c.val % 128, by omega⟩ t

theorem poolcol_eq (X W P S) (b : Fin 2) (g : Fin 4) (k : Fin 128) (c : Fin 512) (t : ℕ) (h : c.val = 128 * g.val + k.val) :
    pool X W P S b g k t = poolcol X W P S b c t := by
  have h1 : (⟨c.val / 128, by omega⟩ : Fin 4) = g := Fin.ext (by show c.val / 128 = g.val; omega)
  have h2 : (⟨c.val % 128, by omega⟩ : Fin 128) = k := Fin.ext (by show c.val % 128 = k.val; omega)
  rw [poolcol, h1, h2]

/-- A head's 64 rows of values, -/
theorem closeV (X W) (b : Fin 2) (n : ℕ) (v : S512x512.Idx → EReal) (hv : ∀ m k : Fin 512, v (ix2 m k) = hid X W b ⟨1536 + m.val, by omega⟩ (n + k.val))
    (pay : S1x1x1x64x512.Idx → EReal) (x : S1x1x1x64x512.Idx) (h : ℕ) (h8 : h < 8)
    (hp : ∀ (z y w : Fin 1) (r : Fin 64) (k : Fin 512), pay (ix5 z y w r k) = v (ix2 ⟨64 * h + r.val, by omega⟩ k))
    (hh : Fin 8) (rr : Fin 80) (kk : Fin 512) (e1 : hh.val = h) (e3 : rr.val = (x 3).val) (e4 : kk.val = (x 4).val) :
    pay x = vpack X W b hh rr (n + kk.val) := by
  obtain ⟨z, y, w, r, k, rfl⟩ : ∃ (z y w : Fin 1) (r : Fin 64) (k : Fin 512), x = ix5 z y w r k := ⟨x 0, x 1, x 2, x 3, x 4, by funext a; fin_cases a <;> rfl⟩
  change rr.val = r.val at e3
  change kk.val = k.val at e4
  have h3 : r.val < 64 := r.isLt
  rw [hp z y w r k, hv, vpack, dif_pos (by omega), e4]
  refine congrArg (fun c => hid X W b c _) (Fin.ext ?_)
  show 1536 + (64 * h + r.val) = 1536 + (hh.val * 64 + rr.val)
  omega

/-- and the row of ones and the rows of zeros below them. -/
theorem closeO (X W) (b : Fin 2) (n : ℕ) (pay : S1x1x1x16x512.Idx → EReal) (x : S1x1x1x16x512.Idx)
    (hp : ∀ (z y w : Fin 1) (a : Fin 16) (k : Fin 512), pay (ix5 z y w a k) = (k0_pay36 (F := Ideal)) (ix2 a k))
    (hh : Fin 8) (rr : Fin 80) (kk : Fin 512) (e3 : rr.val = 64 + (x 3).val) :
    pay x = vpack X W b hh rr (n + kk.val) := by
  obtain ⟨z, y, w, a, k, rfl⟩ : ∃ (z y w : Fin 1) (a : Fin 16) (k : Fin 512), x = ix5 z y w a k := ⟨x 0, x 1, x 2, x 3, x 4, by funext a; fin_cases a <;> rfl⟩
  change rr.val = 64 + a.val at e3
  rw [hp z y w a k, pay36_at, vpack, dif_neg (by omega)]
  refine if_congr ?_ rfl rfl
  show a.val = 0 ↔ rr.val - 64 < 1
  omega

/-- The gate that a lane of the running sums carries. -/
def gate8 (l : Fin 128) : Fin 8 := ⟨l.val % 8, Nat.mod_lt _ (by norm_num)⟩

/-- Row 32 on of a halo is the sequence itself. -/
theorem halo_body (f : ℕ → EReal) (n r : ℕ) : halo f (n + (32 + r)) = f (n + r) := by
  rw [halo, if_neg (by omega), show n + (32 + r) - 32 = n + r by omega]

end Cert.In

end
-- ==== Proof.InRunA1.lean ====
module

public import proofs.«01_k».proof.Proof.Gen.InKernelIdeal.Frame
public import proofs.«01_k».proof.Proof.InClose
public import Idealize.ShloMosaic.Lib.Pipeline.ValueKit

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

section RunA
variable {X : (⟨3, ![2, 8192, 1024]⟩ : Shape).Idx → EReal} {W : (⟨2, ![1024, 2056]⟩ : Shape).Idx → EReal} {B : (⟨1, ![8]⟩ : Shape).Idx → EReal}
    {P : (⟨3, ![4, 128, 128]⟩ : Shape).Idx → EReal} {S : (⟨1, ![512]⟩ : Shape).Idx → EReal} {b : Fin 2}
  (c : Dev nD) (i : grid0.Coords) (arg2 : Memref sig .tc .vmem S1x512x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S1x512x512 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x8x1x80x512 .bf16) (harg16 : arg16.IsWhole) (arg17 : Memref sig .tc .vmem S544x512 .f32) (harg17 : arg17.IsWhole) (arg18 : Memref sig .tc .vmem S544x384 .f32) (harg18 : arg18.IsWhole) (arg19 : Memref sig .tc .vmem S544x256 .f32) (harg19 : arg19.IsWhole) (arg20 : Memref sig .tc .vmem S544x128 .f32) (harg20 : arg20.IsWhole) (arg21 : Memref sig .tc .vmem S8x128 .f32) (harg21 : arg21.IsWhole) (hc0 : cond0_0 i) (hc1 : ¬cond0_1 i)     (x0 : Vec Ideal S1x512x1024 .f32) (x1 : Vec Ideal S1024x512 .bf16) (x2 : Vec Ideal S1024x512 .bf16) (x3 : Vec Ideal S1024x512 .bf16) (x4 : Vec Ideal S512x1024 .bf16) (x5 : Vec Ideal S1024x128 .bf16) (x6 : Vec Ideal S1x128 .f32) (x7 : Vec Ideal S4x128x128 .bf16) (x8 : Vec Ideal S1x512 .f32) (x9 : Vec Ideal S128x512 .bf16) (x10 : Vec Ideal S128x512 .bf16)
  (T : Tile X W B P S b (i 1) x0 x1 x2 x3 x4 x5 x6 x7 x8 x9 x10)
  (hX : ∀ j, Fin' (X j)) (hW : ∀ j, Fin' (W j)) (hB : ∀ j, Fin' (B j))
  (hpos : (i 1).val = 0)

include hpos in
/-- A sequence's first tile begins at zero. -/
theorem carA (l : Fin 128) (hl : l.val < 24) : (kernelRun0_A.sl.v48 (F := Ideal) c arg21) (ix2 0 l) = ∑ s ∈ Finset.range (512 * (i 1).val), lf X W B b (gate8 l) s := by
  rw [hpos]
  unfold kernelRun0_A.sl.v48 kernelRun0_A.sl.HS4_1
  refine (readCov_at _ _ _ (ix2 (0 : Fin 1) l) (ix2 (7 : Fin 8) l) fun a => ?_).trans ?_
  · fin_cases a <;> simp [ix2]
  · refine (View.read_writes_cons_unit_of_mem _ _ _ _ _ _ (ix2 (7 : Fin 8) l) rfl fun a => ?_).trans (pay4_at _ _)
    fin_cases a <;> simp [ix2]

include T hX hW hB hpos in
/-- The tile's queries. -/
theorem outA_12 (y : S1x512x1024.Idx) (rr : Fin 512) (cc : Fin 1024) (hy1 : (y 1).val = rr.val) (hy2 : (y 2).val = cc.val) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 y = qpack X W B b cc (512 * (i 1).val + rr.val) := by
  have CAR : ∀ l : Fin 128, (hl : l.val < 24) → (kernelRun0_A.sl.v48 (F := Ideal) c arg21) (ix2 0 l) = ∑ s ∈ Finset.range (512 * (i 1).val), lf X W B b (gate8 l) s := (fun l hl => carA (X := X) (W := W) (B := B) (b := b) (c := c) (i := i) (arg21 := arg21) (hpos := hpos) l hl)
  unfold out0_A_12
  rw [View.read_writes_junk_apply_eq_canon]
  unfold kernelRun0_A
  dsimp only
  canon_tiles x h
  case piece0 =>
    refine close3 _ x 896 (qpack X W B b) (512 * (i 1).val) rr cc (fun z r l hc => ?_) (by omega) (by omega)
    have hl := l.isLt
    unfold kernelRun0_A.sl.r_5 kernelRun0_A.sl.r_1 kernelRun0_A.sl.r_2 kernelRun0_A.sl.r_3 kernelRun0_A.sl.v9
    repeat rw [load_whole]
    refine (pay32_at _ z r l).trans ((T.gq hX hW hB CAR _ _).trans (congrArg (fun c => qpack X W B b c _) (Fin.ext ?_)))
    first | omega | (dsimp only; omega)
  case piece1 =>
    refine close3 _ x 768 (qpack X W B b) (512 * (i 1).val) rr cc (fun z r l hc => ?_) (by omega) (by omega)
    have hl := l.isLt
    unfold kernelRun0_A.sl.r_10 kernelRun0_A.sl.r_7 kernelRun0_A.sl.r
    repeat rw [load_whole]
    refine (pay31_at _ z r l).trans ((T.q hX hW _ _).trans (congrArg (fun c => qpack X W B b c _) (Fin.ext ?_)))
    first | omega | (dsimp only; omega)
  case piece2 =>
    refine close3 _ x 640 (qpack X W B b) (512 * (i 1).val) rr cc (fun z r l hc => ?_) (by omega) (by omega)
    have hl := l.isLt
    unfold kernelRun0_A.sl.r_5 kernelRun0_A.sl.r_1 kernelRun0_A.sl.r_2 kernelRun0_A.sl.r_3 kernelRun0_A.sl.v9
    repeat rw [load_whole]
    refine (pay27_at _ z r l).trans ((T.gq hX hW hB CAR _ _).trans (congrArg (fun c => qpack X W B b c _) (Fin.ext ?_)))
    first | omega | (dsimp only; omega)
  case piece3 =>
    refine close3 _ x 512 (qpack X W B b) (512 * (i 1).val) rr cc (fun z r l hc => ?_) (by omega) (by omega)
    have hl := l.isLt
    unfold kernelRun0_A.sl.r_7 kernelRun0_A.sl.r
    repeat rw [load_whole]
    refine (pay26_at _ z r l).trans ((T.q hX hW _ _).trans (congrArg (fun c => qpack X W B b c _) (Fin.ext ?_)))
    first | omega | (dsimp only; omega)
  case piece4 =>
    refine close3 _ x 384 (qpack X W B b) (512 * (i 1).val) rr cc (fun z r l hc => ?_) (by omega) (by omega)
    have hl := l.isLt
    unfold kernelRun0_A.sl.r_5 kernelRun0_A.sl.r_1 kernelRun0_A.sl.r_2 kernelRun0_A.sl.r_3 kernelRun0_A.sl.v9
    repeat rw [load_whole]
    refine (pay23_at _ z r l).trans ((T.gq hX hW hB CAR _ _).trans (congrArg (fun c => qpack X W B b c _) (Fin.ext ?_)))
    first | omega | (dsimp only; omega)
  case piece5 =>
    refine close3 _ x 256 (qpack X W B b) (512 * (i 1).val) rr cc (fun z r l hc => ?_) (by omega) (by omega)
    have hl := l.isLt
    unfold kernelRun0_A.sl.r_9 kernelRun0_A.sl.r
    repeat rw [load_whole]
    refine (pay22_at _ _ z r l).trans ((T.q hX hW _ _).trans (congrArg (fun c => qpack X W B b c _) (Fin.ext ?_)))
    first | omega | (dsimp only; omega)
  case piece6 =>
    refine close3 _ x 128 (qpack X W B b) (512 * (i 1).val) rr cc (fun z r l hc => ?_) (by omega) (by omega)
    have hl := l.isLt
    unfold kernelRun0_A.sl.r_5 kernelRun0_A.sl.r_1 kernelRun0_A.sl.r_2 kernelRun0_A.sl.r_3 kernelRun0_A.sl.v9
    repeat rw [load_whole]
    refine (pay19_at _ z r l).trans ((T.gq hX hW hB CAR _ _).trans (congrArg (fun c => qpack X W B b c _) (Fin.ext ?_)))
    first | omega | (dsimp only; omega)
  case piece7 =>
    refine close3 _ x 0 (qpack X W B b) (512 * (i 1).val) rr cc (fun z r l hc => ?_) (by omega) (by omega)
    have hl := l.isLt
    unfold kernelRun0_A.sl.r
    repeat rw [load_whole]
    refine (pay18_at _ _ z r l).trans ((T.q hX hW _ _).trans (congrArg (fun c => qpack X W B b c _) (Fin.ext ?_)))
    first | omega | (dsimp only; omega)

include T hX hW hB hpos in
/-- The tile's keys. -/
theorem outA_13 (y : S1x512x1024.Idx) (rr : Fin 512) (cc : Fin 1024) (hy1 : (y 1).val = rr.val) (hy2 : (y 2).val = cc.val) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 y = kpack X W B b cc (512 * (i 1).val + rr.val) := by
  have CAR : ∀ l : Fin 128, (hl : l.val < 24) → (kernelRun0_A.sl.v48 (F := Ideal) c arg21) (ix2 0 l) = ∑ s ∈ Finset.range (512 * (i 1).val), lf X W B b (gate8 l) s := (fun l hl => carA (X := X) (W := W) (B := B) (b := b) (c := c) (i := i) (arg21 := arg21) (hpos := hpos) l hl)
  unfold out0_A_13
  rw [View.read_writes_junk_apply_eq_canon]
  unfold kernelRun0_A
  dsimp only
  canon_tiles x h
  case piece0 =>
    refine close3 _ x 896 (kpack X W B b) (512 * (i 1).val) rr cc (fun z r l hc => ?_) (by omega) (by omega)
    have hl := l.isLt
    unfold kernelRun0_A.sl.r_6 kernelRun0_A.sl.r_4 kernelRun0_A.sl.r_1 kernelRun0_A.sl.r_2 kernelRun0_A.sl.r_3 kernelRun0_A.sl.v9
    repeat rw [load_whole]
    refine (pay34_at _ z r l).trans ((T.gk hX hW hB CAR _ _).trans (congrArg (fun c => kpack X W B b c _) (Fin.ext ?_)))
    first | omega | (dsimp only; omega)
  case piece1 =>
    refine close3 _ x 768 (kpack X W B b) (512 * (i 1).val) rr cc (fun z r l hc => ?_) (by omega) (by omega)
    have hl := l.isLt
    unfold kernelRun0_A.sl.r_8 kernelRun0_A.sl.r
    repeat rw [load_whole]
    refine (pay33_at _ z r l).trans ((T.k _ _).trans (congrArg (fun c => kpack X W B b c _) (Fin.ext ?_)))
    first | omega | (dsimp only; omega)
  case piece2 =>
    refine close3 _ x 640 (kpack X W B b) (512 * (i 1).val) rr cc (fun z r l hc => ?_) (by omega) (by omega)
    have hl := l.isLt
    unfold kernelRun0_A.sl.r_6 kernelRun0_A.sl.r_4 kernelRun0_A.sl.r_1 kernelRun0_A.sl.r_2 kernelRun0_A.sl.r_3 kernelRun0_A.sl.v9
    repeat rw [load_whole]
    refine (pay29_at _ z r l).trans ((T.gk hX hW hB CAR _ _).trans (congrArg (fun c => kpack X W B b c _) (Fin.ext ?_)))
    first | omega | (dsimp only; omega)
  case piece3 =>
    refine close3 _ x 512 (kpack X W B b) (512 * (i 1).val) rr cc (fun z r l hc => ?_) (by omega) (by omega)
    have hl := l.isLt
    unfold kernelRun0_A.sl.r_8 kernelRun0_A.sl.r
    repeat rw [load_whole]
    refine (pay28_at _ z r l).trans ((T.k _ _).trans (congrArg (fun c => kpack X W B b c _) (Fin.ext ?_)))
    first | omega | (dsimp only; omega)
  case piece4 =>
    refine close3 _ x 384 (kpack X W B b) (512 * (i 1).val) rr cc (fun z r l hc => ?_) (by omega) (by omega)
    have hl := l.isLt
    unfold kernelRun0_A.sl.r_6 kernelRun0_A.sl.r_4 kernelRun0_A.sl.r_1 kernelRun0_A.sl.r_2 kernelRun0_A.sl.r_3 kernelRun0_A.sl.v9
    repeat rw [load_whole]
    refine (pay25_at _ z r l).trans ((T.gk hX hW hB CAR _ _).trans (congrArg (fun c => kpack X W B b c _) (Fin.ext ?_)))
    first | omega | (dsimp only; omega)
  case piece5 =>
    refine close3 _ x 256 (kpack X W B b) (512 * (i 1).val) rr cc (fun z r l hc => ?_) (by omega) (by omega)
    have hl := l.isLt
    unfold kernelRun0_A.sl.r_8 kernelRun0_A.sl.r
    repeat rw [load_whole]
    refine (pay24_at _ z r l).trans ((T.k _ _).trans (congrArg (fun c => kpack X W B b c _) (Fin.ext ?_)))
    first | omega | (dsimp only; omega)
  case piece6 =>
    refine close3 _ x 128 (kpack X W B b) (512 * (i 1).val) rr cc (fun z r l hc => ?_) (by omega) (by omega)
    have hl := l.isLt
    unfold kernelRun0_A.sl.r_4 kernelRun0_A.sl.r_1 kernelRun0_A.sl.r_2 kernelRun0_A.sl.r_3 kernelRun0_A.sl.v9
    repeat rw [load_whole]
    refine (pay21_at _ _ z r l).trans ((T.gk hX hW hB CAR _ _).trans (congrArg (fun c => kpack X W B b c _) (Fin.ext ?_)))
    first | omega | (dsimp only; omega)
  case piece7 =>
    refine close3 _ x 0 (kpack X W B b) (512 * (i 1).val) rr cc (fun z r l hc => ?_) (by omega) (by omega)
    have hl := l.isLt
    unfold kernelRun0_A.sl.r
    repeat rw [load_whole]
    refine (pay20_at _ _ z r l).trans ((T.k _ _).trans (congrArg (fun c => kpack X W B b c _) (Fin.ext ?_)))
    first | omega | (dsimp only; omega)

include T hX hW hB hpos in
/-- and the sums that it leaves. -/
theorem soutA_4 (l : Fin 128) (hl : l.val < 24) : sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix2 7 l)
    = ∑ s ∈ Finset.range (512 * ((i 1).val + 1)), lf X W B b (gate8 l) s := by
  have CAR : ∀ l : Fin 128, (hl : l.val < 24) → (kernelRun0_A.sl.v48 (F := Ideal) c arg21) (ix2 0 l) = ∑ s ∈ Finset.range (512 * (i 1).val), lf X W B b (gate8 l) s := (fun l hl => carA (X := X) (W := W) (B := B) (b := b) (c := c) (i := i) (arg21 := arg21) (hpos := hpos) l hl)
  unfold sout0_A_4 kernelRun0_A
  dsimp only
  refine (View.read_writes_cons_unit_of_mem _ _ _ _ _ _ (ix2 (7 : Fin 8) l) rfl fun a => ?_).trans ?_
  · fin_cases a <;> simp [ix2]
  · unfold kernelRun0_A.sl.r_1 kernelRun0_A.sl.r_2 kernelRun0_A.sl.r_3
    repeat rw [load_whole]
    exact T.carry hX hW hB CAR l hl

end RunA

end Cert.In

end
-- ==== Proof.InRunA2.lean ====
module

public import proofs.«01_k».proof.Proof.Gen.InKernelIdeal.Frame
public import proofs.«01_k».proof.Proof.InClose
public import Idealize.ShloMosaic.Lib.Pipeline.ValueKit

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

section RunA
variable {X : (⟨3, ![2, 8192, 1024]⟩ : Shape).Idx → EReal} {W : (⟨2, ![1024, 2056]⟩ : Shape).Idx → EReal} {B : (⟨1, ![8]⟩ : Shape).Idx → EReal}
    {P : (⟨3, ![4, 128, 128]⟩ : Shape).Idx → EReal} {S : (⟨1, ![512]⟩ : Shape).Idx → EReal} {b : Fin 2}
  (c : Dev nD) (i : grid0.Coords) (arg2 : Memref sig .tc .vmem S1x512x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S1x512x512 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x8x1x80x512 .bf16) (harg16 : arg16.IsWhole) (arg17 : Memref sig .tc .vmem S544x512 .f32) (harg17 : arg17.IsWhole) (arg18 : Memref sig .tc .vmem S544x384 .f32) (harg18 : arg18.IsWhole) (arg19 : Memref sig .tc .vmem S544x256 .f32) (harg19 : arg19.IsWhole) (arg20 : Memref sig .tc .vmem S544x128 .f32) (harg20 : arg20.IsWhole) (arg21 : Memref sig .tc .vmem S8x128 .f32) (harg21 : arg21.IsWhole) (hc0 : cond0_0 i) (hc1 : ¬cond0_1 i)     (x0 : Vec Ideal S1x512x1024 .f32) (x1 : Vec Ideal S1024x512 .bf16) (x2 : Vec Ideal S1024x512 .bf16) (x3 : Vec Ideal S1024x512 .bf16) (x4 : Vec Ideal S512x1024 .bf16) (x5 : Vec Ideal S1024x128 .bf16) (x6 : Vec Ideal S1x128 .f32) (x7 : Vec Ideal S4x128x128 .bf16) (x8 : Vec Ideal S1x512 .f32) (x9 : Vec Ideal S128x512 .bf16) (x10 : Vec Ideal S128x512 .bf16)
  (T : Tile X W B P S b (i 1) x0 x1 x2 x3 x4 x5 x6 x7 x8 x9 x10)
  (hX : ∀ j, Fin' (X j)) (hW : ∀ j, Fin' (W j)) (hB : ∀ j, Fin' (B j))
  (hpos : (i 1).val = 0)

include T in
/-- The tile's values. -/
theorem outA_14 (y : S1x8x1x80x512.Idx) (hh : Fin 8) (rr : Fin 80) (kk : Fin 512) (hy1 : (y 1).val = hh.val) (hy3 : (y 3).val = rr.val) (hy4 : (y 4).val = kk.val) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 y = vpack X W b hh rr (512 * (i 1).val + kk.val) := by
  have hv := T.v
  unfold out0_A_14
  rw [View.read_writes_junk_apply_eq_canon]
  unfold kernelRun0_A
  dsimp only
  canon_tiles x h using cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 y
  case piece0 =>
    exact closeO X W b _ _ x (fun z y w a k => pay54_at _ z y w a k) hh rr kk (by omega)
  case piece1 =>
    unfold kernelRun0_A.sl.r_11 kernelRun0_A.sl.r
    repeat rw [load_whole]
    exact closeV X W b _ _ hv _ x 7 (by norm_num) (fun z y w r k => (pay53_at _ z y w r k).trans (congrArg (fun m => k0_pay35 _ _ (ix2 m k)) (Fin.ext (by first | simp | (dsimp only; omega))))) hh rr kk (by omega) (by omega) (by omega)
  case piece2 =>
    exact closeO X W b _ _ x (fun z y w a k => pay52_at _ z y w a k) hh rr kk (by omega)
  case piece3 =>
    unfold kernelRun0_A.sl.r_13 kernelRun0_A.sl.r_11 kernelRun0_A.sl.r
    repeat rw [load_whole]
    exact closeV X W b _ _ hv _ x 6 (by norm_num) (fun z y w r k => (pay51_at _ z y w r k).trans (congrArg (fun m => k0_pay35 _ _ (ix2 m k)) (Fin.ext (by first | simp | (dsimp only; omega))))) hh rr kk (by omega) (by omega) (by omega)
  case piece4 =>
    exact closeO X W b _ _ x (fun z y w a k => pay50_at _ z y w a k) hh rr kk (by omega)
  case piece5 =>
    unfold kernelRun0_A.sl.r_11 kernelRun0_A.sl.r
    repeat rw [load_whole]
    exact closeV X W b _ _ hv _ x 5 (by norm_num) (fun z y w r k => (pay49_at _ z y w r k).trans (congrArg (fun m => k0_pay35 _ _ (ix2 m k)) (Fin.ext (by first | simp | (dsimp only; omega))))) hh rr kk (by omega) (by omega) (by omega)
  case piece6 =>
    exact closeO X W b _ _ x (fun z y w a k => pay48_at _ z y w a k) hh rr kk (by omega)
  case piece7 =>
    unfold kernelRun0_A.sl.r_11 kernelRun0_A.sl.r
    repeat rw [load_whole]
    exact closeV X W b _ _ hv _ x 4 (by norm_num) (fun z y w r k => (pay47_at _ z y w r k).trans (congrArg (fun m => k0_pay35 _ _ (ix2 m k)) (Fin.ext (by first | simp | (dsimp only; omega))))) hh rr kk (by omega) (by omega) (by omega)
  case piece8 =>
    unfold kernelRun0_A.sl.r_12
    exact closeO X W b _ _ x (fun z y w a k => pay46_at _ z y w a k) hh rr kk (by omega)
  case piece9 =>
    unfold kernelRun0_A.sl.r_11 kernelRun0_A.sl.r
    repeat rw [load_whole]
    exact closeV X W b _ _ hv _ x 3 (by norm_num) (fun z y w r k => (pay44_at _ z y w r k).trans (congrArg (fun m => k0_pay35 _ _ (ix2 m k)) (Fin.ext (by first | simp | (dsimp only; omega))))) hh rr kk (by omega) (by omega) (by omega)
  case piece10 =>
    exact closeO X W b _ _ x (fun z y w a k => pay43_at _ z y w a k) hh rr kk (by omega)
  case piece11 =>
    unfold kernelRun0_A.sl.r_11 kernelRun0_A.sl.r
    repeat rw [load_whole]
    exact closeV X W b _ _ hv _ x 2 (by norm_num) (fun z y w r k => (pay42_at _ z y w r k).trans (congrArg (fun m => k0_pay35 _ _ (ix2 m k)) (Fin.ext (by first | simp | (dsimp only; omega))))) hh rr kk (by omega) (by omega) (by omega)
  case piece12 =>
    exact closeO X W b _ _ x (fun z y w a k => pay41_at _ z y w a k) hh rr kk (by omega)
  case piece13 =>
    unfold kernelRun0_A.sl.r_11 kernelRun0_A.sl.r
    repeat rw [load_whole]
    exact closeV X W b _ _ hv _ x 1 (by norm_num) (fun z y w r k => (pay40_at _ z y w r k).trans (congrArg (fun m => k0_pay35 _ _ (ix2 m k)) (Fin.ext (by first | simp | (dsimp only; omega))))) hh rr kk (by omega) (by omega) (by omega)
  case piece14 =>
    exact closeO X W b _ _ x (fun z y w a k => pay39_at z y w a k) hh rr kk (by omega)
  case piece15 =>
    unfold kernelRun0_A.sl.r
    repeat rw [load_whole]
    exact closeV X W b _ _ hv _ x 0 (by norm_num) (fun z y w r k => (pay37_at _ _ z y w r k).trans (congrArg (fun m => k0_pay35 _ _ (ix2 m k)) (Fin.ext (by first | simp | (dsimp only; omega))))) hh rr kk (by omega) (by omega) (by omega)

end RunA

end Cert.In

end
-- ==== Proof.InRunA3.lean ====
module

public import proofs.«01_k».proof.Proof.Gen.InKernelIdeal.Frame
public import proofs.«01_k».proof.Proof.InClose
public import Idealize.ShloMosaic.Lib.Pipeline.ValueKit

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

section RunA
variable {X : (⟨3, ![2, 8192, 1024]⟩ : Shape).Idx → EReal} {W : (⟨2, ![1024, 2056]⟩ : Shape).Idx → EReal} {B : (⟨1, ![8]⟩ : Shape).Idx → EReal}
    {P : (⟨3, ![4, 128, 128]⟩ : Shape).Idx → EReal} {S : (⟨1, ![512]⟩ : Shape).Idx → EReal} {b : Fin 2}
  (c : Dev nD) (i : grid0.Coords) (arg2 : Memref sig .tc .vmem S1x512x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S1x512x512 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x8x1x80x512 .bf16) (harg16 : arg16.IsWhole) (arg17 : Memref sig .tc .vmem S544x512 .f32) (harg17 : arg17.IsWhole) (arg18 : Memref sig .tc .vmem S544x384 .f32) (harg18 : arg18.IsWhole) (arg19 : Memref sig .tc .vmem S544x256 .f32) (harg19 : arg19.IsWhole) (arg20 : Memref sig .tc .vmem S544x128 .f32) (harg20 : arg20.IsWhole) (arg21 : Memref sig .tc .vmem S8x128 .f32) (harg21 : arg21.IsWhole) (hc0 : cond0_0 i) (hc1 : ¬cond0_1 i)     (x0 : Vec Ideal S1x512x1024 .f32) (x1 : Vec Ideal S1024x512 .bf16) (x2 : Vec Ideal S1024x512 .bf16) (x3 : Vec Ideal S1024x512 .bf16) (x4 : Vec Ideal S512x1024 .bf16) (x5 : Vec Ideal S1024x128 .bf16) (x6 : Vec Ideal S1x128 .f32) (x7 : Vec Ideal S4x128x128 .bf16) (x8 : Vec Ideal S1x512 .f32) (x9 : Vec Ideal S128x512 .bf16) (x10 : Vec Ideal S128x512 .bf16)
  (T : Tile X W B P S b (i 1) x0 x1 x2 x3 x4 x5 x6 x7 x8 x9 x10)
  (hX : ∀ j, Fin' (X j)) (hW : ∀ j, Fin' (W j)) (hB : ∀ j, Fin' (B j))
  (hpos : (i 1).val = 0)

include T hpos in
/-- The first scratch: 32 rows of the tile before, and the tile's. -/
theorem h0A (v : View sig .tc .vmem S544x512 .f32) : H0 (fun c => halo (uu X W b c)) (512 * (i 1).val) v (kernelRun0_A.sl.HS0_2 (F := Ideal) c arg2 harg2 arg3 harg3 x0 x1) := by
  intro rr cc
  unfold kernelRun0_A.sl.HS0_2
  by_cases h : 32 ≤ rr.val
  · refine (View.read_writes_cons_unit_of_mem _ _ _ _ _ _ (ix2 (⟨rr.val - 32, by omega⟩ : Fin 512) cc) rfl fun a => ?_).trans ?_
    · fin_cases a
      · show rr.val = 32 + (rr.val - 32); omega
      · show cc.val = 0 + cc.val; omega
    · unfold kernelRun0_A.sl.r
      repeat rw [load_whole]
      rw [T.u]
      refine (halo_body (uu X W b cc) (512 * (i 1).val) (rr.val - 32)).symm.trans (congrArg (halo _) ?_)
      show 512 * (i 1).val + (32 + (rr.val - 32)) = 512 * (i 1).val + rr.val
      omega
  · refine (View.read_writes_cons_unit_of_not_mem _ _ _ _ _ _ rfl 0 (Or.inl (by show rr.val < 32; omega))).trans ?_
    refine (View.read_writes_cons_unit_of_mem _ _ _ _ _ _ (ix2 (⟨rr.val, by omega⟩ : Fin 32) cc) rfl fun a => ?_).trans ?_
    · fin_cases a
      · show rr.val = 0 + rr.val; omega
      · show cc.val = 0 + cc.val; omega
    · rw [pay3_at, hpos]
      exact (if_pos (by omega)).symm

include T hpos in
/-- The tile's pool. -/
theorem outA_11 (y : S1x512x512.Idx) (rr cc : Fin 512) (hy1 : (y 1).val = rr.val) (hy2 : (y 2).val = cc.val) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 y = poolcol X W P S b cc (512 * (i 1).val + rr.val) := by
  have k0 := h0A (v := arg17.view) (T := T) (c := c) (arg2 := arg2) (harg2 := harg2) (arg3 := arg3) (harg3 := harg3) (hpos := hpos)
  have c0 : ∀ c : Fin 512, (⟨0 + c.val, by omega⟩ : Fin 512) = c := fun c => Fin.ext (Nat.zero_add _)
  have l8 : ∀ r c', kernelRun0_A.sl.v244 (F := Ideal) c arg2 harg2 arg3 harg3 arg17 x0 x1 (ix2 r c') = halo (uu X W b c') (512 * (i 1).val + (8 + r.val)) := fun r c' =>
    (k0.load inb_S544x512_S536x512_8_0 r c' (by omega) (by omega)).trans (by rw [c0])
  have l7 : ∀ r c', kernelRun0_A.sl.v245 (F := Ideal) c arg2 harg2 arg3 harg3 arg17 x0 x1 (ix2 r c') = halo (uu X W b c') (512 * (i 1).val + (7 + r.val)) := fun r c' =>
    (k0.load inb_S544x512_S536x512_7_0 r c' (by omega) (by omega)).trans (by rw [c0])
  have k1 := H1.mk l8 l7 arg18.view
  have m16 : ∀ r (c' : Fin 384), kernelRun0_A.sl.v251 (F := Ideal) c arg2 harg2 arg3 harg3 arg17 arg18 x0 x1 (ix2 r c') = s2 (halo (uu X W b ⟨128 + c'.val, by omega⟩)) (512 * (i 1).val + (16 + r.val)) := fun r c' =>
    k1.load inb_S544x384_S528x384_16_0 r c' (by omega) (by omega)
  have m14 : ∀ r (c' : Fin 384), kernelRun0_A.sl.v252 (F := Ideal) c arg2 harg2 arg3 harg3 arg17 arg18 x0 x1 (ix2 r c') = s2 (halo (uu X W b ⟨128 + c'.val, by omega⟩)) (512 * (i 1).val + (14 + r.val)) := fun r c' =>
    k1.load inb_S544x384_S528x384_14_0 r c' (by omega) (by omega)
  have k2 := H2.mk (e := fun c => halo (uu X W b c)) m16 m14 arg19.view
  have n24 : ∀ r (c' : Fin 256), kernelRun0_A.sl.v258 (F := Ideal) c arg2 harg2 arg3 harg3 arg17 arg18 arg19 x0 x1 (ix2 r c') = s4 (halo (uu X W b ⟨256 + c'.val, by omega⟩)) (512 * (i 1).val + (24 + r.val)) := fun r c' =>
    k2.load inb_S544x256_S520x256_24_0 r c' (by omega) (by omega)
  have n20 : ∀ r (c' : Fin 256), kernelRun0_A.sl.v259 (F := Ideal) c arg2 harg2 arg3 harg3 arg17 arg18 arg19 x0 x1 (ix2 r c') = s4 (halo (uu X W b ⟨256 + c'.val, by omega⟩)) (512 * (i 1).val + (20 + r.val)) := fun r c' =>
    k2.load inb_S544x256_S520x256_20_0 r c' (by omega) (by omega)
  have k3 := H3.mk (e := fun c => halo (uu X W b c)) n24 n20 arg20.view
  have p32 : ∀ r (c' : Fin 128), kernelRun0_A.sl.v265 (F := Ideal) c arg2 harg2 arg3 harg3 arg17 arg18 arg19 arg20 x0 x1 (ix2 r c') = s8 (halo (uu X W b ⟨384 + c'.val, by omega⟩)) (512 * (i 1).val + (32 + r.val)) := fun r c' =>
    k3.load inb_S544x128_S512x128_32_0 r c' (by omega) (by omega)
  have p24 : ∀ r (c' : Fin 128), kernelRun0_A.sl.v266 (F := Ideal) c arg2 harg2 arg3 harg3 arg17 arg18 arg19 arg20 x0 x1 (ix2 r c') = s8 (halo (uu X W b ⟨384 + c'.val, by omega⟩)) (512 * (i 1).val + (24 + r.val)) := fun r c' =>
    k3.load inb_S544x128_S512x128_24_0 r c' (by omega) (by omega)
  unfold out0_A_11
  rw [View.read_writes_junk_apply_eq_canon]
  unfold kernelRun0_A
  dsimp only
  canon_tiles x h
  case piece0 =>
    refine close3 _ x 384 (poolcol X W P S b) (512 * (i 1).val) rr cc (fun z r l hc => ?_) (by omega) (by omega)
    refine (piece3 (X := X) (W := W) (P := P) (S := S) (b := b) (i := (i 1)) ⟨fun r k => ?_, fun r k => ?_, fun j k => ?_, fun k => ?_⟩ z r l).trans (poolcol_eq X W P S b 3 l _ _ rfl)
    · exact sum16 (e := fun c => halo (uu X W b c)) p32 p24 r k
    · exact (k0.load inb_S544x512_S512x128_32_384 r k (by omega) (by omega)).trans (halo_body _ _ _)
    · refine ((Cert.Attn.readAt_at _ _ _ (ix3 (0 : Fin 1) j k) (ix3 (3 : Fin 4) j k) rfl fun a => ?_).trans (congrFun (Memref.IsWhole.read_unread harg9 x7) _)).trans (T.h7 _ _ _)
      fin_cases a <;> simp [ix3]
    · refine ((Cert.Attn.readAt_at _ _ _ (ix2 (0 : Fin 1) k) (ix2 (0 : Fin 1) (⟨128 * (3 : Fin 4).val + k.val, by show 128 * 3 + k.val < 512; omega⟩ : Fin 512)) rfl fun a => ?_).trans (congrFun (Memref.IsWhole.read_unread harg10 x8) _)).trans (T.h8 _)
      fin_cases a <;> simp [ix2]
  case piece1 =>
    refine close3 _ x 256 (poolcol X W P S b) (512 * (i 1).val) rr cc (fun z r l hc => ?_) (by omega) (by omega)
    refine (piece2 (X := X) (W := W) (P := P) (S := S) (b := b) (i := (i 1)) ⟨fun r k => ?_, fun r k => ?_, fun j k => ?_, fun k => ?_⟩ z r l).trans (poolcol_eq X W P S b 2 l _ _ rfl)
    · exact sum8 (e := fun c => halo (uu X W b c)) n24 n20 r k
    · exact (k0.load inb_S544x512_S512x128_32_256 r k (by omega) (by omega)).trans (halo_body _ _ _)
    · refine ((Cert.Attn.readAt_at _ _ _ (ix3 (0 : Fin 1) j k) (ix3 (2 : Fin 4) j k) rfl fun a => ?_).trans (congrFun (Memref.IsWhole.read_unread harg9 x7) _)).trans (T.h7 _ _ _)
      fin_cases a <;> simp [ix3]
    · refine ((Cert.Attn.readAt_at _ _ _ (ix2 (0 : Fin 1) k) (ix2 (0 : Fin 1) (⟨128 * (2 : Fin 4).val + k.val, by show 128 * 2 + k.val < 512; omega⟩ : Fin 512)) rfl fun a => ?_).trans (congrFun (Memref.IsWhole.read_unread harg10 x8) _)).trans (T.h8 _)
      fin_cases a <;> simp [ix2]
  case piece2 =>
    refine close3 _ x 128 (poolcol X W P S b) (512 * (i 1).val) rr cc (fun z r l hc => ?_) (by omega) (by omega)
    refine (piece1 (X := X) (W := W) (P := P) (S := S) (b := b) (i := (i 1)) ⟨fun r k => ?_, fun r k => ?_, fun j k => ?_, fun k => ?_⟩ z r l).trans (poolcol_eq X W P S b 1 l _ _ rfl)
    · exact sum4 (e := fun c => halo (uu X W b c)) m16 m14 r k
    · exact (k0.load inb_S544x512_S512x128_32_128 r k (by omega) (by omega)).trans (halo_body _ _ _)
    · refine ((Cert.Attn.readAt_at _ _ _ (ix3 (0 : Fin 1) j k) (ix3 (1 : Fin 4) j k) rfl fun a => ?_).trans (congrFun (Memref.IsWhole.read_unread harg9 x7) _)).trans (T.h7 _ _ _)
      fin_cases a <;> simp [ix3]
    · refine ((Cert.Attn.readAt_at _ _ _ (ix2 (0 : Fin 1) k) (ix2 (0 : Fin 1) (⟨128 * (1 : Fin 4).val + k.val, by show 128 * 1 + k.val < 512; omega⟩ : Fin 512)) rfl fun a => ?_).trans (congrFun (Memref.IsWhole.read_unread harg10 x8) _)).trans (T.h8 _)
      fin_cases a <;> simp [ix2]
  case piece3 =>
    refine close3 _ x 0 (poolcol X W P S b) (512 * (i 1).val) rr cc (fun z r l hc => ?_) (by omega) (by omega)
    refine (piece0 (X := X) (W := W) (P := P) (S := S) (b := b) (i := (i 1)) ⟨fun r k => ?_, fun r k => ?_, fun j k => ?_, fun k => ?_⟩ z r l).trans (poolcol_eq X W P S b 0 l _ _ rfl)
    · exact sum2 (e := fun c => halo (uu X W b c)) l8 l7 r k
    · exact (k0.load inb_S544x512_S512x128_32_0 r k (by omega) (by omega)).trans (halo_body _ _ _)
    · refine ((Cert.Attn.readAt_at _ _ _ (ix3 (0 : Fin 1) j k) (ix3 (0 : Fin 4) j k) rfl fun a => ?_).trans (congrFun (Memref.IsWhole.read_unread harg9 x7) _)).trans (T.h7 _ _ _)
      fin_cases a <;> simp [ix3]
    · refine ((Cert.Attn.readAt_at _ _ _ (ix2 (0 : Fin 1) k) (ix2 (0 : Fin 1) (⟨128 * (0 : Fin 4).val + k.val, by show 128 * 0 + k.val < 512; omega⟩ : Fin 512)) rfl fun a => ?_).trans (congrFun (Memref.IsWhole.read_unread harg10 x8) _)).trans (T.h8 _)
      fin_cases a <;> simp [ix2]

include T hpos in
/-- The first scratch after the tile -/
theorem soutA_0 (r : Fin 544) (k : Fin 512) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix2 r k) = halo (uu X W b k) (512 * (i 1).val + r.val) := by
  unfold sout0_A_0 kernelRun0_A
  dsimp only
  have k0 := h0A (v := VS0_0) (i := i) (T := T) (c := c) (arg2 := arg2) (harg2 := harg2) (arg3 := arg3) (harg3 := harg3) (hpos := hpos)
  exact k0 r k

end RunA

end Cert.In

end
-- ==== Proof.InRunB1.lean ====
module

public import proofs.«01_k».proof.Proof.Gen.InKernelIdeal.Frame
public import proofs.«01_k».proof.Proof.InClose
public import Idealize.ShloMosaic.Lib.Pipeline.ValueKit

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

section RunB
variable {X : (⟨3, ![2, 8192, 1024]⟩ : Shape).Idx → EReal} {W : (⟨2, ![1024, 2056]⟩ : Shape).Idx → EReal} {B : (⟨1, ![8]⟩ : Shape).Idx → EReal}
    {P : (⟨3, ![4, 128, 128]⟩ : Shape).Idx → EReal} {S : (⟨1, ![512]⟩ : Shape).Idx → EReal} {b : Fin 2}
  (c : Dev nD) (i : grid0.Coords) (arg2 : Memref sig .tc .vmem S1x512x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S1x512x512 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x8x1x80x512 .bf16) (harg16 : arg16.IsWhole) (arg17 : Memref sig .tc .vmem S544x512 .f32) (harg17 : arg17.IsWhole) (arg18 : Memref sig .tc .vmem S544x384 .f32) (harg18 : arg18.IsWhole) (arg19 : Memref sig .tc .vmem S544x256 .f32) (harg19 : arg19.IsWhole) (arg20 : Memref sig .tc .vmem S544x128 .f32) (harg20 : arg20.IsWhole) (arg21 : Memref sig .tc .vmem S8x128 .f32) (harg21 : arg21.IsWhole) (hc0 : ¬cond0_0 i) (hc1 : cond0_1 i)     (x0 : Vec Ideal S1x512x1024 .f32) (x1 : Vec Ideal S1024x512 .bf16) (x2 : Vec Ideal S1024x512 .bf16) (x3 : Vec Ideal S1024x512 .bf16) (x4 : Vec Ideal S512x1024 .bf16) (x5 : Vec Ideal S1024x128 .bf16) (x6 : Vec Ideal S1x128 .f32) (x7 : Vec Ideal S4x128x128 .bf16) (x8 : Vec Ideal S1x512 .f32) (x9 : Vec Ideal S128x512 .bf16) (x10 : Vec Ideal S128x512 .bf16) (xs0 : Vec Ideal S544x512 .f32) (xs4 : Vec Ideal S8x128 .f32)
  (T : Tile X W B P S b (i 1) x0 x1 x2 x3 x4 x5 x6 x7 x8 x9 x10)
  (hX : ∀ j, Fin' (X j)) (hW : ∀ j, Fin' (W j)) (hB : ∀ j, Fin' (B j))
  (hU : ∀ (r : Fin 544) (c : Fin 512), xs0 (ix2 r c) = halo (uu X W b c) (512 * ((i 1).val - 1) + r.val)) (hpos : 1 ≤ (i 1).val)
    (hC : ∀ l : Fin 128, (hl : l.val < 24) → xs4 (ix2 7 l) = ∑ s ∈ Finset.range (512 * (i 1).val), lf X W B b (gate8 l) s)

include hC in
/-- The sums that the tile before left. -/
theorem carB (l : Fin 128) (hl : l.val < 24) : (arg21.view.readAt (Elt Ideal) (Rect.unit (s := S8x128) ![7, 0] S1x128.size inb_S8x128_S1x128_7_0).toLoadRect (harg21.unread xs4)) (ix2 0 l) = ∑ s ∈ Finset.range (512 * (i 1).val), lf X W B b (gate8 l) s := by
  refine ((Cert.Attn.readAt_at _ _ _ (ix2 (0 : Fin 1) l) (ix2 (7 : Fin 8) l) rfl fun a => ?_).trans (congrFun (Memref.IsWhole.read_unread harg21 xs4) _)).trans (hC l hl)
  fin_cases a <;> simp [ix2]

include T hX hW hB hC in
/-- The tile's queries. -/
theorem outB_12 (y : S1x512x1024.Idx) (rr : Fin 512) (cc : Fin 1024) (hy1 : (y 1).val = rr.val) (hy2 : (y 2).val = cc.val) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs4 y = qpack X W B b cc (512 * (i 1).val + rr.val) := by
  have CAR : ∀ l : Fin 128, (hl : l.val < 24) → (arg21.view.readAt (Elt Ideal) (Rect.unit (s := S8x128) ![7, 0] S1x128.size inb_S8x128_S1x128_7_0).toLoadRect (harg21.unread xs4)) (ix2 0 l) = ∑ s ∈ Finset.range (512 * (i 1).val), lf X W B b (gate8 l) s := (fun l hl => carB (X := X) (W := W) (B := B) (b := b) (i := i) (arg21 := arg21) (harg21 := harg21) (xs4 := xs4) (hC := hC) l hl)
  unfold out0_B_12
  rw [View.read_writes_junk_apply_eq_canon]
  unfold kernelRun0_B
  dsimp only
  canon_tiles x h
  case piece0 =>
    refine close3 _ x 896 (qpack X W B b) (512 * (i 1).val) rr cc (fun z r l hc => ?_) (by omega) (by omega)
    have hl := l.isLt
    unfold kernelRun0_B.sl.r_5 kernelRun0_B.sl.r_1 kernelRun0_B.sl.r_2 kernelRun0_B.sl.r_3 kernelRun0_B.sl.v9
    repeat rw [load_whole]
    refine (pay32_at _ z r l).trans ((T.gq hX hW hB CAR _ _).trans (congrArg (fun c => qpack X W B b c _) (Fin.ext ?_)))
    first | omega | (dsimp only; omega)
  case piece1 =>
    refine close3 _ x 768 (qpack X W B b) (512 * (i 1).val) rr cc (fun z r l hc => ?_) (by omega) (by omega)
    have hl := l.isLt
    unfold kernelRun0_B.sl.r_10 kernelRun0_B.sl.r_7 kernelRun0_B.sl.r
    repeat rw [load_whole]
    refine (pay31_at _ z r l).trans ((T.q hX hW _ _).trans (congrArg (fun c => qpack X W B b c _) (Fin.ext ?_)))
    first | omega | (dsimp only; omega)
  case piece2 =>
    refine close3 _ x 640 (qpack X W B b) (512 * (i 1).val) rr cc (fun z r l hc => ?_) (by omega) (by omega)
    have hl := l.isLt
    unfold kernelRun0_B.sl.r_5 kernelRun0_B.sl.r_1 kernelRun0_B.sl.r_2 kernelRun0_B.sl.r_3 kernelRun0_B.sl.v9
    repeat rw [load_whole]
    refine (pay27_at _ z r l).trans ((T.gq hX hW hB CAR _ _).trans (congrArg (fun c => qpack X W B b c _) (Fin.ext ?_)))
    first | omega | (dsimp only; omega)
  case piece3 =>
    refine close3 _ x 512 (qpack X W B b) (512 * (i 1).val) rr cc (fun z r l hc => ?_) (by omega) (by omega)
    have hl := l.isLt
    unfold kernelRun0_B.sl.r_7 kernelRun0_B.sl.r
    repeat rw [load_whole]
    refine (pay26_at _ z r l).trans ((T.q hX hW _ _).trans (congrArg (fun c => qpack X W B b c _) (Fin.ext ?_)))
    first | omega | (dsimp only; omega)
  case piece4 =>
    refine close3 _ x 384 (qpack X W B b) (512 * (i 1).val) rr cc (fun z r l hc => ?_) (by omega) (by omega)
    have hl := l.isLt
    unfold kernelRun0_B.sl.r_5 kernelRun0_B.sl.r_1 kernelRun0_B.sl.r_2 kernelRun0_B.sl.r_3 kernelRun0_B.sl.v9
    repeat rw [load_whole]
    refine (pay23_at _ z r l).trans ((T.gq hX hW hB CAR _ _).trans (congrArg (fun c => qpack X W B b c _) (Fin.ext ?_)))
    first | omega | (dsimp only; omega)
  case piece5 =>
    refine close3 _ x 256 (qpack X W B b) (512 * (i 1).val) rr cc (fun z r l hc => ?_) (by omega) (by omega)
    have hl := l.isLt
    unfold kernelRun0_B.sl.r_9 kernelRun0_B.sl.r
    repeat rw [load_whole]
    refine (pay22_at _ _ z r l).trans ((T.q hX hW _ _).trans (congrArg (fun c => qpack X W B b c _) (Fin.ext ?_)))
    first | omega | (dsimp only; omega)
  case piece6 =>
    refine close3 _ x 128 (qpack X W B b) (512 * (i 1).val) rr cc (fun z r l hc => ?_) (by omega) (by omega)
    have hl := l.isLt
    unfold kernelRun0_B.sl.r_5 kernelRun0_B.sl.r_1 kernelRun0_B.sl.r_2 kernelRun0_B.sl.r_3 kernelRun0_B.sl.v9
    repeat rw [load_whole]
    refine (pay19_at _ z r l).trans ((T.gq hX hW hB CAR _ _).trans (congrArg (fun c => qpack X W B b c _) (Fin.ext ?_)))
    first | omega | (dsimp only; omega)
  case piece7 =>
    refine close3 _ x 0 (qpack X W B b) (512 * (i 1).val) rr cc (fun z r l hc => ?_) (by omega) (by omega)
    have hl := l.isLt
    unfold kernelRun0_B.sl.r
    repeat rw [load_whole]
    refine (pay18_at _ _ z r l).trans ((T.q hX hW _ _).trans (congrArg (fun c => qpack X W B b c _) (Fin.ext ?_)))
    first | omega | (dsimp only; omega)

include T hX hW hB hC in
/-- The tile's keys. -/
theorem outB_13 (y : S1x512x1024.Idx) (rr : Fin 512) (cc : Fin 1024) (hy1 : (y 1).val = rr.val) (hy2 : (y 2).val = cc.val) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs4 y = kpack X W B b cc (512 * (i 1).val + rr.val) := by
  have CAR : ∀ l : Fin 128, (hl : l.val < 24) → (arg21.view.readAt (Elt Ideal) (Rect.unit (s := S8x128) ![7, 0] S1x128.size inb_S8x128_S1x128_7_0).toLoadRect (harg21.unread xs4)) (ix2 0 l) = ∑ s ∈ Finset.range (512 * (i 1).val), lf X W B b (gate8 l) s := (fun l hl => carB (X := X) (W := W) (B := B) (b := b) (i := i) (arg21 := arg21) (harg21 := harg21) (xs4 := xs4) (hC := hC) l hl)
  unfold out0_B_13
  rw [View.read_writes_junk_apply_eq_canon]
  unfold kernelRun0_B
  dsimp only
  canon_tiles x h
  case piece0 =>
    refine close3 _ x 896 (kpack X W B b) (512 * (i 1).val) rr cc (fun z r l hc => ?_) (by omega) (by omega)
    have hl := l.isLt
    unfold kernelRun0_B.sl.r_6 kernelRun0_B.sl.r_4 kernelRun0_B.sl.r_1 kernelRun0_B.sl.r_2 kernelRun0_B.sl.r_3 kernelRun0_B.sl.v9
    repeat rw [load_whole]
    refine (pay34_at _ z r l).trans ((T.gk hX hW hB CAR _ _).trans (congrArg (fun c => kpack X W B b c _) (Fin.ext ?_)))
    first | omega | (dsimp only; omega)
  case piece1 =>
    refine close3 _ x 768 (kpack X W B b) (512 * (i 1).val) rr cc (fun z r l hc => ?_) (by omega) (by omega)
    have hl := l.isLt
    unfold kernelRun0_B.sl.r_8 kernelRun0_B.sl.r
    repeat rw [load_whole]
    refine (pay33_at _ z r l).trans ((T.k _ _).trans (congrArg (fun c => kpack X W B b c _) (Fin.ext ?_)))
    first | omega | (dsimp only; omega)
  case piece2 =>
    refine close3 _ x 640 (kpack X W B b) (512 * (i 1).val) rr cc (fun z r l hc => ?_) (by omega) (by omega)
    have hl := l.isLt
    unfold kernelRun0_B.sl.r_6 kernelRun0_B.sl.r_4 kernelRun0_B.sl.r_1 kernelRun0_B.sl.r_2 kernelRun0_B.sl.r_3 kernelRun0_B.sl.v9
    repeat rw [load_whole]
    refine (pay29_at _ z r l).trans ((T.gk hX hW hB CAR _ _).trans (congrArg (fun c => kpack X W B b c _) (Fin.ext ?_)))
    first | omega | (dsimp only; omega)
  case piece3 =>
    refine close3 _ x 512 (kpack X W B b) (512 * (i 1).val) rr cc (fun z r l hc => ?_) (by omega) (by omega)
    have hl := l.isLt
    unfold kernelRun0_B.sl.r_8 kernelRun0_B.sl.r
    repeat rw [load_whole]
    refine (pay28_at _ z r l).trans ((T.k _ _).trans (congrArg (fun c => kpack X W B b c _) (Fin.ext ?_)))
    first | omega | (dsimp only; omega)
  case piece4 =>
    refine close3 _ x 384 (kpack X W B b) (512 * (i 1).val) rr cc (fun z r l hc => ?_) (by omega) (by omega)
    have hl := l.isLt
    unfold kernelRun0_B.sl.r_6 kernelRun0_B.sl.r_4 kernelRun0_B.sl.r_1 kernelRun0_B.sl.r_2 kernelRun0_B.sl.r_3 kernelRun0_B.sl.v9
    repeat rw [load_whole]
    refine (pay25_at _ z r l).trans ((T.gk hX hW hB CAR _ _).trans (congrArg (fun c => kpack X W B b c _) (Fin.ext ?_)))
    first | omega | (dsimp only; omega)
  case piece5 =>
    refine close3 _ x 256 (kpack X W B b) (512 * (i 1).val) rr cc (fun z r l hc => ?_) (by omega) (by omega)
    have hl := l.isLt
    unfold kernelRun0_B.sl.r_8 kernelRun0_B.sl.r
    repeat rw [load_whole]
    refine (pay24_at _ z r l).trans ((T.k _ _).trans (congrArg (fun c => kpack X W B b c _) (Fin.ext ?_)))
    first | omega | (dsimp only; omega)
  case piece6 =>
    refine close3 _ x 128 (kpack X W B b) (512 * (i 1).val) rr cc (fun z r l hc => ?_) (by omega) (by omega)
    have hl := l.isLt
    unfold kernelRun0_B.sl.r_4 kernelRun0_B.sl.r_1 kernelRun0_B.sl.r_2 kernelRun0_B.sl.r_3 kernelRun0_B.sl.v9
    repeat rw [load_whole]
    refine (pay21_at _ _ z r l).trans ((T.gk hX hW hB CAR _ _).trans (congrArg (fun c => kpack X W B b c _) (Fin.ext ?_)))
    first | omega | (dsimp only; omega)
  case piece7 =>
    refine close3 _ x 0 (kpack X W B b) (512 * (i 1).val) rr cc (fun z r l hc => ?_) (by omega) (by omega)
    have hl := l.isLt
    unfold kernelRun0_B.sl.r
    repeat rw [load_whole]
    refine (pay20_at _ _ z r l).trans ((T.k _ _).trans (congrArg (fun c => kpack X W B b c _) (Fin.ext ?_)))
    first | omega | (dsimp only; omega)

include T hX hW hB hC in
/-- and the sums that it leaves. -/
theorem soutB_4 (l : Fin 128) (hl : l.val < 24) : sout0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs4 (ix2 7 l)
    = ∑ s ∈ Finset.range (512 * ((i 1).val + 1)), lf X W B b (gate8 l) s := by
  have CAR : ∀ l : Fin 128, (hl : l.val < 24) → (arg21.view.readAt (Elt Ideal) (Rect.unit (s := S8x128) ![7, 0] S1x128.size inb_S8x128_S1x128_7_0).toLoadRect (harg21.unread xs4)) (ix2 0 l) = ∑ s ∈ Finset.range (512 * (i 1).val), lf X W B b (gate8 l) s := (fun l hl => carB (X := X) (W := W) (B := B) (b := b) (i := i) (arg21 := arg21) (harg21 := harg21) (xs4 := xs4) (hC := hC) l hl)
  unfold sout0_B_4 kernelRun0_B
  dsimp only
  refine (View.read_writes_cons_unit_of_mem _ _ _ _ _ _ (ix2 (7 : Fin 8) l) rfl fun a => ?_).trans ?_
  · fin_cases a <;> simp [ix2]
  · unfold kernelRun0_B.sl.r_1 kernelRun0_B.sl.r_2 kernelRun0_B.sl.r_3
    repeat rw [load_whole]
    exact T.carry hX hW hB CAR l hl

end RunB

end Cert.In

end
-- ==== Proof.InRunB2.lean ====
module

public import proofs.«01_k».proof.Proof.Gen.InKernelIdeal.Frame
public import proofs.«01_k».proof.Proof.InClose
public import Idealize.ShloMosaic.Lib.Pipeline.ValueKit

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

section RunB
variable {X : (⟨3, ![2, 8192, 1024]⟩ : Shape).Idx → EReal} {W : (⟨2, ![1024, 2056]⟩ : Shape).Idx → EReal} {B : (⟨1, ![8]⟩ : Shape).Idx → EReal}
    {P : (⟨3, ![4, 128, 128]⟩ : Shape).Idx → EReal} {S : (⟨1, ![512]⟩ : Shape).Idx → EReal} {b : Fin 2}
  (c : Dev nD) (i : grid0.Coords) (arg2 : Memref sig .tc .vmem S1x512x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S1x512x512 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x8x1x80x512 .bf16) (harg16 : arg16.IsWhole) (arg17 : Memref sig .tc .vmem S544x512 .f32) (harg17 : arg17.IsWhole) (arg18 : Memref sig .tc .vmem S544x384 .f32) (harg18 : arg18.IsWhole) (arg19 : Memref sig .tc .vmem S544x256 .f32) (harg19 : arg19.IsWhole) (arg20 : Memref sig .tc .vmem S544x128 .f32) (harg20 : arg20.IsWhole) (arg21 : Memref sig .tc .vmem S8x128 .f32) (harg21 : arg21.IsWhole) (hc0 : ¬cond0_0 i) (hc1 : cond0_1 i)     (x0 : Vec Ideal S1x512x1024 .f32) (x1 : Vec Ideal S1024x512 .bf16) (x2 : Vec Ideal S1024x512 .bf16) (x3 : Vec Ideal S1024x512 .bf16) (x4 : Vec Ideal S512x1024 .bf16) (x5 : Vec Ideal S1024x128 .bf16) (x6 : Vec Ideal S1x128 .f32) (x7 : Vec Ideal S4x128x128 .bf16) (x8 : Vec Ideal S1x512 .f32) (x9 : Vec Ideal S128x512 .bf16) (x10 : Vec Ideal S128x512 .bf16) (xs0 : Vec Ideal S544x512 .f32) (xs4 : Vec Ideal S8x128 .f32)
  (T : Tile X W B P S b (i 1) x0 x1 x2 x3 x4 x5 x6 x7 x8 x9 x10)
  (hX : ∀ j, Fin' (X j)) (hW : ∀ j, Fin' (W j)) (hB : ∀ j, Fin' (B j))
  (hU : ∀ (r : Fin 544) (c : Fin 512), xs0 (ix2 r c) = halo (uu X W b c) (512 * ((i 1).val - 1) + r.val)) (hpos : 1 ≤ (i 1).val)
    (hC : ∀ l : Fin 128, (hl : l.val < 24) → xs4 (ix2 7 l) = ∑ s ∈ Finset.range (512 * (i 1).val), lf X W B b (gate8 l) s)

include T in
/-- The tile's values. -/
theorem outB_14 (y : S1x8x1x80x512.Idx) (hh : Fin 8) (rr : Fin 80) (kk : Fin 512) (hy1 : (y 1).val = hh.val) (hy3 : (y 3).val = rr.val) (hy4 : (y 4).val = kk.val) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs4 y = vpack X W b hh rr (512 * (i 1).val + kk.val) := by
  have hv := T.v
  unfold out0_B_14
  rw [View.read_writes_junk_apply_eq_canon]
  unfold kernelRun0_B
  dsimp only
  canon_tiles x h using cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs4 y
  case piece0 =>
    exact closeO X W b _ _ x (fun z y w a k => pay54_at _ z y w a k) hh rr kk (by omega)
  case piece1 =>
    unfold kernelRun0_B.sl.r_11 kernelRun0_B.sl.r
    repeat rw [load_whole]
    exact closeV X W b _ _ hv _ x 7 (by norm_num) (fun z y w r k => (pay53_at _ z y w r k).trans (congrArg (fun m => k0_pay35 _ _ (ix2 m k)) (Fin.ext (by first | simp | (dsimp only; omega))))) hh rr kk (by omega) (by omega) (by omega)
  case piece2 =>
    exact closeO X W b _ _ x (fun z y w a k => pay52_at _ z y w a k) hh rr kk (by omega)
  case piece3 =>
    unfold kernelRun0_B.sl.r_13 kernelRun0_B.sl.r_11 kernelRun0_B.sl.r
    repeat rw [load_whole]
    exact closeV X W b _ _ hv _ x 6 (by norm_num) (fun z y w r k => (pay51_at _ z y w r k).trans (congrArg (fun m => k0_pay35 _ _ (ix2 m k)) (Fin.ext (by first | simp | (dsimp only; omega))))) hh rr kk (by omega) (by omega) (by omega)
  case piece4 =>
    exact closeO X W b _ _ x (fun z y w a k => pay50_at _ z y w a k) hh rr kk (by omega)
  case piece5 =>
    unfold kernelRun0_B.sl.r_11 kernelRun0_B.sl.r
    repeat rw [load_whole]
    exact closeV X W b _ _ hv _ x 5 (by norm_num) (fun z y w r k => (pay49_at _ z y w r k).trans (congrArg (fun m => k0_pay35 _ _ (ix2 m k)) (Fin.ext (by first | simp | (dsimp only; omega))))) hh rr kk (by omega) (by omega) (by omega)
  case piece6 =>
    exact closeO X W b _ _ x (fun z y w a k => pay48_at _ z y w a k) hh rr kk (by omega)
  case piece7 =>
    unfold kernelRun0_B.sl.r_11 kernelRun0_B.sl.r
    repeat rw [load_whole]
    exact closeV X W b _ _ hv _ x 4 (by norm_num) (fun z y w r k => (pay47_at _ z y w r k).trans (congrArg (fun m => k0_pay35 _ _ (ix2 m k)) (Fin.ext (by first | simp | (dsimp only; omega))))) hh rr kk (by omega) (by omega) (by omega)
  case piece8 =>
    unfold kernelRun0_B.sl.r_12
    exact closeO X W b _ _ x (fun z y w a k => pay46_at _ z y w a k) hh rr kk (by omega)
  case piece9 =>
    unfold kernelRun0_B.sl.r_11 kernelRun0_B.sl.r
    repeat rw [load_whole]
    exact closeV X W b _ _ hv _ x 3 (by norm_num) (fun z y w r k => (pay44_at _ z y w r k).trans (congrArg (fun m => k0_pay35 _ _ (ix2 m k)) (Fin.ext (by first | simp | (dsimp only; omega))))) hh rr kk (by omega) (by omega) (by omega)
  case piece10 =>
    exact closeO X W b _ _ x (fun z y w a k => pay43_at _ z y w a k) hh rr kk (by omega)
  case piece11 =>
    unfold kernelRun0_B.sl.r_11 kernelRun0_B.sl.r
    repeat rw [load_whole]
    exact closeV X W b _ _ hv _ x 2 (by norm_num) (fun z y w r k => (pay42_at _ z y w r k).trans (congrArg (fun m => k0_pay35 _ _ (ix2 m k)) (Fin.ext (by first | simp | (dsimp only; omega))))) hh rr kk (by omega) (by omega) (by omega)
  case piece12 =>
    exact closeO X W b _ _ x (fun z y w a k => pay41_at _ z y w a k) hh rr kk (by omega)
  case piece13 =>
    unfold kernelRun0_B.sl.r_11 kernelRun0_B.sl.r
    repeat rw [load_whole]
    exact closeV X W b _ _ hv _ x 1 (by norm_num) (fun z y w r k => (pay40_at _ z y w r k).trans (congrArg (fun m => k0_pay35 _ _ (ix2 m k)) (Fin.ext (by first | simp | (dsimp only; omega))))) hh rr kk (by omega) (by omega) (by omega)
  case piece14 =>
    exact closeO X W b _ _ x (fun z y w a k => pay39_at z y w a k) hh rr kk (by omega)
  case piece15 =>
    unfold kernelRun0_B.sl.r
    repeat rw [load_whole]
    exact closeV X W b _ _ hv _ x 0 (by norm_num) (fun z y w r k => (pay37_at _ _ z y w r k).trans (congrArg (fun m => k0_pay35 _ _ (ix2 m k)) (Fin.ext (by first | simp | (dsimp only; omega))))) hh rr kk (by omega) (by omega) (by omega)

end RunB

end Cert.In

end
-- ==== Proof.InRunB3.lean ====
module

public import proofs.«01_k».proof.Proof.Gen.InKernelIdeal.Frame
public import proofs.«01_k».proof.Proof.InClose
public import Idealize.ShloMosaic.Lib.Pipeline.ValueKit

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

section RunB
variable {X : (⟨3, ![2, 8192, 1024]⟩ : Shape).Idx → EReal} {W : (⟨2, ![1024, 2056]⟩ : Shape).Idx → EReal} {B : (⟨1, ![8]⟩ : Shape).Idx → EReal}
    {P : (⟨3, ![4, 128, 128]⟩ : Shape).Idx → EReal} {S : (⟨1, ![512]⟩ : Shape).Idx → EReal} {b : Fin 2}
  (c : Dev nD) (i : grid0.Coords) (arg2 : Memref sig .tc .vmem S1x512x1024 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S4x128x128 .bf16) (harg9 : arg9.IsWhole) (arg10 : Memref sig .tc .vmem S1x512 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S1x512x512 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x8x1x80x512 .bf16) (harg16 : arg16.IsWhole) (arg17 : Memref sig .tc .vmem S544x512 .f32) (harg17 : arg17.IsWhole) (arg18 : Memref sig .tc .vmem S544x384 .f32) (harg18 : arg18.IsWhole) (arg19 : Memref sig .tc .vmem S544x256 .f32) (harg19 : arg19.IsWhole) (arg20 : Memref sig .tc .vmem S544x128 .f32) (harg20 : arg20.IsWhole) (arg21 : Memref sig .tc .vmem S8x128 .f32) (harg21 : arg21.IsWhole) (hc0 : ¬cond0_0 i) (hc1 : cond0_1 i)     (x0 : Vec Ideal S1x512x1024 .f32) (x1 : Vec Ideal S1024x512 .bf16) (x2 : Vec Ideal S1024x512 .bf16) (x3 : Vec Ideal S1024x512 .bf16) (x4 : Vec Ideal S512x1024 .bf16) (x5 : Vec Ideal S1024x128 .bf16) (x6 : Vec Ideal S1x128 .f32) (x7 : Vec Ideal S4x128x128 .bf16) (x8 : Vec Ideal S1x512 .f32) (x9 : Vec Ideal S128x512 .bf16) (x10 : Vec Ideal S128x512 .bf16) (xs0 : Vec Ideal S544x512 .f32) (xs4 : Vec Ideal S8x128 .f32)
  (T : Tile X W B P S b (i 1) x0 x1 x2 x3 x4 x5 x6 x7 x8 x9 x10)
  (hX : ∀ j, Fin' (X j)) (hW : ∀ j, Fin' (W j)) (hB : ∀ j, Fin' (B j))
  (hU : ∀ (r : Fin 544) (c : Fin 512), xs0 (ix2 r c) = halo (uu X W b c) (512 * ((i 1).val - 1) + r.val)) (hpos : 1 ≤ (i 1).val)
    (hC : ∀ l : Fin 128, (hl : l.val < 24) → xs4 (ix2 7 l) = ∑ s ∈ Finset.range (512 * (i 1).val), lf X W B b (gate8 l) s)

include T hU hpos in
/-- The first scratch: 32 rows of the tile before, and the tile's. -/
theorem h0B (v : View sig .tc .vmem S544x512 .f32) : H0 (fun c => halo (uu X W b c)) (512 * (i 1).val) v (kernelRun0_B.sl.HS0_2 (F := Ideal) c arg2 harg2 arg3 harg3 arg17 harg17 x0 x1 xs0) := by
  intro rr cc
  unfold kernelRun0_B.sl.HS0_2
  by_cases h : 32 ≤ rr.val
  · refine (View.read_writes_cons_unit_of_mem _ _ _ _ _ _ (ix2 (⟨rr.val - 32, by omega⟩ : Fin 512) cc) rfl fun a => ?_).trans ?_
    · fin_cases a
      · show rr.val = 32 + (rr.val - 32); omega
      · show cc.val = 0 + cc.val; omega
    · unfold kernelRun0_B.sl.r
      repeat rw [load_whole]
      rw [T.u]
      refine (halo_body (uu X W b cc) (512 * (i 1).val) (rr.val - 32)).symm.trans (congrArg (halo _) ?_)
      show 512 * (i 1).val + (32 + (rr.val - 32)) = 512 * (i 1).val + rr.val
      omega
  · refine (View.read_writes_cons_unit_of_not_mem _ _ _ _ _ _ rfl 0 (Or.inl (by show rr.val < 32; omega))).trans ?_
    refine (View.read_writes_cons_unit_of_mem _ _ _ _ _ _ (ix2 (⟨rr.val, by omega⟩ : Fin 32) cc) rfl fun a => ?_).trans ?_
    · fin_cases a
      · show rr.val = 0 + rr.val; omega
      · show cc.val = 0 + cc.val; omega
    · rw [pay5_at]
      refine ((Cert.Attn.readAt_at _ _ _ (ix2 (⟨rr.val, by omega⟩ : Fin 32) cc) (ix2 (⟨512 + rr.val, by omega⟩ : Fin 544) cc) rfl fun a => ?_).trans (congrFun (Memref.IsWhole.read_unread harg17 xs0) _)).trans ?_
      · fin_cases a <;> simp [ix2]
      · rw [hU]
        refine congrArg (halo _) ?_
        show 512 * ((i 1).val - 1) + (512 + rr.val) = 512 * (i 1).val + rr.val
        omega

include T hU hpos in
/-- The tile's pool. -/
theorem outB_11 (y : S1x512x512.Idx) (rr cc : Fin 512) (hy1 : (y 1).val = rr.val) (hy2 : (y 2).val = cc.val) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs4 y = poolcol X W P S b cc (512 * (i 1).val + rr.val) := by
  have k0 := h0B (v := arg17.view) (T := T) (c := c) (arg2 := arg2) (harg2 := harg2) (arg3 := arg3) (harg3 := harg3) (hpos := hpos) (hU := hU) (harg17 := harg17)
  have c0 : ∀ c : Fin 512, (⟨0 + c.val, by omega⟩ : Fin 512) = c := fun c => Fin.ext (Nat.zero_add _)
  have l8 : ∀ r c', kernelRun0_B.sl.v244 (F := Ideal) c arg2 harg2 arg3 harg3 arg17 harg17 x0 x1 xs0 (ix2 r c') = halo (uu X W b c') (512 * (i 1).val + (8 + r.val)) := fun r c' =>
    (k0.load inb_S544x512_S536x512_8_0 r c' (by omega) (by omega)).trans (by rw [c0])
  have l7 : ∀ r c', kernelRun0_B.sl.v245 (F := Ideal) c arg2 harg2 arg3 harg3 arg17 harg17 x0 x1 xs0 (ix2 r c') = halo (uu X W b c') (512 * (i 1).val + (7 + r.val)) := fun r c' =>
    (k0.load inb_S544x512_S536x512_7_0 r c' (by omega) (by omega)).trans (by rw [c0])
  have k1 := H1.mk l8 l7 arg18.view
  have m16 : ∀ r (c' : Fin 384), kernelRun0_B.sl.v251 (F := Ideal) c arg2 harg2 arg3 harg3 arg17 harg17 arg18 x0 x1 xs0 (ix2 r c') = s2 (halo (uu X W b ⟨128 + c'.val, by omega⟩)) (512 * (i 1).val + (16 + r.val)) := fun r c' =>
    k1.load inb_S544x384_S528x384_16_0 r c' (by omega) (by omega)
  have m14 : ∀ r (c' : Fin 384), kernelRun0_B.sl.v252 (F := Ideal) c arg2 harg2 arg3 harg3 arg17 harg17 arg18 x0 x1 xs0 (ix2 r c') = s2 (halo (uu X W b ⟨128 + c'.val, by omega⟩)) (512 * (i 1).val + (14 + r.val)) := fun r c' =>
    k1.load inb_S544x384_S528x384_14_0 r c' (by omega) (by omega)
  have k2 := H2.mk (e := fun c => halo (uu X W b c)) m16 m14 arg19.view
  have n24 : ∀ r (c' : Fin 256), kernelRun0_B.sl.v258 (F := Ideal) c arg2 harg2 arg3 harg3 arg17 harg17 arg18 arg19 x0 x1 xs0 (ix2 r c') = s4 (halo (uu X W b ⟨256 + c'.val, by omega⟩)) (512 * (i 1).val + (24 + r.val)) := fun r c' =>
    k2.load inb_S544x256_S520x256_24_0 r c' (by omega) (by omega)
  have n20 : ∀ r (c' : Fin 256), kernelRun0_B.sl.v259 (F := Ideal) c arg2 harg2 arg3 harg3 arg17 harg17 arg18 arg19 x0 x1 xs0 (ix2 r c') = s4 (halo (uu X W b ⟨256 + c'.val, by omega⟩)) (512 * (i 1).val + (20 + r.val)) := fun r c' =>
    k2.load inb_S544x256_S520x256_20_0 r c' (by omega) (by omega)
  have k3 := H3.mk (e := fun c => halo (uu X W b c)) n24 n20 arg20.view
  have p32 : ∀ r (c' : Fin 128), kernelRun0_B.sl.v265 (F := Ideal) c arg2 harg2 arg3 harg3 arg17 harg17 arg18 arg19 arg20 x0 x1 xs0 (ix2 r c') = s8 (halo (uu X W b ⟨384 + c'.val, by omega⟩)) (512 * (i 1).val + (32 + r.val)) := fun r c' =>
    k3.load inb_S544x128_S512x128_32_0 r c' (by omega) (by omega)
  have p24 : ∀ r (c' : Fin 128), kernelRun0_B.sl.v266 (F := Ideal) c arg2 harg2 arg3 harg3 arg17 harg17 arg18 arg19 arg20 x0 x1 xs0 (ix2 r c') = s8 (halo (uu X W b ⟨384 + c'.val, by omega⟩)) (512 * (i 1).val + (24 + r.val)) := fun r c' =>
    k3.load inb_S544x128_S512x128_24_0 r c' (by omega) (by omega)
  unfold out0_B_11
  rw [View.read_writes_junk_apply_eq_canon]
  unfold kernelRun0_B
  dsimp only
  canon_tiles x h
  case piece0 =>
    refine close3 _ x 384 (poolcol X W P S b) (512 * (i 1).val) rr cc (fun z r l hc => ?_) (by omega) (by omega)
    refine (piece3 (X := X) (W := W) (P := P) (S := S) (b := b) (i := (i 1)) ⟨fun r k => ?_, fun r k => ?_, fun j k => ?_, fun k => ?_⟩ z r l).trans (poolcol_eq X W P S b 3 l _ _ rfl)
    · exact sum16 (e := fun c => halo (uu X W b c)) p32 p24 r k
    · exact (k0.load inb_S544x512_S512x128_32_384 r k (by omega) (by omega)).trans (halo_body _ _ _)
    · refine ((Cert.Attn.readAt_at _ _ _ (ix3 (0 : Fin 1) j k) (ix3 (3 : Fin 4) j k) rfl fun a => ?_).trans (congrFun (Memref.IsWhole.read_unread harg9 x7) _)).trans (T.h7 _ _ _)
      fin_cases a <;> simp [ix3]
    · refine ((Cert.Attn.readAt_at _ _ _ (ix2 (0 : Fin 1) k) (ix2 (0 : Fin 1) (⟨128 * (3 : Fin 4).val + k.val, by show 128 * 3 + k.val < 512; omega⟩ : Fin 512)) rfl fun a => ?_).trans (congrFun (Memref.IsWhole.read_unread harg10 x8) _)).trans (T.h8 _)
      fin_cases a <;> simp [ix2]
  case piece1 =>
    refine close3 _ x 256 (poolcol X W P S b) (512 * (i 1).val) rr cc (fun z r l hc => ?_) (by omega) (by omega)
    refine (piece2 (X := X) (W := W) (P := P) (S := S) (b := b) (i := (i 1)) ⟨fun r k => ?_, fun r k => ?_, fun j k => ?_, fun k => ?_⟩ z r l).trans (poolcol_eq X W P S b 2 l _ _ rfl)
    · exact sum8 (e := fun c => halo (uu X W b c)) n24 n20 r k
    · exact (k0.load inb_S544x512_S512x128_32_256 r k (by omega) (by omega)).trans (halo_body _ _ _)
    · refine ((Cert.Attn.readAt_at _ _ _ (ix3 (0 : Fin 1) j k) (ix3 (2 : Fin 4) j k) rfl fun a => ?_).trans (congrFun (Memref.IsWhole.read_unread harg9 x7) _)).trans (T.h7 _ _ _)
      fin_cases a <;> simp [ix3]
    · refine ((Cert.Attn.readAt_at _ _ _ (ix2 (0 : Fin 1) k) (ix2 (0 : Fin 1) (⟨128 * (2 : Fin 4).val + k.val, by show 128 * 2 + k.val < 512; omega⟩ : Fin 512)) rfl fun a => ?_).trans (congrFun (Memref.IsWhole.read_unread harg10 x8) _)).trans (T.h8 _)
      fin_cases a <;> simp [ix2]
  case piece2 =>
    refine close3 _ x 128 (poolcol X W P S b) (512 * (i 1).val) rr cc (fun z r l hc => ?_) (by omega) (by omega)
    refine (piece1 (X := X) (W := W) (P := P) (S := S) (b := b) (i := (i 1)) ⟨fun r k => ?_, fun r k => ?_, fun j k => ?_, fun k => ?_⟩ z r l).trans (poolcol_eq X W P S b 1 l _ _ rfl)
    · exact sum4 (e := fun c => halo (uu X W b c)) m16 m14 r k
    · exact (k0.load inb_S544x512_S512x128_32_128 r k (by omega) (by omega)).trans (halo_body _ _ _)
    · refine ((Cert.Attn.readAt_at _ _ _ (ix3 (0 : Fin 1) j k) (ix3 (1 : Fin 4) j k) rfl fun a => ?_).trans (congrFun (Memref.IsWhole.read_unread harg9 x7) _)).trans (T.h7 _ _ _)
      fin_cases a <;> simp [ix3]
    · refine ((Cert.Attn.readAt_at _ _ _ (ix2 (0 : Fin 1) k) (ix2 (0 : Fin 1) (⟨128 * (1 : Fin 4).val + k.val, by show 128 * 1 + k.val < 512; omega⟩ : Fin 512)) rfl fun a => ?_).trans (congrFun (Memref.IsWhole.read_unread harg10 x8) _)).trans (T.h8 _)
      fin_cases a <;> simp [ix2]
  case piece3 =>
    refine close3 _ x 0 (poolcol X W P S b) (512 * (i 1).val) rr cc (fun z r l hc => ?_) (by omega) (by omega)
    refine (piece0 (X := X) (W := W) (P := P) (S := S) (b := b) (i := (i 1)) ⟨fun r k => ?_, fun r k => ?_, fun j k => ?_, fun k => ?_⟩ z r l).trans (poolcol_eq X W P S b 0 l _ _ rfl)
    · exact sum2 (e := fun c => halo (uu X W b c)) l8 l7 r k
    · exact (k0.load inb_S544x512_S512x128_32_0 r k (by omega) (by omega)).trans (halo_body _ _ _)
    · refine ((Cert.Attn.readAt_at _ _ _ (ix3 (0 : Fin 1) j k) (ix3 (0 : Fin 4) j k) rfl fun a => ?_).trans (congrFun (Memref.IsWhole.read_unread harg9 x7) _)).trans (T.h7 _ _ _)
      fin_cases a <;> simp [ix3]
    · refine ((Cert.Attn.readAt_at _ _ _ (ix2 (0 : Fin 1) k) (ix2 (0 : Fin 1) (⟨128 * (0 : Fin 4).val + k.val, by show 128 * 0 + k.val < 512; omega⟩ : Fin 512)) rfl fun a => ?_).trans (congrFun (Memref.IsWhole.read_unread harg10 x8) _)).trans (T.h8 _)
      fin_cases a <;> simp [ix2]

include T hU hpos in
/-- The first scratch after the tile -/
theorem soutB_0 (r : Fin 544) (k : Fin 512) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs4 (ix2 r k) = halo (uu X W b k) (512 * (i 1).val + r.val) := by
  unfold sout0_B_0 kernelRun0_B
  dsimp only
  have k0 := h0B (v := VS0_0) (i := i) (T := T) (c := c) (arg2 := arg2) (harg2 := harg2) (arg3 := arg3) (harg3 := harg3) (hpos := hpos) (hU := hU) (harg17 := harg17)
  exact k0 r k

end RunB

end Cert.In

end
-- ==== Proof.InState.lean ====
module

public import proofs.«01_k».proof.Proof.InRunA1
public import proofs.«01_k».proof.Proof.InRunA2
public import proofs.«01_k».proof.Proof.InRunA3
public import proofs.«01_k».proof.Proof.InRunB1
public import proofs.«01_k».proof.Proof.InRunB2
public import proofs.«01_k».proof.Proof.InRunB3

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

theorem coord1 : ∀ t : Fin cfg0.N, (grid0.coords t 1).val = t.val % 16 :=
  (by decide +kernel : ∀ t : Fin grid0.N, _)

/-- What a tile leaves: its blocks of the four results, and the scratch that the next tile reads. -/
structure St (X : (⟨3, ![2, 8192, 1024]⟩ : Shape).Idx → EReal) (W : (⟨2, ![1024, 2056]⟩ : Shape).Idx → EReal) (B : (⟨1, ![8]⟩ : Shape).Idx → EReal)
    (P : (⟨3, ![4, 128, 128]⟩ : Shape).Idx → EReal) (S : (⟨1, ![512]⟩ : Shape).Idx → EReal) (b : Fin 2) (i : ℕ)
    (o : Vec Ideal S1x512x512 .bf16 × Vec Ideal S1x512x1024 .bf16 × Vec Ideal S1x512x1024 .bf16 × Vec Ideal S1x8x1x80x512 .bf16 × Vec Ideal S544x512 .f32 × Vec Ideal S8x128 .f32) : Prop where
  w11 : ∀ (y : S1x512x512.Idx) (rr cc : Fin 512), (y 1).val = rr.val → (y 2).val = cc.val → o.1 y = poolcol X W P S b cc (512 * i + rr.val)
  w12 : ∀ (y : S1x512x1024.Idx) (rr : Fin 512) (cc : Fin 1024), (y 1).val = rr.val → (y 2).val = cc.val → o.2.1 y = qpack X W B b cc (512 * i + rr.val)
  w13 : ∀ (y : S1x512x1024.Idx) (rr : Fin 512) (cc : Fin 1024), (y 1).val = rr.val → (y 2).val = cc.val → o.2.2.1 y = kpack X W B b cc (512 * i + rr.val)
  w14 : ∀ (y : S1x8x1x80x512.Idx) (hh : Fin 8) (rr : Fin 80) (kk : Fin 512), (y 1).val = hh.val → (y 3).val = rr.val → (y 4).val = kk.val →
    o.2.2.2.1 y = vpack X W b hh rr (512 * i + kk.val)
  u : ∀ (r : Fin 544) (k : Fin 512), o.2.2.2.2.1 (ix2 r k) = halo (uu X W b k) (512 * i + r.val)
  s : ∀ l : Fin 128, (hl : l.val < 24) → o.2.2.2.2.2 (ix2 7 l) = ∑ s ∈ Finset.range (512 * (i + 1)), lf X W B b (gate8 l) s

variable (m : (ℓ : Loc nD τ sig) → Buf (Elt Ideal) ℓ) {X : (⟨3, ![2, 8192, 1024]⟩ : Shape).Idx → EReal} {W : (⟨2, ![1024, 2056]⟩ : Shape).Idx → EReal} {B : (⟨1, ![8]⟩ : Shape).Idx → EReal}
    {P : (⟨3, ![4, 128, 128]⟩ : Shape).Idx → EReal} {S : (⟨1, ![512]⟩ : Shape).Idx → EReal}

/-- Every tile leaves what it should. -/
theorem state (c : Dev nD) (hX : ∀ j, Fin' (X j)) (hW : ∀ j, Fin' (W j)) (hB : ∀ j, Fin' (B j))
    (HT : ∀ (t : Fin cfg0.N) (b : Fin 2), b.val = t.val / 16 → Tile X W B P S b (grid0.coords t 1) (iblk m c 0 t) (iblk m c 1 t) (iblk m c 2 t) (iblk m c 3 t) (iblk m c 4 t)
      (iblk m c 5 t) (iblk m c 6 t) (iblk m c 7 t) (iblk m c 8 t) (iblk m c 9 t) (iblk m c 10 t)) :
    ∀ (n : ℕ) (hn : n < cfg0.N) (b : Fin 2), b.val = n / 16 → St X W B P S b (n % 16) (outsAt0 m c n hn) := by
  intro n
  induction n with
  | zero =>
    intro hn b hb
    have T := HT ⟨0, hn⟩ b hb
    have hi : (grid0.coords ⟨0, hn⟩ 1).val = 0 := coord1 ⟨0, hn⟩
    have hq : 0 % 16 = (grid0.coords ⟨0, hn⟩ 1).val := by rw [hi]
    rw [hq, outsAt0_A m c ⟨0, hn⟩ rfl (by show ¬ 1 ≤ 0 % 16; omega)]
    refine ⟨fun y rr cc h1 h2 => ?_, fun y rr cc h1 h2 => ?_, fun y rr cc h1 h2 => ?_, fun y hh rr kk h1 h3 h4 => ?_, fun r k => ?_, fun l hl => ?_⟩
    · dsimp only; apply outA_11 <;> assumption
    · dsimp only; apply outA_12 <;> assumption
    · dsimp only; apply outA_13 <;> assumption
    · dsimp only; apply outA_14 <;> assumption
    · dsimp only; apply soutA_0 <;> assumption
    · dsimp only; apply soutA_4 <;> assumption
  | succ n ih =>
    intro hn b hb
    have T := HT ⟨n + 1, hn⟩ b hb
    have hi : (grid0.coords ⟨n + 1, hn⟩ 1).val = (n + 1) % 16 := coord1 ⟨n + 1, hn⟩
    by_cases h0 : (n + 1) % 16 = 0
    · have hpos : (grid0.coords ⟨n + 1, hn⟩ 1).val = 0 := hi.trans h0
      rw [← hi, outsAt0_A m c ⟨n + 1, hn⟩ h0 (by show ¬ 1 ≤ (n + 1) % 16; omega)]
      refine ⟨fun y rr cc h1 h2 => ?_, fun y rr cc h1 h2 => ?_, fun y rr cc h1 h2 => ?_, fun y hh rr kk h1 h3 h4 => ?_, fun r k => ?_, fun l hl => ?_⟩
      · dsimp only; apply outA_11 <;> assumption
      · dsimp only; apply outA_12 <;> assumption
      · dsimp only; apply outA_13 <;> assumption
      · dsimp only; apply outA_14 <;> assumption
      · dsimp only; apply soutA_0 <;> assumption
      · dsimp only; apply soutA_4 <;> assumption
    · have hpos : 1 ≤ (grid0.coords ⟨n + 1, hn⟩ 1).val := by rw [hi]; omega
      have I := ih (Nat.lt_of_succ_lt hn) b (by omega)
      have hU : ∀ (r : Fin 544) (k : Fin 512), (outsAt0 m c n (Nat.lt_of_succ_lt hn)).2.2.2.2.1 (ix2 r k)
          = halo (uu X W b k) (512 * ((grid0.coords ⟨n + 1, hn⟩ 1).val - 1) + r.val) := fun r k =>
        (I.u r k).trans (by rw [hi, show (n + 1) % 16 - 1 = n % 16 by omega])
      have hC : ∀ l : Fin 128, (hl : l.val < 24) → (outsAt0 m c n (Nat.lt_of_succ_lt hn)).2.2.2.2.2 (ix2 7 l)
          = ∑ s ∈ Finset.range (512 * (grid0.coords ⟨n + 1, hn⟩ 1).val), lf X W B b (gate8 l) s := fun l hl =>
        (I.s l hl).trans (by rw [hi, show (n + 1) % 16 = n % 16 + 1 by omega])
      rw [← hi, outsAt0_B m c ⟨n + 1, hn⟩ h0 (by show 1 ≤ (n + 1) % 16; omega)]
      refine ⟨fun y rr cc h1 h2 => ?_, fun y rr cc h1 h2 => ?_, fun y rr cc h1 h2 => ?_, fun y hh rr kk h1 h3 h4 => ?_, fun r k => ?_, fun l hl => ?_⟩
      · dsimp only; apply outB_11 <;> assumption
      · dsimp only; apply outB_12 <;> assumption
      · dsimp only; apply outB_13 <;> assumption
      · dsimp only; apply outB_14 <;> assumption
      · dsimp only; apply soutB_0 <;> assumption
      · dsimp only; apply soutB_4 <;> assumption

end Cert.In

end
-- ==== Proof.InRef.lean ====
module

public import proofs.«01_k».proof.Proof.Gen.InReferenceIdeal
public import proofs.«01_k».proof.Proof.InMath
public import Idealize.ShloMosaic.Lib.WordCmp

@[expose] public section

set_option maxRecDepth 16384

noncomputable section

namespace Cert.InRef
open Cert.InReferenceIdeal Cert.InReferenceIdeal.Gen Idealize.ShloMosaic Idealize.ShloMosaic.TcCoe Idealize.SL.Sem Cert.InMath Cert.AttnMath

/-- The hidden columns. -/
def hidden (X : FVec Ideal S2x8192x1024 .f32) (W : FVec Ideal S1024x2056 .f32) : FVec Ideal S2x8192x2056 .f32 :=
  Host.dotGeneral dot_S2x8192x1024_S1024x2056_S2x8192x2056_2_0_01_1_n_n none X W

/-- The pooled columns. -/
def cols (H : FVec Ideal S2x8192x2056 .f32) : FVec Ideal S2x8192x512 .f32 :=
  extractStridedSlice S2x8192x512 ![0, 0, 0] H slices_S2x8192x2056_S2x8192x512_0_0_0

/-- Their running sums -/
def csum (U : FVec Ideal S2x8192x512 .f32) : FVec Ideal S2x8192x512 .f32 :=
  Host.reduceWindowAdd ![1, 8192, 1] ![1, 1, 1] ![0, 8191, 0] ![0, 0, 0] U (broadcastInDim S_ ![] bcast_S_S_ (constant S_ .f32 0x00000000#32)) reduceWindows_S2x8192x512_S2x8192x512_w1s1p0_0_w8192s1p8191_0_w1s1p0_0 h_S_

/-- The running sums behind sixteen zeros. -/
def behind (K : FVec Ideal S2x8192x512 .f32) : FVec Ideal S2x8208x512 .f32 :=
  pad S2x8208x512 ![0, 16, 0] ![0, 0, 0] ![0, 0, 0] K (sitofp .f32 (constantI S_ 32 0#32)) pads_S2x8192x512_S2x8208x512_000_1600_000 h_S_

/-- A pool's running sums 2 tokens earlier. -/
def early0 (B : FVec Ideal S2x8208x512 .f32) : FVec Ideal S2x8192x128 .f32 :=
  extractStridedSlice S2x8192x128 ![0, 14, 0] B slices_S2x8208x512_S2x8192x128_0_14_0

/-- A pool's running sums 4 tokens earlier. -/
def early1 (B : FVec Ideal S2x8208x512 .f32) : FVec Ideal S2x8192x128 .f32 :=
  extractStridedSlice S2x8192x128 ![0, 12, 128] B slices_S2x8208x512_S2x8192x128_0_12_128

/-- A pool's running sums 8 tokens earlier. -/
def early2 (B : FVec Ideal S2x8208x512 .f32) : FVec Ideal S2x8192x128 .f32 :=
  extractStridedSlice S2x8192x128 ![0, 8, 256] B slices_S2x8208x512_S2x8192x128_0_8_256

/-- A pool's running sums 16 tokens earlier. -/
def early3 (B : FVec Ideal S2x8208x512 .f32) : FVec Ideal S2x8192x128 .f32 :=
  extractStridedSlice S2x8192x128 ![0, 0, 384] B slices_S2x8208x512_S2x8192x128_0_0_384

/-- All four pools side by side, -/
def beside (A B C D : FVec Ideal S2x8192x128 .f32) : FVec Ideal S2x8192x512 .f32 :=
  concatenate S2x8192x512 2 [⟨S2x8192x128, (A : FVec Ideal S2x8192x128 .f32)⟩, ⟨S2x8192x128, (B : FVec Ideal S2x8192x128 .f32)⟩, ⟨S2x8192x128, (C : FVec Ideal S2x8192x128 .f32)⟩, ⟨S2x8192x128, (D : FVec Ideal S2x8192x128 .f32)⟩] concatenates_S2x8192x128_S2x8192x128_S2x8192x128_S2x8192x128_S2x8192x512_d2

/-- the running sums a window earlier. -/
def early (K : FVec Ideal S2x8192x512 .f32) : FVec Ideal S2x8192x512 .f32 :=
  beside (early0 (behind K)) (early1 (behind K)) (early2 (behind K)) (early3 (behind K))

/-- The deviations of the window means. -/
def devs (U K E : FVec Ideal S2x8192x512 .f32) : FVec Ideal S2x8192x4x128 .f32 :=
  subf (Host.divf (shapeCast _ (subf K (E)) shapeCasts_S2x8192x512_S2x8192x4x128) (broadcastInDim S2x8192x4x128 ![0, 1, 2, 3] bcast_S1x8192x4x1_S2x8192x4x128_0_1_2_3 (broadcastInDim S1x8192x4x1 ![1, 2] bcast_S8192x4_S1x8192x4x1_1_2 (minimumf (broadcastInDim S8192x4 ![0, 1] bcast_S8192x1_S8192x4_0_1 (broadcastInDim S8192x1 ![0] bcast_S8192_S8192x1_0 (addf (broadcastInDim S8192 ![] bcast_S_S8192 (constant S_ .f32 0x3F800000#32)) (sitofp .f32 (iotaInDim S8192 32 0))))) (broadcastInDim S8192x4 ![0, 1] bcast_S1x4_S8192x4_0_1 (broadcastInDim S1x4 ![1] bcast_S4_S1x4_1 ((fun i => FloatOps.ofBits .f32 (lit0 (S4.rowMajor i)))))))))) (shapeCast _ U shapeCasts_S2x8192x512_S2x8192x4x128)

/-- The pool. -/
def pooled (D : FVec Ideal S2x8192x4x128 .f32) (P : FVec Ideal S4x128x128 .f32) (S : FVec Ideal S512 .f32) : FVec Ideal S2x8192x512 .bf16 :=
  truncf .bf16 (mulf (shapeCast _ (transpose S2x8192x4x128 [2, 3, 0, 1] (Host.dotGeneral dot_S4x128x128_S2x8192x4x128_S4x128x2x8192_1_3_2_01_0_2 none P D) transposes_S4x128x2x8192_S2x8192x4x128_2_3_0_1) shapeCasts_S2x8192x4x128_S2x8192x512) (broadcastInDim S2x8192x512 ![0, 1, 2] bcast_S1x1x512_S2x8192x512_0_1_2 (broadcastInDim S1x1x512 ![2] bcast_S512_S1x1x512_2 S))) bitsLt_bf16_f32

/-- The forget gates before the sigmoid, -/
def fgate (H : FVec Ideal S2x8192x2056 .f32) (B : FVec Ideal S8 .f32) : FVec Ideal S2x8192x8 .f32 :=
  addf (extractStridedSlice S2x8192x8 ![0, 0, 2048] H slices_S2x8192x2056_S2x8192x8_0_0_2048) (broadcastInDim S2x8192x8 ![0, 1, 2] bcast_S1x1x8_S2x8192x8_0_1_2 (broadcastInDim S1x1x8 ![2] bcast_S8_S1x1x8_2 B))

/-- the logarithms of their sigmoids -/
def logf (G : FVec Ideal S2x8192x8 .f32) : FVec Ideal S2x8192x8 .f32 :=
  Host.negf (select (cmpf .une (subf (Host.negf G) (broadcastInDim S2x8192x8 ![] bcast_S_S2x8192x8 (constant S_ .f32 0x00000000#32))) (subf (Host.negf G) (broadcastInDim S2x8192x8 ![] bcast_S_S2x8192x8 (constant S_ .f32 0x00000000#32)))) (addf (Host.negf G) (broadcastInDim S2x8192x8 ![] bcast_S_S2x8192x8 (constant S_ .f32 0x00000000#32))) (addf (maximumf (Host.negf G) (broadcastInDim S2x8192x8 ![] bcast_S_S2x8192x8 (constant S_ .f32 0x00000000#32))) (Host.log1p (Host.exp (Host.negf (Host.absf (subf (Host.negf G) (broadcastInDim S2x8192x8 ![] bcast_S_S2x8192x8 (constant S_ .f32 0x00000000#32)))))))))

/-- and the running sums of those. -/
def cumf (L : FVec Ideal S2x8192x8 .f32) : FVec Ideal S2x8192x8 .f32 :=
  Host.reduceWindowAdd ![1, 8192, 1] ![1, 1, 1] ![0, 8191, 0] ![0, 0, 0] L (broadcastInDim S_ ![] bcast_S_S_ (constant S_ .f32 0x00000000#32)) reduceWindows_S2x8192x8_S2x8192x8_w1s1p0_0_w8192s1p8191_0_w1s1p0_0 h_S_

/-- The six gate lanes of a query -/
def gatesQ (C : FVec Ideal S2x8192x8 .f32) : FVec Ideal S2x8192x8x6 .f32 :=
  concatenate S2x8192x8x6 3 [⟨S2x8192x8x1, ((broadcastInDim S2x8192x8x1 ![0, 1, 2] bcast_S2x8192x8_S2x8192x8x1_0_1_2 C) : FVec Ideal S2x8192x8x1 .f32)⟩, ⟨S2x8192x8x2, ((broadcastInDim S2x8192x8x2 ![] bcast_S_S2x8192x8x2 (constant S_ .f32 0x00000000#32)) : FVec Ideal S2x8192x8x2 .f32)⟩, ⟨S2x8192x8x3, ((broadcastInDim S2x8192x8x3 ![] bcast_S_S2x8192x8x3 (constant S_ .f32 0x3F800000#32)) : FVec Ideal S2x8192x8x3 .f32)⟩] concatenates_S2x8192x8x1_S2x8192x8x2_S2x8192x8x3_S2x8192x8x6_d3

/-- and of a key. -/
def gatesK (C : FVec Ideal S2x8192x8 .f32) : FVec Ideal S2x8192x8x6 .f32 :=
  concatenate S2x8192x8x6 3 [⟨S2x8192x8x3, ((broadcastInDim S2x8192x8x3 ![] bcast_S_S2x8192x8x3 (constant S_ .f32 0x3F800000#32)) : FVec Ideal S2x8192x8x3 .f32)⟩, ⟨S2x8192x8x1, ((Host.negf (broadcastInDim S2x8192x8x1 ![0, 1, 2] bcast_S2x8192x8_S2x8192x8x1_0_1_2 C)) : FVec Ideal S2x8192x8x1 .f32)⟩, ⟨S2x8192x8x2, ((broadcastInDim S2x8192x8x2 ![] bcast_S_S2x8192x8x2 (constant S_ .f32 0x00000000#32)) : FVec Ideal S2x8192x8x2 .f32)⟩] concatenates_S2x8192x8x3_S2x8192x8x1_S2x8192x8x2_S2x8192x8x6_d3

/-- The scaled queries -/
def qcols (H : FVec Ideal S2x8192x2056 .f32) : FVec Ideal S2x8192x512 .f32 :=
  mulf (extractStridedSlice S2x8192x512 ![0, 0, 512] H slices_S2x8192x2056_S2x8192x512_0_0_512) (broadcastInDim S2x8192x512 ![] bcast_S_S2x8192x512 (constant S_ .f32 0x3E000000#32))

/-- and the keys. -/
def kcols (H : FVec Ideal S2x8192x2056 .f32) : FVec Ideal S2x8192x512 .f32 :=
  extractStridedSlice S2x8192x512 ![0, 0, 1024] H slices_S2x8192x2056_S2x8192x512_0_0_1024

/-- Two heads and their gates in 256 lanes -/
def lanes (T : FVec Ideal S2x8192x512 .f32) (G : FVec Ideal S2x8192x8x6 .f32) : FVec Ideal S2x8192x4x256 .f32 :=
  concatenate S2x8192x4x256 3 [⟨S2x8192x4x128, ((shapeCast _ T shapeCasts_S2x8192x512_S2x8192x4x128) : FVec Ideal S2x8192x4x128 .f32)⟩, ⟨S2x8192x4x12, ((shapeCast _ (G) shapeCasts_S2x8192x8x6_S2x8192x4x12) : FVec Ideal S2x8192x4x12 .f32)⟩, ⟨S2x8192x4x116, ((broadcastInDim S2x8192x4x116 ![] bcast_S_S2x8192x4x116 (constant S_ .f32 0x00000000#32)) : FVec Ideal S2x8192x4x116 .f32)⟩] concatenates_S2x8192x4x128_S2x8192x4x12_S2x8192x4x116_S2x8192x4x256_d3

/-- and all four pairs of heads. -/
def packed (L : FVec Ideal S2x8192x4x256 .f32) : FVec Ideal S2x8192x1024 .bf16 :=
  truncf .bf16 (shapeCast _ L shapeCasts_S2x8192x4x256_S2x8192x1024) bitsLt_bf16_f32

/-- The values, transposed, with a row of ones. -/
def vt (H : FVec Ideal S2x8192x2056 .f32) : FVec Ideal S2x8x16x80x512 .bf16 :=
  truncf .bf16 ((concatenate S2x8x16x80x512 3 [⟨S2x8x16x64x512, ((transpose S2x8x16x64x512 [0, 3, 1, 4, 2] (shapeCast _ (extractStridedSlice S2x8192x512 ![0, 0, 1536] H slices_S2x8192x2056_S2x8192x512_0_0_1536) shapeCasts_S2x8192x512_S2x16x512x8x64) transposes_S2x16x512x8x64_S2x8x16x64x512_0_3_1_4_2) : FVec Ideal S2x8x16x64x512 .f32)⟩, ⟨S2x8x16x1x512, ((broadcastInDim S2x8x16x1x512 ![] bcast_S_S2x8x16x1x512 (constant S_ .f32 0x3F800000#32)) : FVec Ideal S2x8x16x1x512 .f32)⟩, ⟨S2x8x16x15x512, ((broadcastInDim S2x8x16x15x512 ![] bcast_S_S2x8x16x15x512 (constant S_ .f32 0x00000000#32)) : FVec Ideal S2x8x16x15x512 .f32)⟩] concatenates_S2x8x16x64x512_S2x8x16x1x512_S2x8x16x15x512_S2x8x16x80x512_d3 : FVec Ideal S2x8x16x80x512 .f32)) bitsLt_bf16_f32

/-- The window of each pool, in tokens. -/
def win (g : Fin 4) : ℕ := ![2, 4, 8, 16] g

theorem hidden_at (X : FVec Ideal S2x8192x1024 .f32) (W : FVec Ideal S1024x2056 .f32) (b : Fin 2) (t : Fin 8192) (c : Fin 2056) :
    hidden X W (ix3 b t c) = hid X W b c t.val := by
  pointwise [hidden]
  rw [hid, dif_pos t.isLt]

theorem cols_at (H : FVec Ideal S2x8192x2056 .f32) (b : Fin 2) (t : Fin 8192) (c : Fin 512) :
    cols H (ix3 b t c) = H (ix3 b t ⟨c.val, by omega⟩) := by
  pointwise [cols]

theorem zero_at : ∀ i, (broadcastInDim S_ ![] bcast_S_S_ (constant (F := Ideal) S_ .f32 0x00000000#32)) i = (0 : EReal) := by
  intro i
  show Ideal.ofBits .f32 0x00000000#32 = 0
  simp [Ideal.ofBits, Ideal.ieee]

theorem csum_at (U : FVec Ideal S2x8192x512 .f32) (f : ℕ → EReal) (b : Fin 2) (c : Fin 512) (h : ∀ i : Fin 8192, U (ix3 b i c) = f i.val) (t : Fin 8192) :
    csum U (ix3 b t c) = run f t.val := by
  unfold csum
  exact hostCumsum (A := 2) (N := 8192) (M := 8191) (K := 512) (by norm_num) U f b c h _ _ _ zero_at _ t

theorem cumf_at (U : FVec Ideal S2x8192x8 .f32) (f : ℕ → EReal) (b : Fin 2) (c : Fin 8) (h : ∀ i : Fin 8192, U (ix3 b i c) = f i.val) (t : Fin 8192) :
    cumf U (ix3 b t c) = run f t.val := by
  unfold cumf
  exact hostCumsum (A := 2) (N := 8192) (M := 8191) (K := 8) (by norm_num) U f b c h _ _ _ zero_at _ t

theorem sitofp_zero : (FloatOps.sitofp FTy.f32 0#32 : Ideal .f32) = (0 : EReal) := by
  show (((0#32 : BitVec 32).toInt : ℝ) : EReal) = 0
  simp

theorem behind_at (K : FVec Ideal S2x8192x512 .f32) (b : Fin 2) (t : Fin 8208) (c : Fin 512) :
    behind K (ix3 b t c) = if h : 16 ≤ t.val then K (ix3 b ⟨t.val - 16, by omega⟩ c) else 0 := by
  pointwise [behind]
  have ht := t.isLt
  have hc := c.isLt
  by_cases h : 16 ≤ t.val
  · rw [dif_pos (by omega), dif_pos h]
  · rw [dif_neg (by omega), dif_neg h, sitofp_zero]

theorem beside_at (A B C D : FVec Ideal S2x8192x128 .f32) (b : Fin 2) (t : Fin 8192) (g : Fin 4) (k : Fin 128) :
    beside A B C D (ix3 b t ⟨128 * g.val + k.val, by omega⟩) = (![A, B, C, D] g) (ix3 b t k) := by
  have hk := k.isLt
  pointwise [beside]
  have h4 := g.isLt
  obtain ⟨g, hg⟩ := g
  interval_cases g
  · rw [dif_pos (by show 128 * 0 + k.val < 128; omega)]
    exact congrArg (fun n => A (ix3 b t n)) (Fin.ext (by show 128 * 0 + k.val = k.val; omega))
  · rw [dif_neg (by show ¬ (128 * 1 + k.val < 128); omega), dif_pos (by show 128 * 1 + k.val - 128 < 128; omega)]
    exact congrArg (fun n => B (ix3 b t n)) (Fin.ext (by show 128 * 1 + k.val - 128 = k.val; omega))
  · rw [dif_neg (by show ¬ (128 * 2 + k.val < 128); omega), dif_neg (by show ¬ (128 * 2 + k.val - 128 < 128); omega), dif_pos (by show 128 * 2 + k.val - 128 - 128 < 128; omega)]
    exact congrArg (fun n => C (ix3 b t n)) (Fin.ext (by show 128 * 2 + k.val - 128 - 128 = k.val; omega))
  · rw [dif_neg (by show ¬ (128 * 3 + k.val < 128); omega), dif_neg (by show ¬ (128 * 3 + k.val - 128 < 128); omega), dif_neg (by show ¬ (128 * 3 + k.val - 128 - 128 < 128); omega)]
    exact congrArg (fun n => D (ix3 b t n)) (Fin.ext (by show 128 * 3 + k.val - 128 - 128 - 128 = k.val; omega))

theorem lag_behind (K : FVec Ideal S2x8192x512 .f32) (f : ℕ → EReal) (b : Fin 2) (t : Fin 8192) (c : Fin 512) (w : ℕ) (hw : w ≤ 16) (n : Fin 8208) (hn : n.val + w = t.val + 16)
    (hf : ∀ i : Fin 8192, K (ix3 b i c) = run f i.val) : behind K (ix3 b n c) = lag f w t.val := by
  rw [behind_at, lag]
  by_cases h : t.val < w
  · rw [dif_neg (by omega), if_pos h]
  · rw [dif_pos (by omega), if_neg h, hf]
    exact congrArg (run f) (by show n.val - 16 = t.val - w; omega)

theorem early0_at (B : FVec Ideal S2x8208x512 .f32) (b : Fin 2) (t : Fin 8192) (k : Fin 128) :
    early0 B (ix3 b t k) = B (ix3 b ⟨14 + t.val, by omega⟩ ⟨0 + k.val, by omega⟩) := by
  pointwise [early0]

theorem early1_at (B : FVec Ideal S2x8208x512 .f32) (b : Fin 2) (t : Fin 8192) (k : Fin 128) :
    early1 B (ix3 b t k) = B (ix3 b ⟨12 + t.val, by omega⟩ ⟨128 + k.val, by omega⟩) := by
  pointwise [early1]

theorem early2_at (B : FVec Ideal S2x8208x512 .f32) (b : Fin 2) (t : Fin 8192) (k : Fin 128) :
    early2 B (ix3 b t k) = B (ix3 b ⟨8 + t.val, by omega⟩ ⟨256 + k.val, by omega⟩) := by
  pointwise [early2]

theorem early3_at (B : FVec Ideal S2x8208x512 .f32) (b : Fin 2) (t : Fin 8192) (k : Fin 128) :
    early3 B (ix3 b t k) = B (ix3 b ⟨0 + t.val, by omega⟩ ⟨384 + k.val, by omega⟩) := by
  pointwise [early3]

theorem early_at (K : FVec Ideal S2x8192x512 .f32) (f : ℕ → EReal) (b : Fin 2) (t : Fin 8192) (g : Fin 4) (k : Fin 128)
    (hf : ∀ i : Fin 8192, K (ix3 b i ⟨128 * g.val + k.val, by omega⟩) = run f i.val) :
    early K (ix3 b t ⟨128 * g.val + k.val, by omega⟩) = lag f (win g) t.val := by
  unfold early
  rw [beside_at]
  have h4 := g.isLt
  obtain ⟨g, hg⟩ := g
  interval_cases g
  · exact (early0_at _ b t k).trans (lag_behind K f b t _ 2 (by norm_num) _ (by show 14 + t.val + 2 = t.val + 16; omega) hf)
  · exact (early1_at _ b t k).trans (lag_behind K f b t _ 4 (by norm_num) _ (by show 12 + t.val + 4 = t.val + 16; omega) hf)
  · exact (early2_at _ b t k).trans (lag_behind K f b t _ 8 (by norm_num) _ (by show 8 + t.val + 8 = t.val + 16; omega) hf)
  · exact (early3_at _ b t k).trans (lag_behind K f b t _ 16 (by norm_num) _ (by show 0 + t.val + 16 = t.val + 16; omega) hf)

theorem lit_at (g : Fin 4) : Ideal.ofBits FTy.f32 (lit0 (S4.rowMajor (ix1 g))) = wlen g := by
  have h : S4.rowMajor (ix1 g) = g := Fin.ext (by rw [Shape.rowMajor_val_one]; rfl)
  rw [h]
  fin_cases g <;> rfl

theorem count_at (t : Fin 8192) : (1 : EReal) + FloatOps.sitofp (F := Ideal) FTy.f32 (BitVec.ofNat 32 t.val) = (((t.val + 1 : ℕ) : ℝ) : EReal) := by
  have ht := t.isLt
  have h : (BitVec.ofNat 32 t.val).toInt = t.val := by rw [BitVec.toInt_eq_toNat_cond, BitVec.toNat_ofNat]; split <;> omega
  show (1 : EReal) + (((BitVec.ofNat 32 t.val).toInt : ℝ) : EReal) = _
  rw [h, ← EReal.coe_one, ← EReal.coe_add]
  congr 1
  push_cast
  ring

theorem devs_at (U K E : FVec Ideal S2x8192x512 .f32) (b : Fin 2) (t : Fin 8192) (g : Fin 4) (k : Fin 128) :
    devs U K E (ix4 b t g k) = Ideal.div (K (ix3 b t ⟨128 * g.val + k.val, by omega⟩) - E (ix3 b t ⟨128 * g.val + k.val, by omega⟩))
      (min (((t.val + 1 : ℕ) : ℝ) : EReal) (wlen g)) - U (ix3 b t ⟨128 * g.val + k.val, by omega⟩) := by
  pointwise [devs]
  rw [lit_at, count_at]
  have e : (⟨g.val * 128 + k.val, by omega⟩ : Fin 512) = ⟨128 * g.val + k.val, by omega⟩ := Fin.ext (by show g.val * 128 + k.val = 128 * g.val + k.val; omega)
  rw [e]

theorem pooled_at (D : FVec Ideal S2x8192x4x128 .f32) (P : FVec Ideal S4x128x128 .f32) (S : FVec Ideal S512 .f32) (b : Fin 2) (t : Fin 8192) (g : Fin 4) (c : Fin 128) :
    pooled D P S (ix3 b t ⟨128 * g.val + c.val, by omega⟩) = (∑ k : Fin 128, D (ix4 b t g k) * P (ix3 g k c)) * S (ix1 ⟨128 * g.val + c.val, by omega⟩) := by
  pointwise [pooled]
  exact congrArg (· * _) (Finset.sum_congr rfl fun k _ => mul_comm _ _)

theorem fgate_at (H : FVec Ideal S2x8192x2056 .f32) (B : FVec Ideal S8 .f32) (b : Fin 2) (t : Fin 8192) (h : Fin 8) :
    fgate H B (ix3 b t h) = H (ix3 b t ⟨2048 + h.val, by omega⟩) + B (ix1 h) := by
  pointwise [fgate]

theorem logf_at (G : FVec Ideal S2x8192x8 .f32) (b : Fin 2) (t : Fin 8192) (h : Fin 8) :
    logf G (ix3 b t h) = lsigRef (G (ix3 b t h)) := by
  pointwise [logf]
  rw [if_neg (by simp)]
  rfl

theorem gatesQ_at (C : FVec Ideal S2x8192x8 .f32) (b : Fin 2) (t : Fin 8192) (h : Fin 8) (g : Fin 6) :
    gatesQ C (ix4 b t h g) = if g.val = 0 then C (ix3 b t h) else if g.val < 3 then 0 else 1 := by
  fin_cases g <;> pointwise [gatesQ]

theorem gatesK_at (C : FVec Ideal S2x8192x8 .f32) (b : Fin 2) (t : Fin 8192) (h : Fin 8) (g : Fin 6) :
    gatesK C (ix4 b t h g) = if g.val < 3 then 1 else if g.val = 3 then -C (ix3 b t h) else 0 := by
  fin_cases g <;> pointwise [gatesK]

theorem qcols_at (H : FVec Ideal S2x8192x2056 .f32) (b : Fin 2) (t : Fin 8192) (c : Fin 512) :
    qcols H (ix3 b t c) = H (ix3 b t ⟨512 + c.val, by omega⟩) * Ideal.ofBits .f32 0x3E000000#32 := by
  pointwise [qcols]

theorem kcols_at (H : FVec Ideal S2x8192x2056 .f32) (b : Fin 2) (t : Fin 8192) (c : Fin 512) :
    kcols H (ix3 b t c) = H (ix3 b t ⟨1024 + c.val, by omega⟩) := by
  pointwise [kcols]

theorem lanes_at (T : FVec Ideal S2x8192x512 .f32) (G : FVec Ideal S2x8192x8x6 .f32) (b : Fin 2) (t : Fin 8192) (p : Fin 4) (j : Fin 256) :
    lanes T G (ix4 b t p j) = if h : j.val < 128 then T (ix3 b t ⟨p.val * 128 + j.val, by omega⟩)
      else if h : j.val - 128 < 12 then G (ix4 b t ⟨p.val * 2 + (j.val - 128) / 6, by omega⟩ ⟨(j.val - 128) % 6, by omega⟩) else 0 := by
  pointwise [lanes]

theorem packed_at (L : FVec Ideal S2x8192x4x256 .f32) (b : Fin 2) (t : Fin 8192) (c : Fin 1024) :
    packed L (ix3 b t c) = L (ix4 b t ⟨c.val / 256, by omega⟩ ⟨c.val % 256, by omega⟩) := by
  pointwise [packed]

theorem vt_at (H : FVec Ideal S2x8192x2056 .f32) (b : Fin 2) (h : Fin 8) (n : Fin 16) (r : Fin 80) (k : Fin 512) :
    vt H (ix5 b h n r k) = if hr : r.val < 64 then H (ix3 b ⟨n.val * 512 + k.val, by omega⟩ ⟨1536 + (h.val * 64 + r.val), by omega⟩) else if r.val - 64 < 1 then 1 else 0 := by
  pointwise [vt]
  rfl

/-! ## The results -/

/-- The reference's pool, -/
def refPool (X : FVec Ideal S2x8192x1024 .f32) (W : FVec Ideal S1024x2056 .f32) (P : FVec Ideal S4x128x128 .f32) (S : FVec Ideal S512 .f32) :
    FVec Ideal S2x8192x512 .bf16 :=
  pooled (devs (cols (hidden X W)) (csum (cols (hidden X W))) (early (csum (cols (hidden X W))))) P S

/-- its queries -/
def refQ (X : FVec Ideal S2x8192x1024 .f32) (W : FVec Ideal S1024x2056 .f32) (B : FVec Ideal S8 .f32) : FVec Ideal S2x8192x1024 .bf16 :=
  packed (lanes (qcols (hidden X W)) (gatesQ (cumf (logf (fgate (hidden X W) B)))))

/-- and its keys. -/
def refK (X : FVec Ideal S2x8192x1024 .f32) (W : FVec Ideal S1024x2056 .f32) (B : FVec Ideal S8 .f32) : FVec Ideal S2x8192x1024 .bf16 :=
  packed (lanes (kcols (hidden X W)) (gatesK (cumf (logf (fgate (hidden X W) B)))))

/-- The difference of the running sums is the windowed sum, whatever the window. -/
theorem win_eq (f : ℕ → EReal) (hf : ∀ n, Fin' (f n)) (t : ℕ) (g : Fin 4) : run f t - lag f (win g) t = wsum g (halo f) (t + 32) := by
  have h4 := g.isLt
  obtain ⟨g, hg⟩ := g
  interval_cases g
  · exact win2 f hf t
  · exact win4 f hf t
  · exact win8 f hf t
  · exact win16 f hf t

theorem ucols_at (X : FVec Ideal S2x8192x1024 .f32) (W : FVec Ideal S1024x2056 .f32) (b : Fin 2) (t : Fin 8192) (c : Fin 512) :
    cols (hidden X W) (ix3 b t c) = uu X W b c t.val := by
  rw [cols_at, hidden_at, uu]

theorem refPool_at (X : FVec Ideal S2x8192x1024 .f32) (W : FVec Ideal S1024x2056 .f32) (P : FVec Ideal S4x128x128 .f32) (S : FVec Ideal S512 .f32)
    (hX : ∀ j, Fin' (X j)) (hW : ∀ j, Fin' (W j)) (b : Fin 2) (t : Fin 8192) (g : Fin 4) (c : Fin 128) :
    refPool X W P S (ix3 b t ⟨128 * g.val + c.val, by omega⟩) = pool X W P S b g c t.val := by
  rw [refPool, pooled_at]
  unfold Cert.InMath.pool
  refine congrArg (· * _) (Finset.sum_congr rfl fun k _ => congrArg (· * _) ?_)
  rw [devs_at, dev, ucols_at, csum_at _ (uu X W b ⟨128 * g.val + k.val, by omega⟩) b _ (fun i => ucols_at X W b i _),
    early_at _ (uu X W b ⟨128 * g.val + k.val, by omega⟩) b t g k (fun i => csum_at _ _ b _ (fun i => ucols_at X W b i _) i),
    win_eq (uu X W b ⟨128 * g.val + k.val, by omega⟩) (fun n => hid_fin hX hW _ _ n)]

theorem cumf_logf_at (X : FVec Ideal S2x8192x1024 .f32) (W : FVec Ideal S1024x2056 .f32) (B : FVec Ideal S8 .f32)
    (hX : ∀ j, Fin' (X j)) (hW : ∀ j, Fin' (W j)) (hB : ∀ j, Fin' (B j)) (b : Fin 2) (t : Fin 8192) (h : Fin 8) :
    cumf (logf (fgate (hidden X W) B)) (ix3 b t h) = cum X W B b h t.val :=
  cumf_at _ (lf X W B b h) b h (fun i => by
    rw [logf_at, fgate_at, hidden_at, lsigRef_eq _ ((hid_fin hX hW _ _ _).add (hB _)), lf]) t

theorem refQ_at (X : FVec Ideal S2x8192x1024 .f32) (W : FVec Ideal S1024x2056 .f32) (B : FVec Ideal S8 .f32)
    (hX : ∀ j, Fin' (X j)) (hW : ∀ j, Fin' (W j)) (hB : ∀ j, Fin' (B j)) (b : Fin 2) (t : Fin 8192) (c : Fin 1024) :
    refQ X W B (ix3 b t c) = qpack X W B b c t.val := by
  rw [refQ, packed_at, lanes_at, qpack]
  split
  · rw [qcols_at, hidden_at]
  · split
    · rw [gatesQ_at, cumf_logf_at X W B hX hW hB]
    · rfl

theorem refK_at (X : FVec Ideal S2x8192x1024 .f32) (W : FVec Ideal S1024x2056 .f32) (B : FVec Ideal S8 .f32)
    (hX : ∀ j, Fin' (X j)) (hW : ∀ j, Fin' (W j)) (hB : ∀ j, Fin' (B j)) (b : Fin 2) (t : Fin 8192) (c : Fin 1024) :
    refK X W B (ix3 b t c) = kpack X W B b c t.val := by
  rw [refK, packed_at, lanes_at, kpack]
  split
  · rw [kcols_at, hidden_at]
  · split
    · rw [gatesK_at, cumf_logf_at X W B hX hW hB]
    · rfl

theorem refV_at (X : FVec Ideal S2x8192x1024 .f32) (W : FVec Ideal S1024x2056 .f32) (b : Fin 2) (h : Fin 8) (n : Fin 16) (r : Fin 80) (k : Fin 512) :
    vt (hidden X W) (ix5 b h n r k) = vpack X W b h r (n.val * 512 + k.val) := by
  rw [vt_at, vpack]
  split
  · rw [hidden_at]
  · rfl

end Cert.InRef

end
-- ==== Proof.InValue.lean ====
module

public import proofs.«01_k».proof.Proof.InHost
public import proofs.«01_k».proof.Proof.InState
public import proofs.«01_k».proof.Proof.InRef
public import proofs.«01_k».proof.Proof.Gen.InKernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.In
open Cert.InKernelIdeal Cert.InKernelIdeal.Gen Idealize.ShloMosaic Idealize.ShloMosaic.TcCoe Idealize.SL.Sem Cert.AttnMath Cert.InMath

variable (m : (ℓ : Loc nD τ sig) → Buf (Elt Ideal) ℓ) (c : Dev nD)
  (hX : ∀ j, Fin' ((m ((c : Thread nD τ).loc main_arg0) : Vec Ideal S2x8192x1024 .f32) j))
  (hW : ∀ j, Fin' ((m ((c : Thread nD τ).loc main_arg1) : Vec Ideal S1024x2056 .f32) j))
  (hB : ∀ j, Fin' ((m ((c : Thread nD τ).loc main_arg2) : Vec Ideal S8 .f32) j))

include hX hW hB

/-- What every point leaves, over the arguments. -/
theorem left (t : Fin cfg0.N) (b : Fin 2) (hb : b.val = t.val / 16) :
    St (m ((c : Thread nD τ).loc main_arg0)) (m ((c : Thread nD τ).loc main_arg1)) (m ((c : Thread nD τ).loc main_arg2)) (m ((c : Thread nD τ).loc main_arg3)) (m ((c : Thread nD τ).loc main_arg4)) b (t.val % 16) (outsAt0 m c t.val t.isLt) :=
  state m c hX hW hB (fun t b hb => tile m c t b hb (grid0.coords t 1) (coord1 t)) t.val t.isLt b hb

/-- The kernel's pool is the reference's, -/
theorem final11 : (dats m 0 c).arrAt 11 cfg0.N = Cert.InRef.refPool (m ((c : Thread nD τ).loc main_arg0)) (m ((c : Thread nD τ).loc main_arg1)) (m ((c : Thread nD τ).loc main_arg3)) (m ((c : Thread nD τ).loc main_arg4)) := by
  refine (dats m 0 c).arrAt_eq_of_covers 11 _ (by decide +kernel) fun t _ y => ?_
  blk_simp
  rw [after0_11]
  have ht : t.val < 32 := t.isLt
  have hy0 : (y 0).val < 1 := (y 0).isLt
  have hy1 : (y 1).val < 512 := (y 1).isLt
  have hy2 : (y 2).val < 512 := (y 2).isLt
  obtain ⟨r, hr⟩ : ∃ r : Fin 512, r.val = (y 1).val := ⟨⟨_, hy1⟩, rfl⟩
  obtain ⟨l, hl⟩ : ∃ l : Fin 512, l.val = (y 2).val := ⟨⟨_, hy2⟩, rfl⟩
  obtain ⟨b, hb⟩ : ∃ b : Fin 2, b.val = t.val / 16 := ⟨⟨_, by omega⟩, rfl⟩
  have e2 : ((win0_11.blk t).view.emb y : S2x8192x512.Idx) = ix3 b (⟨512 * (t.val % 16) + r.val, by omega⟩ : Fin 8192) l := by
    blk_ext [idx t]
  rw [e2]
  refine ((left m c hX hW hB t b hb).w11 y r l hr.symm hl.symm).trans ?_
  have el : l = ⟨128 * (⟨l.val / 128, by omega⟩ : Fin 4).val + (⟨l.val % 128, by omega⟩ : Fin 128).val, by dsimp only; omega⟩ := Fin.ext (by show l.val = 128 * (l.val / 128) + l.val % 128; omega)
  have e := Cert.InRef.refPool_at (m ((c : Thread nD τ).loc main_arg0)) (m ((c : Thread nD τ).loc main_arg1)) (m ((c : Thread nD τ).loc main_arg3)) (m ((c : Thread nD τ).loc main_arg4)) hX hW b (⟨512 * (t.val % 16) + r.val, by omega⟩ : Fin 8192) ⟨l.val / 128, by omega⟩ ⟨l.val % 128, by omega⟩
  rw [← el] at e
  exact e.symm

/-- its queries are the reference's, -/
theorem final12 : (dats m 0 c).arrAt 12 cfg0.N = Cert.InRef.refQ (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  have ht : t.val < 32 := t.isLt
  have hy0 : (y 0).val < 1 := (y 0).isLt
  have hy1 : (y 1).val < 512 := (y 1).isLt
  have hy2 : (y 2).val < 1024 := (y 2).isLt
  obtain ⟨r, hr⟩ : ∃ r : Fin 512, r.val = (y 1).val := ⟨⟨_, hy1⟩, rfl⟩
  obtain ⟨l, hl⟩ : ∃ l : Fin 1024, l.val = (y 2).val := ⟨⟨_, hy2⟩, rfl⟩
  obtain ⟨b, hb⟩ : ∃ b : Fin 2, b.val = t.val / 16 := ⟨⟨_, by omega⟩, rfl⟩
  have e2 : ((win0_12.blk t).view.emb y : S2x8192x1024.Idx) = ix3 b (⟨512 * (t.val % 16) + r.val, by omega⟩ : Fin 8192) l := by
    blk_ext [idx t]
  rw [e2]
  refine ((left m c hX hW hB t b hb).w12 y r l hr.symm hl.symm).trans ?_
  exact (Cert.InRef.refQ_at (m ((c : Thread nD τ).loc main_arg0)) (m ((c : Thread nD τ).loc main_arg1)) (m ((c : Thread nD τ).loc main_arg2)) hX hW hB b (⟨512 * (t.val % 16) + r.val, by omega⟩ : Fin 8192) l).symm

/-- its keys are the reference's, -/
theorem final13 : (dats m 0 c).arrAt 13 cfg0.N = Cert.InRef.refK (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  have ht : t.val < 32 := t.isLt
  have hy0 : (y 0).val < 1 := (y 0).isLt
  have hy1 : (y 1).val < 512 := (y 1).isLt
  have hy2 : (y 2).val < 1024 := (y 2).isLt
  obtain ⟨r, hr⟩ : ∃ r : Fin 512, r.val = (y 1).val := ⟨⟨_, hy1⟩, rfl⟩
  obtain ⟨l, hl⟩ : ∃ l : Fin 1024, l.val = (y 2).val := ⟨⟨_, hy2⟩, rfl⟩
  obtain ⟨b, hb⟩ : ∃ b : Fin 2, b.val = t.val / 16 := ⟨⟨_, by omega⟩, rfl⟩
  have e2 : ((win0_13.blk t).view.emb y : S2x8192x1024.Idx) = ix3 b (⟨512 * (t.val % 16) + r.val, by omega⟩ : Fin 8192) l := by
    blk_ext [idx t]
  rw [e2]
  refine ((left m c hX hW hB t b hb).w13 y r l hr.symm hl.symm).trans ?_
  exact (Cert.InRef.refK_at (m ((c : Thread nD τ).loc main_arg0)) (m ((c : Thread nD τ).loc main_arg1)) (m ((c : Thread nD τ).loc main_arg2)) hX hW hB b (⟨512 * (t.val % 16) + r.val, by omega⟩ : Fin 8192) l).symm

/-- and its values are the reference's. -/
theorem final14 : (dats m 0 c).arrAt 14 cfg0.N = Cert.InRef.vt (Cert.InRef.hidden (m ((c : Thread nD τ).loc main_arg0)) (m ((c : Thread nD τ).loc main_arg1))) := by
  refine (dats m 0 c).arrAt_eq_of_covers 14 _ (by decide +kernel) fun t _ y => ?_
  blk_simp
  rw [after0_14]
  have ht : t.val < 32 := t.isLt
  have hy0 : (y 0).val < 1 := (y 0).isLt
  have hy1 : (y 1).val < 8 := (y 1).isLt
  have hy2 : (y 2).val < 1 := (y 2).isLt
  have hy3 : (y 3).val < 80 := (y 3).isLt
  have hy4 : (y 4).val < 512 := (y 4).isLt
  obtain ⟨h, hh⟩ : ∃ h : Fin 8, h.val = (y 1).val := ⟨⟨_, hy1⟩, rfl⟩
  obtain ⟨r, hr⟩ : ∃ r : Fin 80, r.val = (y 3).val := ⟨⟨_, hy3⟩, rfl⟩
  obtain ⟨k, hk⟩ : ∃ k : Fin 512, k.val = (y 4).val := ⟨⟨_, hy4⟩, rfl⟩
  obtain ⟨b, hb⟩ : ∃ b : Fin 2, b.val = t.val / 16 := ⟨⟨_, by omega⟩, rfl⟩
  have e2 : ((win0_14.blk t).view.emb y : S2x8x16x80x512.Idx) = ix5 b h (⟨t.val % 16, by omega⟩ : Fin 16) r k := by
    blk_ext [idx t]
  rw [e2]
  refine ((left m c hX hW hB t b hb).w14 y h r k hh.symm hr.symm hk.symm).trans ?_
  refine Eq.trans ?_ (Cert.InRef.refV_at (m ((c : Thread nD τ).loc main_arg0)) (m ((c : Thread nD τ).loc main_arg1)) b h _ r k).symm
  exact congrArg (vpack _ _ b h r) (by show 512 * (t.val % 16) + k.val = t.val % 16 * 512 + k.val; omega)

end Cert.In

end
-- ==== Proof.InRefRun.lean ====
module

public import proofs.«01_k».proof.Proof.Gen.InReferenceIdeal.Run
public import proofs.«01_k».proof.Proof.InRef

@[expose] public section

set_option maxRecDepth 16384

noncomputable section

namespace Cert.InRef
open Cert.InReferenceIdeal Cert.InReferenceIdeal.Gen Idealize.ShloMosaic Idealize.ShloMosaic.TcCoe Idealize.SL.Sem

variable (m : (ℓ : Loc nD τ sig) → Buf (Elt Ideal) ℓ) (c : Dev nD)

/-- The reference's run ends with the pool, -/
theorem res_pool : Value.res_main_v50 m c = refPool (m ((c.tc : Thread nD τ).loc main_arg0)) (m ((c.tc : Thread nD τ).loc main_arg1))
    (m ((c.tc : Thread nD τ).loc main_arg3)) (m ((c.tc : Thread nD τ).loc main_arg4)) := by
  unfold Value.res_main_v50
  rfl

/-- the queries -/
theorem res_q : Value.res_main_v58 m c = refQ (m ((c.tc : Thread nD τ).loc main_arg0)) (m ((c.tc : Thread nD τ).loc main_arg1))
    (m ((c.tc : Thread nD τ).loc main_arg2)) := by
  unfold Value.res_main_v58
  rfl

/-- and the keys. -/
theorem res_k : Value.res_main_v64 m c = refK (m ((c.tc : Thread nD τ).loc main_arg0)) (m ((c.tc : Thread nD τ).loc main_arg1))
    (m ((c.tc : Thread nD τ).loc main_arg2)) := by
  unfold Value.res_main_v64
  rfl

end Cert.InRef

end
-- ==== Proof.AttnPre.lean ====
module

public import proofs.«01_k».proof.Proof.AttnMath
public import proofs.«01_k».proof.Pre_finite_and_ones

@[expose] public section

set_option maxRecDepth 16384

noncomputable section

namespace Cert.AttnPre
open Cert.Pre_finite_and_ones Idealize.ShloMosaic Idealize.ShloMosaic.TcCoe Idealize.SL.Sem Cert.AttnMath

/-- A conjunction of words is one only if each of them is. -/
theorem fold_and {ι : Type} (s : Finset ι) (p : ι → Bool) (h : s.fold IntOp.andi 1#1 (fun k => BitVec.ofBool (p k)) = 1#1) :
    ∀ k ∈ s, p k = true := by
  classical
  induction s using Finset.induction_on with
  | empty => intro k hk; exact absurd hk (Finset.notMem_empty k)
  | insert a s ha ih =>
    rw [Finset.fold_insert ha] at h
    have hand : ∀ x : Bool, ∀ y : BitVec 1, IntOp.andi (BitVec.ofBool x) y = 1#1 → x = true ∧ y = 1#1 := by decide
    obtain ⟨h1, h2⟩ := hand _ _ h
    intro k hk
    rcases Finset.mem_insert.mp hk with rfl | hk
    · exact h1
    · exact ih h2 k hk

theorem univ_and {ι : Type} {inst : Fintype ι} (p : ι → Bool)
    (h : (@Finset.univ ι inst).fold IntOp.andi 1#1 (fun k => BitVec.ofBool (p k)) = 1#1) (k : ι) : p k = true :=
  fold_and _ p h k (Finset.mem_univ k)

theorem and_one : ∀ x y : BitVec 1, IntOp.andi x y = 1#1 → x = 1#1 ∧ y = 1#1 := by decide

/-- The pattern of infinity. -/
theorem posInf : Ideal.ofBits FTy.f32 2139095040#32 = (⊤ : EReal) := by
  simp [Ideal.ofBits, Ideal.ieee]

/-- A value whose magnitude is below infinity is finite. -/
theorem fin_of_abs (x : EReal) (h : decide (max x (-x) < Ideal.ofBits FTy.f32 2139095040#32) = true) : Fin' x := by
  have h' := of_decide_eq_true h
  rw [posInf] at h'
  induction x with
  | bot => exact absurd h' (by simp)
  | top => exact absurd h' (by simp)
  | coe r => exact ⟨r, rfl⟩

variable [Cert.Pre_finite_and_ones.Facts]

/-- The precondition: finite queries, finite keys, a row of ones among the values. -/
theorem of_pre (X Y : FVec Ideal S2x8192x1024 .bf16) (Z : FVec Ideal S2x8x16x80x512 .bf16) (h : fn X Y Z = fun _ => 1#1) :
    (∀ j, Fin' (X j)) ∧ (∀ j, Fin' (Y j)) ∧ ∀ b h n k, Z (ix5 b h n 64 k) = 1 := by
  have h0 : fn X Y Z ix0 = 1#1 := congrFun h ix0
  pointwise [fn] at h0
  obtain ⟨h1, hz⟩ := and_one _ _ h0
  obtain ⟨hx, hy⟩ := and_one _ _ h1
  refine ⟨fun j => ?_, fun j => ?_, fun b h n k => ?_⟩
  · obtain ⟨a, b, c, rfl⟩ : ∃ a b c, j = ix3 a b c := ⟨_, _, _, eq_ix3 j⟩
    have h := univ_and _ hx (a, b, c)
    exact fin_of_abs _ h
  · obtain ⟨a, b, c, rfl⟩ : ∃ a b c, j = ix3 a b c := ⟨_, _, _, eq_ix3 j⟩
    have h := univ_and _ hy (a, b, c)
    exact fin_of_abs _ h
  · exact of_decide_eq_true (fold_and _ _ hz (ix4 b h n k) (Finset.mem_filter.mpr ⟨Finset.mem_univ _, funext fun a => a.elim0⟩))

end Cert.AttnPre

end
-- ==== Proof.InPre.lean ====
module

public import proofs.«01_k».proof.Proof.AttnPre
public import proofs.«01_k».proof.Pre_finite

@[expose] public section

set_option maxRecDepth 16384

noncomputable section

namespace Cert.InPre
open Cert.Pre_finite Idealize.ShloMosaic Idealize.ShloMosaic.TcCoe Idealize.SL.Sem Cert.AttnMath Cert.AttnPre

variable [Cert.Pre_finite.Facts]

/-- The precondition of the input projection: finite activations, weights and gate offsets. -/
theorem of_pre (X : FVec Ideal S2x8192x1024 .f32) (W : FVec Ideal S1024x2056 .f32) (B : FVec Ideal S8 .f32)
    (P : FVec Ideal S4x128x128 .f32) (S : FVec Ideal S512 .f32) (h : fn X W B P S = fun _ => 1#1) :
    (∀ j, Fin' (X j)) ∧ (∀ j, Fin' (W j)) ∧ ∀ j, Fin' (B j) := by
  have h0 : fn X W B P S ix0 = 1#1 := congrFun h ix0
  pointwise [fn] at h0
  obtain ⟨h1, hb⟩ := and_one _ _ h0
  obtain ⟨hx, hw⟩ := and_one _ _ h1
  refine ⟨fun j => ?_, fun j => ?_, fun j => ?_⟩
  · obtain ⟨a, b, c, rfl⟩ : ∃ a b c, j = ix3 a b c := ⟨_, _, _, eq_ix3 j⟩
    exact fin_of_abs _ (univ_and _ hx (a, b, c))
  · obtain ⟨a, b, rfl⟩ : ∃ a b, j = ix2 a b := ⟨_, _, eq_ix2 j⟩
    exact fin_of_abs _ (univ_and _ hw (a, b))
  · obtain ⟨a, rfl⟩ : ∃ a, j = ix1 a := ⟨_, eq_ix1 j⟩
    exact fin_of_abs _ (univ_and _ hb a)

end Cert.InPre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.AttnValue
public import proofs.«01_k».proof.Proof.PostValue
public import proofs.«01_k».proof.Proof.InValue
public import proofs.«01_k».proof.Proof.InRefRun
public import proofs.«01_k».proof.Proof.InPre
public import proofs.«01_k».proof.Proof.AttnPre
public import proofs.«01_k».proof.Proof.Gen.Pre_finite_and_ones
public import proofs.«01_k».proof.Proof.Gen.PostKernel
public import proofs.«01_k».proof.Proof.Gen.PostKernel.Skeleton
public import proofs.«01_k».proof.Proof.Gen.PostKernel.Launch
public import proofs.«01_k».proof.Proof.Gen.PostKernel.Points
public import proofs.«01_k».proof.Proof.Gen.PostKernel.Frame
public import proofs.«01_k».proof.Proof.Gen.PostKernelIdeal
public import proofs.«01_k».proof.Proof.Gen.PostKernelIdeal.Skeleton
public import proofs.«01_k».proof.Proof.Gen.PostKernelIdeal.Launch
public import proofs.«01_k».proof.Proof.Gen.PostKernelIdeal.Points
public import proofs.«01_k».proof.Proof.Gen.PostKernelIdeal.Frame
public import proofs.«01_k».proof.Proof.Gen.PostReferenceIdeal
public import proofs.«01_k».proof.Proof.Gen.PostReferenceIdeal.Run
public import proofs.«01_k».proof.Proof.Gen.PostKernelIdeal.Value
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.InKernelIdeal.Value
public import proofs.«01_k».proof.Proof.Gen.Pre_finite
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference runs, leaves its arguments alone and every counter at zero. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := by
  run_from Cert.ReferenceIdeal.Value.run (F := Ideal) m ρ
  · exact fun c => ⟨trivial, trivial, trivial⟩
  · exact Idealize.ShloMosaic.sem_eq_zero_of_no_sems (by decide) r.2

/-- The kernel's attention and the reference's are equal. -/
theorem algebraic : Cert.algebraic_KernelIdeal_ReferenceIdeal_pre_finite_and_ones := by
  pair_intro
  · run_from Cert.KernelIdeal.Value.run_blocks m g
  · run_from Cert.ReferenceIdeal.Value.run m' g'
    rw [Cert.AttnRef.res_eq]
    obtain ⟨h0, h1, h2⟩ := hagree c
    rw [h0, h1, h2]
    obtain ⟨hX, hY, hZ⟩ := Cert.AttnPre.of_pre _ _ _ (hpre c)
    exact (Cert.Attn.final m c hX hY hZ).symm

/-- The post reference runs, leaves its arguments alone and every counter at zero. -/
theorem frame_post_ref : Cert.quiescent_PostReferenceIdeal := by
  intro m ρ _
  run_from Cert.PostReferenceIdeal.Value.run (F := Ideal) m ρ
  · exact fun c => ⟨trivial, trivial, trivial, trivial, trivial, trivial, trivial, trivial, trivial, trivial⟩
  · exact Idealize.ShloMosaic.sem_eq_zero_of_no_sems (by decide) r.2

/-- The kernel's projection, norms and MLP and the reference's are equal. -/
theorem algebraic_post : Cert.algebraic_PostKernelIdeal_PostReferenceIdeal := by
  pair_intro
  · run_from Cert.PostKernelIdeal.Value.run_blocks m g
  · run_from Cert.PostReferenceIdeal.Value.run m' g'
    rw [Cert.PostRef.res_eq]
    obtain ⟨h0, h1, h2, h3, h4, h5, h6, h7, h8, h9⟩ := hagree c
    rw [h0, h1, h2, h3, h4, h5, h6, h7, h8, h9]
    exact (Cert.Post.final m c).symm

/-- The input projection's reference runs, leaves its arguments alone and every counter at zero. -/
theorem frame_in_ref (m : (ℓ : Loc Cert.InReferenceIdeal.nD Cert.InReferenceIdeal.τ Cert.InReferenceIdeal.sig) → Buf (Elt Ideal) ℓ)
    (ρ : Dev Cert.InReferenceIdeal.nD → PrngReg) :
    θ_run (Cert.InReferenceIdeal.defs (F := Ideal)) (onTc (τ := Cert.InReferenceIdeal.τ) (Cert.InReferenceIdeal.main (F := Ideal))) ⟨m, fun _ => 0, ρ⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0) := by
  run_from Cert.InReferenceIdeal.Value.run (F := Ideal) m ρ
  · exact fun c => ⟨trivial, trivial, trivial, trivial, trivial⟩
  · exact Idealize.ShloMosaic.sem_eq_zero_of_no_sems (by decide) r.2

set_option maxHeartbeats 2000000 in
/-- The kernel's pool, queries, keys and values and the reference's are equal. -/
theorem algebraic_in : Cert.algebraic_InKernelIdeal_InReferenceIdeal_pre_finite := by
  pair_intro
  · run_from Cert.InKernelIdeal.Value.run_blocks m g
  · run_from Cert.InReferenceIdeal.Value.run m' g'
    · obtain ⟨h0, h1, h2, h3, h4⟩ := hagree c
      obtain ⟨hX, hW, hB⟩ := Cert.InPre.of_pre _ _ _ _ _ (hpre c)
      rw [Cert.InRef.res_pool, h0, h1, h3, h4]
      exact (Cert.In.final11 m c hX hW hB).symm
    · obtain ⟨h0, h1, h2, h3, h4⟩ := hagree c
      obtain ⟨hX, hW, hB⟩ := Cert.InPre.of_pre _ _ _ _ _ (hpre c)
      rw [Cert.InRef.res_q, h0, h1, h2]
      exact (Cert.In.final12 m c hX hW hB).symm
    · obtain ⟨h0, h1, h2, h3, h4⟩ := hagree c
      obtain ⟨hX, hW, hB⟩ := Cert.InPre.of_pre _ _ _ _ _ (hpre c)
      rw [Cert.InRef.res_k, h0, h1, h2]
      exact (Cert.In.final13 m c hX hW hB).symm
    · obtain ⟨h0, h1, h2, h3, h4⟩ := hagree c
      obtain ⟨hX, hW, hB⟩ := Cert.InPre.of_pre _ _ _ _ _ (hpre c)
      exact (Cert.In.final14 m c hX hW hB).symm

/-- Everything the certificate claims. -/
theorem claim : Cert.Claim := ⟨Cert.Kernel.Gen.facts, Cert.KernelIdeal.Gen.facts, Cert.ReferenceIdeal.Gen.facts,
  Cert.PostKernel.Gen.facts, Cert.PostKernelIdeal.Gen.facts, Cert.PostReferenceIdeal.Gen.facts,
  Cert.InKernel.Gen.facts, Cert.InKernelIdeal.Gen.facts, Cert.InReferenceIdeal.Gen.facts, Cert.Pre_finite_and_ones.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ,
  fun m ρ _ => Cert.PostKernel.Gen.frame m ρ, fun m ρ _ => Cert.PostKernelIdeal.Gen.frame m ρ, frame_post_ref,
  fun m ρ _ => Cert.InKernel.Gen.frame m ρ, fun m ρ _ => Cert.InKernelIdeal.Gen.frame m ρ, fun m ρ _ => Cert.InKernelIdeal.Gen.frame m ρ,
  fun m ρ _ => frame_in_ref m ρ, fun m ρ _ => frame_in_ref m ρ,
  IdealRules.named_const.statement Cert.KernelIdeal.κ "mask" .f32 0xF149F2CA#32 (⊥ : EReal) rfl, algebraic,
  trivial, algebraic_post, trivial, algebraic_in⟩

end Cert.Proof

end
